-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 2048]⟩ ⟨3, ![4, 8192, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S8192x2048 : Shape := ⟨2, ![8192, 2048]⟩
abbrev S2048 : Shape := ⟨1, ![2048]⟩
abbrev S6x256x2048 : Shape := ⟨3, ![6, 256, 2048]⟩
abbrev S2x256x2048 : Shape := ⟨3, ![2, 256, 2048]⟩
abbrev S6 : Shape := ⟨1, ![6]⟩
abbrev S2 : Shape := ⟨1, ![2]⟩
abbrev S_ : Shape := ⟨0, ![]⟩
abbrev S1 : Shape := ⟨1, ![1]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S1x2048 : Shape := ⟨2, ![1, 2048]⟩

abbrev nBuf : Space → Nat
  | .hbm => 4
  | .vmem => 8
  | .smem => 0
  | _ => 0

abbrev bufTy : (tb : Table) → Fin (tcTables nBuf tb) → BufTy
  | .hbm, ⟨0, _⟩ => ⟨S1x8192x2048, .f32⟩
  | .hbm, ⟨1, _⟩ => ⟨S8192x2048, .f32⟩
  | .hbm, ⟨2, _⟩ => ⟨S2048, .f32⟩
  | .hbm, ⟨3, _⟩ => ⟨S8192x2048, .f32⟩
  | .local _ .vmem, ⟨0, _⟩ => ⟨S2048, .f32⟩
  | .local _ .vmem, ⟨1, _⟩ => ⟨S6x256x2048, .f32⟩
  | .local _ .vmem, ⟨2, _⟩ => ⟨S6x256x2048, .f32⟩
  | .local _ .vmem, ⟨3, _⟩ => ⟨S6x256x2048, .f32⟩
  | .local _ .vmem, ⟨4, _⟩ => ⟨S2x256x2048, .f32⟩
  | .local _ .vmem, ⟨5, _⟩ => ⟨S2x256x2048, .f32⟩
  | .local _ .vmem, ⟨6, _⟩ => ⟨S2x256x2048, .f32⟩
  | .local _ .vmem, ⟨7, _⟩ => ⟨S2x256x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v10 : BitVec 1 := Scalar.cmpi .slt v8 c3_i32
  let v16 : BitVec 32 := Scalar.extui v10
  let c0_i32_6 : BitVec 32 := 0#32
  let v17 : BitVec 1 := Scalar.cmpi .ne v16 c0_i32_6
  v17

def k0_dev1 (d0 : Dev nD) : Nat :=
  let c0_i32_39 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_38 : BitVec 32 := 8#32
  let v54 : BitVec 32 := Scalar.muli v2 c8_i32_38
  let v55 : BitVec 32 := Scalar.addi c0_i32_39 v54
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_40 : BitVec 32 := 4#32
  let v56 : BitVec 32 := Scalar.muli v5 c4_i32_40
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v11 : BitVec 32 := Scalar.addi v8 c1_i32_2
  let c3_i32_3 : BitVec 32 := 3#32
  let v12 : BitVec 32 := Scalar.minsi v11 c3_i32_3
  let c1_i32_41 : BitVec 32 := 1#32
  let v58 : BitVec 32 := Scalar.muli v12 c1_i32_41
  let v59 : BitVec 32 := Scalar.addi v57 v58
  v59.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let v18 : BitVec 32 := Scalar.extui v9
  let c0_i32_7 : BitVec 32 := 0#32
  let v19 : BitVec 1 := Scalar.cmpi .ne v18 c0_i32_7
  v19

def k0_dev2 (d0 : Dev nD) : Nat :=
  let c0_i32_39 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_38 : BitVec 32 := 8#32
  let v54 : BitVec 32 := Scalar.muli v2 c8_i32_38
  let v55 : BitVec 32 := Scalar.addi c0_i32_39 v54
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_40 : BitVec 32 := 4#32
  let v56 : BitVec 32 := Scalar.muli v5 c4_i32_40
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.subi v8 c1_i32_4
  let c0_i32_5 : BitVec 32 := 0#32
  let v14 : BitVec 32 := Scalar.maxsi v13 c0_i32_5
  let c1_i32_41 : BitVec 32 := 1#32
  let v58 : BitVec 32 := Scalar.muli v14 c1_i32_41
  let v59 : BitVec 32 := Scalar.addi v57 v58
  v59.toNat
def k0_off1 : Fin 1 → Nat :=
  let c0_i32_11 : BitVec 32 := 0#32
  let c6_i32_12 : BitVec 32 := 6#32
  let v24 : BitVec 32 := Scalar.remsi c0_i32_11 c6_i32_12
  ![v24.toNat]
def k0_off2 : Fin 3 → Nat :=
  let c0_i32_10 : BitVec 32 := 0#32
  let c6_i32 : BitVec 32 := 6#32
  let v23 : BitVec 32 := Scalar.remsi c0_i32_10 c6_i32
  let c0_i32_14 : BitVec 32 := 0#32
  let c0_i32_15 : BitVec 32 := 0#32
  ![v23.toNat, 0, 0]
@[reducible] def k0_t1_loop : Scf.Loop 32 :=
  let c0_i32_18 : BitVec 32 := 0#32
  let c35_i32 : BitVec 32 := 35#32
  let v31 : BitVec 32 := Scalar.addi c0_i32_18 c35_i32
  let c1_i32_19 : BitVec 32 := 1#32
  ⟨c0_i32_18, v31, c1_i32_19⟩
def k0_cond4 (k0_t1 : Fin k0_t1_loop.trips) : BitVec 1 :=
  let c0_i32_18 : BitVec 32 := 0#32
  let c1_i32_19 : BitVec 32 := 1#32
  let arg18 : BitVec 32 := Scf.iv c0_i32_18 c1_i32_19 k0_t1
  let c1_i32_37 : BitVec 32 := 1#32
  let v54 : BitVec 32 := Scalar.addi arg18 c1_i32_37
  let c31_i32_38 : BitVec 32 := 31#32
  let v55 : BitVec 1 := Scalar.cmpi .sle v54 c31_i32_38
  let v56 : BitVec 32 := Scalar.extui v55
  let c0_i32_39 : BitVec 32 := 0#32
  let v57 : BitVec 1 := Scalar.cmpi .ne v56 c0_i32_39
  v57

def k0_off3 (k0_t1 : Fin k0_t1_loop.trips) : Fin 1 → Nat :=
  let c0_i32_18 : BitVec 32 := 0#32
  let c1_i32_19 : BitVec 32 := 1#32
  let arg18 : BitVec 32 := Scf.iv c0_i32_18 c1_i32_19 k0_t1
  let c1_i32_60 : BitVec 32 := 1#32
  let v95 : BitVec 32 := Scalar.addi arg18 c1_i32_60
  let c6_i32_62 : BitVec 32 := 6#32
  let v98 : BitVec 32 := Scalar.remsi v95 c6_i32_62
  ![v98.toNat]
def k0_off4 (k0_t1 : Fin k0_t1_loop.trips) : Fin 3 → Nat :=
  let c0_i32_18 : BitVec 32 := 0#32
  let c1_i32_19 : BitVec 32 := 1#32
  let arg18 : BitVec 32 := Scf.iv c0_i32_18 c1_i32_19 k0_t1
  let c1_i32_60 : BitVec 32 := 1#32
  let v95 : BitVec 32 := Scalar.addi arg18 c1_i32_60
  let c6_i32_61 : BitVec 32 := 6#32
  let v97 : BitVec 32 := Scalar.remsi v95 c6_i32_61
  let c0_i32_64 : BitVec 32 := 0#32
  let c0_i32_65 : BitVec 32 := 0#32
  ![v97.toNat, 0, 0]
def k0_off5 (k0_t1 : Fin k0_t1_loop.trips) : Fin 3 → Nat :=
  let c0_i32_63 : BitVec 32 := 0#32
  let c0_i32_18 : BitVec 32 := 0#32
  let c1_i32_19 : BitVec 32 := 1#32
  let arg18 : BitVec 32 := Scf.iv c0_i32_18 c1_i32_19 k0_t1
  let c1_i32_60 : BitVec 32 := 1#32
  let v95 : BitVec 32 := Scalar.addi arg18 c1_i32_60
  let c256_i32 : BitVec 32 := 256#32
  let v96 : BitVec 32 := Scalar.muli v95 c256_i32
  let c0_i32_66 : BitVec 32 := 0#32
  ![0, v96.toNat, 0]
def k0_cond5 (k0_t1 : Fin k0_t1_loop.trips) : BitVec 1 :=
  let c0_i32_18 : BitVec 32 := 0#32
  let c1_i32_19 : BitVec 32 := 1#32
  let arg18 : BitVec 32 := Scf.iv c0_i32_18 c1_i32_19 k0_t1
  let c2_i32_40 : BitVec 32 := 2#32
  let v58 : BitVec 32 := Scalar.subi arg18 c2_i32_40
  let c0_i32_41 : BitVec 32 := 0#32
  let v59 : BitVec 1 := Scalar.cmpi .sge v58 c0_i32_41
  let c2_i32_42 : BitVec 32 := 2#32
  let v60 : BitVec 32 := Scalar.subi arg18 c2_i32_42
  let c31_i32_43 : BitVec 32 := 31#32
  let v61 : BitVec 1 := Scalar.cmpi .sle v60 c31_i32_43
  let v62 : BitVec 1 := Scalar.andi v59 v61
  let v63 : BitVec 32 := Scalar.extui v62
  let c0_i32_44 : BitVec 32 := 0#32
  let v64 : BitVec 1 := Scalar.cmpi .ne v63 c0_i32_44
  v64

def k0_off6 (k0_t1 : Fin k0_t1_loop.trips) : Fin 1 → Nat :=
  let c0_i32_18 : BitVec 32 := 0#32
  let c1_i32_19 : BitVec 32 := 1#32
  let arg18 : BitVec 32 := Scf.iv c0_i32_18 c1_i32_19 k0_t1
  let c2_i32_60 : BitVec 32 := 2#32
  let v95 : BitVec 32 := Scalar.subi arg18 c2_i32_60
  let c2_i32_62 : BitVec 32 := 2#32
  let v98 : BitVec 32 := Scalar.remsi v95 c2_i32_62
  ![v98.toNat]
def k0_off7 (k0_t1 : Fin k0_t1_loop.trips) : Fin 3 → Nat :=
  let c0_i32_18 : BitVec 32 := 0#32
  let c1_i32_19 : BitVec 32 := 1#32
  let arg18 : BitVec 32 := Scf.iv c0_i32_18 c1_i32_19 k0_t1
  let c2_i32_60 : BitVec 32 := 2#32
  let v95 : BitVec 32 := Scalar.subi arg18 c2_i32_60
  let c2_i32_61 : BitVec 32 := 2#32
  let v97 : BitVec 32 := Scalar.remsi v95 c2_i32_61
  let c0_i32_63 : BitVec 32 := 0#32
  let c0_i32_64 : BitVec 32 := 0#32
  ![v97.toNat, 0, 0]
def k0_off8 (k0_t1 : Fin k0_t1_loop.trips) : Fin 2 → Nat :=
  let c0_i32_18 : BitVec 32 := 0#32
  let c1_i32_19 : BitVec 32 := 1#32
  let arg18 : BitVec 32 := Scf.iv c0_i32_18 c1_i32_19 k0_t1
  let c2_i32_60 : BitVec 32 := 2#32
  let v95 : BitVec 32 := Scalar.subi arg18 c2_i32_60
  let c256_i32 : BitVec 32 := 256#32
  let v96 : BitVec 32 := Scalar.muli v95 c256_i32
  let c0_i32_65 : BitVec 32 := 0#32
  ![v96.toNat, 0]
def k0_cond6 (k0_t1 : Fin k0_t1_loop.trips) : BitVec 1 :=
  let c0_i32_18 : BitVec 32 := 0#32
  let c1_i32_19 : BitVec 32 := 1#32
  let arg18 : BitVec 32 := Scf.iv c0_i32_18 c1_i32_19 k0_t1
  let c31_i32_45 : BitVec 32 := 31#32
  let v65 : BitVec 1 := Scalar.cmpi .sle arg18 c31_i32_45
  let v66 : BitVec 32 := Scalar.extui v65
  let c0_i32_46 : BitVec 32 := 0#32
  let v67 : BitVec 1 := Scalar.cmpi .ne v66 c0_i32_46
  v67

def k0_off9 (k0_t1 : Fin k0_t1_loop.trips) : Fin 1 → Nat :=
  let c0_i32_18 : BitVec 32 := 0#32
  let c1_i32_19 : BitVec 32 := 1#32
  let arg18 : BitVec 32 := Scf.iv c0_i32_18 c1_i32_19 k0_t1
  let c6_i32_61 : BitVec 32 := 6#32
  let v97 : BitVec 32 := Scalar.remsi arg18 c6_i32_61
  ![v97.toNat]
def k0_off10 (k0_t1 : Fin k0_t1_loop.trips) : Fin 3 → Nat :=
  let c0_i32_18 : BitVec 32 := 0#32
  let c1_i32_19 : BitVec 32 := 1#32
  let arg18 : BitVec 32 := Scf.iv c0_i32_18 c1_i32_19 k0_t1
  let c6_i32_60 : BitVec 32 := 6#32
  let v96 : BitVec 32 := Scalar.remsi arg18 c6_i32_60
  let c0_i32_63 : BitVec 32 := 0#32
  let c0_i32_64 : BitVec 32 := 0#32
  ![v96.toNat, 0, 0]
def k0_off11 (k0_t1 : Fin k0_t1_loop.trips) : Fin 3 → Nat :=
  let c0_i32_62 : BitVec 32 := 0#32
  let c0_i32_18 : BitVec 32 := 0#32
  let c1_i32_19 : BitVec 32 := 1#32
  let arg18 : BitVec 32 := Scf.iv c0_i32_18 c1_i32_19 k0_t1
  let c256_i32 : BitVec 32 := 256#32
  let v95 : BitVec 32 := Scalar.muli arg18 c256_i32
  let c0_i32_65 : BitVec 32 := 0#32
  ![0, v95.toNat, 0]
def k0_cond7 (d0 : Dev nD) (k0_t1 : Fin k0_t1_loop.trips) : BitVec 1 :=
  let c0_i32_18 : BitVec 32 := 0#32
  let c1_i32_19 : BitVec 32 := 1#32
  let arg18 : BitVec 32 := Scf.iv c0_i32_18 c1_i32_19 k0_t1
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v68 : BitVec 32 := Scalar.subi arg18 v8
  let c0_i32_47 : BitVec 32 := 0#32
  let v69 : BitVec 1 := Scalar.cmpi .sge v68 c0_i32_47
  let c31_i32_48 : BitVec 32 := 31#32
  let v70 : BitVec 1 := Scalar.cmpi .sle v68 c31_i32_48
  let v71 : BitVec 1 := Scalar.andi v69 v70
  let c0_i32 : BitVec 32 := 0#32
  let v9 : BitVec 1 := Scalar.cmpi .sgt v8 c0_i32
  let v72 : BitVec 1 := Scalar.andi v71 v9
  let v73 : BitVec 32 := Scalar.extui v72
  let c0_i32_49 : BitVec 32 := 0#32
  let v74 : BitVec 1 := Scalar.cmpi .ne v73 c0_i32_49
  v74

def k0_off12 (d0 : Dev nD) (k0_t1 : Fin k0_t1_loop.trips) : Fin 1 → Nat :=
  let c0_i32_18 : BitVec 32 := 0#32
  let c1_i32_19 : BitVec 32 := 1#32
  let arg18 : BitVec 32 := Scf.iv c0_i32_18 c1_i32_19 k0_t1
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v68 : BitVec 32 := Scalar.subi arg18 v8
  let c6_i32_63 : BitVec 32 := 6#32
  let v98 : BitVec 32 := Scalar.remsi v68 c6_i32_63
  ![v98.toNat]
def k0_off13 (d0 : Dev nD) (k0_t1 : Fin k0_t1_loop.trips) : Fin 3 → Nat :=
  let c0_i32_18 : BitVec 32 := 0#32
  let c1_i32_19 : BitVec 32 := 1#32
  let arg18 : BitVec 32 := Scf.iv c0_i32_18 c1_i32_19 k0_t1
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v68 : BitVec 32 := Scalar.subi arg18 v8
  let c6_i32_61 : BitVec 32 := 6#32
  let v96 : BitVec 32 := Scalar.remsi v68 c6_i32_61
  let c0_i32_68 : BitVec 32 := 0#32
  let c0_i32_69 : BitVec 32 := 0#32
  ![v96.toNat, 0, 0]
def k0_off14 (d0 : Dev nD) (k0_t1 : Fin k0_t1_loop.trips) : Fin 3 → Nat :=
  let c0_i32_18 : BitVec 32 := 0#32
  let c1_i32_19 : BitVec 32 := 1#32
  let arg18 : BitVec 32 := Scf.iv c0_i32_18 c1_i32_19 k0_t1
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v68 : BitVec 32 := Scalar.subi arg18 v8
  let c2_i32_60 : BitVec 32 := 2#32
  let v95 : BitVec 32 := Scalar.remsi v68 c2_i32_60
  let c0_i32_70 : BitVec 32 := 0#32
  let c0_i32_71 : BitVec 32 := 0#32
  ![v95.toNat, 0, 0]
def k0_cond8 (d0 : Dev nD) (k0_t1 : Fin k0_t1_loop.trips) : BitVec 1 :=
  let c0_i32_18 : BitVec 32 := 0#32
  let c1_i32_19 : BitVec 32 := 1#32
  let arg18 : BitVec 32 := Scf.iv c0_i32_18 c1_i32_19 k0_t1
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v68 : BitVec 32 := Scalar.subi arg18 v8
  let c0_i32_47 : BitVec 32 := 0#32
  let v69 : BitVec 1 := Scalar.cmpi .sge v68 c0_i32_47
  let c31_i32_48 : BitVec 32 := 31#32
  let v70 : BitVec 1 := Scalar.cmpi .sle v68 c31_i32_48
  let v71 : BitVec 1 := Scalar.andi v69 v70
  let c3_i32 : BitVec 32 := 3#32
  let v10 : BitVec 1 := Scalar.cmpi .slt v8 c3_i32
  let v75 : BitVec 1 := Scalar.andi v71 v10
  let v76 : BitVec 32 := Scalar.extui v75
  let c0_i32_50 : BitVec 32 := 0#32
  let v77 : BitVec 1 := Scalar.cmpi .ne v76 c0_i32_50
  v77

def k0_cond9 (d0 : Dev nD) (k0_t1 : Fin k0_t1_loop.trips) : BitVec 1 :=
  let c0_i32_18 : BitVec 32 := 0#32
  let c1_i32_19 : BitVec 32 := 1#32
  let arg18 : BitVec 32 := Scf.iv c0_i32_18 c1_i32_19 k0_t1
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v68 : BitVec 32 := Scalar.subi arg18 v8
  let c2_i32_60 : BitVec 32 := 2#32
  let v95 : BitVec 1 := Scalar.cmpi .sge v68 c2_i32_60
  let v96 : BitVec 32 := Scalar.extui v95
  let c0_i32_61 : BitVec 32 := 0#32
  let v97 : BitVec 1 := Scalar.cmpi .ne v96 c0_i32_61
  v97

def k0_off15 (d0 : Dev nD) (k0_t1 : Fin k0_t1_loop.trips) : Fin 1 → Nat :=
  let c0_i32_18 : BitVec 32 := 0#32
  let c1_i32_19 : BitVec 32 := 1#32
  let arg18 : BitVec 32 := Scf.iv c0_i32_18 c1_i32_19 k0_t1
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v68 : BitVec 32 := Scalar.subi arg18 v8
  let c2_i32_82 : BitVec 32 := 2#32
  let v132 : BitVec 32 := Scalar.subi v68 c2_i32_82
  let c2_i32_85 : BitVec 32 := 2#32
  let v135 : BitVec 32 := Scalar.remsi v132 c2_i32_85
  ![v135.toNat]
def k0_off16 (d0 : Dev nD) (k0_t1 : Fin k0_t1_loop.trips) : Fin 3 → Nat :=
  let c0_i32_18 : BitVec 32 := 0#32
  let c1_i32_19 : BitVec 32 := 1#32
  let arg18 : BitVec 32 := Scf.iv c0_i32_18 c1_i32_19 k0_t1
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v68 : BitVec 32 := Scalar.subi arg18 v8
  let c2_i32_82 : BitVec 32 := 2#32
  let v132 : BitVec 32 := Scalar.subi v68 c2_i32_82
  let c2_i32_83 : BitVec 32 := 2#32
  let v133 : BitVec 32 := Scalar.remsi v132 c2_i32_83
  let c0_i32_88 : BitVec 32 := 0#32
  let c0_i32_89 : BitVec 32 := 0#32
  ![v133.toNat, 0, 0]
def k0_off17 (d0 : Dev nD) (k0_t1 : Fin k0_t1_loop.trips) : Fin 3 → Nat :=
  let c0_i32_18 : BitVec 32 := 0#32
  let c1_i32_19 : BitVec 32 := 1#32
  let arg18 : BitVec 32 := Scf.iv c0_i32_18 c1_i32_19 k0_t1
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v68 : BitVec 32 := Scalar.subi arg18 v8
  let c2_i32_82 : BitVec 32 := 2#32
  let v132 : BitVec 32 := Scalar.subi v68 c2_i32_82
  let c6_i32_84 : BitVec 32 := 6#32
  let v134 : BitVec 32 := Scalar.remsi v132 c6_i32_84
  let c0_i32_90 : BitVec 32 := 0#32
  let c0_i32_91 : BitVec 32 := 0#32
  ![v134.toNat, 0, 0]
def k0_off18 (d0 : Dev nD) (k0_t1 : Fin k0_t1_loop.trips) : Fin 3 → Nat :=
  let c0_i32_18 : BitVec 32 := 0#32
  let c1_i32_19 : BitVec 32 := 1#32
  let arg18 : BitVec 32 := Scf.iv c0_i32_18 c1_i32_19 k0_t1
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v68 : BitVec 32 := Scalar.subi arg18 v8
  let c6_i32_62 : BitVec 32 := 6#32
  let v98 : BitVec 32 := Scalar.remsi v68 c6_i32_62
  let v99 : Index := Scalar.indexCast v98
  let c0 : Index := 0#32
  let c0_63 : Index := 0#32
  ![v99.toNat, 0, 0]
def k0_off19 (d0 : Dev nD) (k0_t1 : Fin k0_t1_loop.trips) : Fin 3 → Nat :=
  let c0_i32_18 : BitVec 32 := 0#32
  let c1_i32_19 : BitVec 32 := 1#32
  let arg18 : BitVec 32 := Scf.iv c0_i32_18 c1_i32_19 k0_t1
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v68 : BitVec 32 := Scalar.subi arg18 v8
  let c2_i32_67 : BitVec 32 := 2#32
  let v109 : BitVec 32 := Scalar.remsi v68 c2_i32_67
  let v110 : Index := Scalar.indexCast v109
  let c0_68 : Index := 0#32
  let c0_69 : Index := 0#32
  ![v110.toNat, 0, 0]
def k0_off20 (d0 : Dev nD) (k0_t1 : Fin k0_t1_loop.trips) : Fin 1 → Nat :=
  let c0_i32_18 : BitVec 32 := 0#32
  let c1_i32_19 : BitVec 32 := 1#32
  let arg18 : BitVec 32 := Scf.iv c0_i32_18 c1_i32_19 k0_t1
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v68 : BitVec 32 := Scalar.subi arg18 v8
  let c2_i32_72 : BitVec 32 := 2#32
  let v116 : BitVec 32 := Scalar.remsi v68 c2_i32_72
  ![v116.toNat]
def k0_off21 (d0 : Dev nD) (k0_t1 : Fin k0_t1_loop.trips) : Fin 1 → Nat :=
  let c0_i32_18 : BitVec 32 := 0#32
  let c1_i32_19 : BitVec 32 := 1#32
  let arg18 : BitVec 32 := Scf.iv c0_i32_18 c1_i32_19 k0_t1
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v68 : BitVec 32 := Scalar.subi arg18 v8
  let c6_i32_73 : BitVec 32 := 6#32
  let v117 : BitVec 32 := Scalar.remsi v68 c6_i32_73
  ![v117.toNat]
def k0_off22 (d0 : Dev nD) (k0_t1 : Fin k0_t1_loop.trips) : Fin 3 → Nat :=
  let c0_i32_18 : BitVec 32 := 0#32
  let c1_i32_19 : BitVec 32 := 1#32
  let arg18 : BitVec 32 := Scf.iv c0_i32_18 c1_i32_19 k0_t1
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v68 : BitVec 32 := Scalar.subi arg18 v8
  let c6_i32_71 : BitVec 32 := 6#32
  let v115 : BitVec 32 := Scalar.remsi v68 c6_i32_71
  let c0_i32_78 : BitVec 32 := 0#32
  let c0_i32_79 : BitVec 32 := 0#32
  ![v115.toNat, 0, 0]
def k0_off23 (d0 : Dev nD) (k0_t1 : Fin k0_t1_loop.trips) : Fin 3 → Nat :=
  let c0_i32_18 : BitVec 32 := 0#32
  let c1_i32_19 : BitVec 32 := 1#32
  let arg18 : BitVec 32 := Scf.iv c0_i32_18 c1_i32_19 k0_t1
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v68 : BitVec 32 := Scalar.subi arg18 v8
  let c2_i32_70 : BitVec 32 := 2#32
  let v114 : BitVec 32 := Scalar.remsi v68 c2_i32_70
  let c0_i32_80 : BitVec 32 := 0#32
  let c0_i32_81 : BitVec 32 := 0#32
  ![v114.toNat, 0, 0]
def k0_dev3 (d0 : Dev nD) : Nat :=
  let c0_i32_75 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_74 : BitVec 32 := 8#32
  let v118 : BitVec 32 := Scalar.muli v2 c8_i32_74
  let v119 : BitVec 32 := Scalar.addi c0_i32_75 v118
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_76 : BitVec 32 := 4#32
  let v120 : BitVec 32 := Scalar.muli v5 c4_i32_76
  let v121 : BitVec 32 := Scalar.addi v119 v120
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v11 : BitVec 32 := Scalar.addi v8 c1_i32_2
  let c3_i32_3 : BitVec 32 := 3#32
  let v12 : BitVec 32 := Scalar.minsi v11 c3_i32_3
  let c1_i32_77 : BitVec 32 := 1#32
  let v122 : BitVec 32 := Scalar.muli v12 c1_i32_77
  let v123 : BitVec 32 := Scalar.addi v121 v122
  v123.toNat
def k0_cond10 (d0 : Dev nD) (k0_t1 : Fin k0_t1_loop.trips) : BitVec 1 :=
  let c0_i32_18 : BitVec 32 := 0#32
  let c1_i32_19 : BitVec 32 := 1#32
  let arg18 : BitVec 32 := Scf.iv c0_i32_18 c1_i32_19 k0_t1
  let c3_i32_51 : BitVec 32 := 3#32
  let v78 : BitVec 32 := Scalar.subi arg18 c3_i32_51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v79 : BitVec 32 := Scalar.addi v78 v8
  let c0_i32_52 : BitVec 32 := 0#32
  let v80 : BitVec 1 := Scalar.cmpi .sge v79 c0_i32_52
  let c31_i32_53 : BitVec 32 := 31#32
  let v81 : BitVec 1 := Scalar.cmpi .sle v79 c31_i32_53
  let v82 : BitVec 1 := Scalar.andi v80 v81
  let c3_i32 : BitVec 32 := 3#32
  let v10 : BitVec 1 := Scalar.cmpi .slt v8 c3_i32
  let v83 : BitVec 1 := Scalar.andi v82 v10
  let v84 : BitVec 32 := Scalar.extui v83
  let c0_i32_54 : BitVec 32 := 0#32
  let v85 : BitVec 1 := Scalar.cmpi .ne v84 c0_i32_54
  v85

def k0_off24 (d0 : Dev nD) (k0_t1 : Fin k0_t1_loop.trips) : Fin 1 → Nat :=
  let c0_i32_18 : BitVec 32 := 0#32
  let c1_i32_19 : BitVec 32 := 1#32
  let arg18 : BitVec 32 := Scf.iv c0_i32_18 c1_i32_19 k0_t1
  let c3_i32_51 : BitVec 32 := 3#32
  let v78 : BitVec 32 := Scalar.subi arg18 c3_i32_51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v79 : BitVec 32 := Scalar.addi v78 v8
  let c6_i32_63 : BitVec 32 := 6#32
  let v98 : BitVec 32 := Scalar.remsi v79 c6_i32_63
  ![v98.toNat]
def k0_off25 (d0 : Dev nD) (k0_t1 : Fin k0_t1_loop.trips) : Fin 3 → Nat :=
  let c0_i32_18 : BitVec 32 := 0#32
  let c1_i32_19 : BitVec 32 := 1#32
  let arg18 : BitVec 32 := Scf.iv c0_i32_18 c1_i32_19 k0_t1
  let c3_i32_51 : BitVec 32 := 3#32
  let v78 : BitVec 32 := Scalar.subi arg18 c3_i32_51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v79 : BitVec 32 := Scalar.addi v78 v8
  let c6_i32_61 : BitVec 32 := 6#32
  let v96 : BitVec 32 := Scalar.remsi v79 c6_i32_61
  let c0_i32_68 : BitVec 32 := 0#32
  let c0_i32_69 : BitVec 32 := 0#32
  ![v96.toNat, 0, 0]
def k0_off26 (d0 : Dev nD) (k0_t1 : Fin k0_t1_loop.trips) : Fin 3 → Nat :=
  let c0_i32_18 : BitVec 32 := 0#32
  let c1_i32_19 : BitVec 32 := 1#32
  let arg18 : BitVec 32 := Scf.iv c0_i32_18 c1_i32_19 k0_t1
  let c3_i32_51 : BitVec 32 := 3#32
  let v78 : BitVec 32 := Scalar.subi arg18 c3_i32_51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v79 : BitVec 32 := Scalar.addi v78 v8
  let c2_i32_60 : BitVec 32 := 2#32
  let v95 : BitVec 32 := Scalar.remsi v79 c2_i32_60
  let c0_i32_70 : BitVec 32 := 0#32
  let c0_i32_71 : BitVec 32 := 0#32
  ![v95.toNat, 0, 0]
def k0_cond11 (d0 : Dev nD) (k0_t1 : Fin k0_t1_loop.trips) : BitVec 1 :=
  let c0_i32_18 : BitVec 32 := 0#32
  let c1_i32_19 : BitVec 32 := 1#32
  let arg18 : BitVec 32 := Scf.iv c0_i32_18 c1_i32_19 k0_t1
  let c3_i32_51 : BitVec 32 := 3#32
  let v78 : BitVec 32 := Scalar.subi arg18 c3_i32_51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v79 : BitVec 32 := Scalar.addi v78 v8
  let c0_i32_52 : BitVec 32 := 0#32
  let v80 : BitVec 1 := Scalar.cmpi .sge v79 c0_i32_52
  let c31_i32_53 : BitVec 32 := 31#32
  let v81 : BitVec 1 := Scalar.cmpi .sle v79 c31_i32_53
  let v82 : BitVec 1 := Scalar.andi v80 v81
  let c0_i32 : BitVec 32 := 0#32
  let v9 : BitVec 1 := Scalar.cmpi .sgt v8 c0_i32
  let v86 : BitVec 1 := Scalar.andi v82 v9
  let v87 : BitVec 32 := Scalar.extui v86
  let c0_i32_55 : BitVec 32 := 0#32
  let v88 : BitVec 1 := Scalar.cmpi .ne v87 c0_i32_55
  v88

def k0_cond12 (d0 : Dev nD) (k0_t1 : Fin k0_t1_loop.trips) : BitVec 1 :=
  let c0_i32_18 : BitVec 32 := 0#32
  let c1_i32_19 : BitVec 32 := 1#32
  let arg18 : BitVec 32 := Scf.iv c0_i32_18 c1_i32_19 k0_t1
  let c3_i32_51 : BitVec 32 := 3#32
  let v78 : BitVec 32 := Scalar.subi arg18 c3_i32_51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v79 : BitVec 32 := Scalar.addi v78 v8
  let c2_i32_60 : BitVec 32 := 2#32
  let v95 : BitVec 1 := Scalar.cmpi .sge v79 c2_i32_60
  let v96 : BitVec 32 := Scalar.extui v95
  let c0_i32_61 : BitVec 32 := 0#32
  let v97 : BitVec 1 := Scalar.cmpi .ne v96 c0_i32_61
  v97

def k0_off27 (d0 : Dev nD) (k0_t1 : Fin k0_t1_loop.trips) : Fin 1 → Nat :=
  let c0_i32_18 : BitVec 32 := 0#32
  let c1_i32_19 : BitVec 32 := 1#32
  let arg18 : BitVec 32 := Scf.iv c0_i32_18 c1_i32_19 k0_t1
  let c3_i32_51 : BitVec 32 := 3#32
  let v78 : BitVec 32 := Scalar.subi arg18 c3_i32_51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v79 : BitVec 32 := Scalar.addi v78 v8
  let c2_i32_82 : BitVec 32 := 2#32
  let v132 : BitVec 32 := Scalar.subi v79 c2_i32_82
  let c2_i32_85 : BitVec 32 := 2#32
  let v135 : BitVec 32 := Scalar.remsi v132 c2_i32_85
  ![v135.toNat]
def k0_off28 (d0 : Dev nD) (k0_t1 : Fin k0_t1_loop.trips) : Fin 3 → Nat :=
  let c0_i32_18 : BitVec 32 := 0#32
  let c1_i32_19 : BitVec 32 := 1#32
  let arg18 : BitVec 32 := Scf.iv c0_i32_18 c1_i32_19 k0_t1
  let c3_i32_51 : BitVec 32 := 3#32
  let v78 : BitVec 32 := Scalar.subi arg18 c3_i32_51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v79 : BitVec 32 := Scalar.addi v78 v8
  let c2_i32_82 : BitVec 32 := 2#32
  let v132 : BitVec 32 := Scalar.subi v79 c2_i32_82
  let c2_i32_83 : BitVec 32 := 2#32
  let v133 : BitVec 32 := Scalar.remsi v132 c2_i32_83
  let c0_i32_88 : BitVec 32 := 0#32
  let c0_i32_89 : BitVec 32 := 0#32
  ![v133.toNat, 0, 0]
def k0_off29 (d0 : Dev nD) (k0_t1 : Fin k0_t1_loop.trips) : Fin 3 → Nat :=
  let c0_i32_18 : BitVec 32 := 0#32
  let c1_i32_19 : BitVec 32 := 1#32
  let arg18 : BitVec 32 := Scf.iv c0_i32_18 c1_i32_19 k0_t1
  let c3_i32_51 : BitVec 32 := 3#32
  let v78 : BitVec 32 := Scalar.subi arg18 c3_i32_51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v79 : BitVec 32 := Scalar.addi v78 v8
  let c2_i32_82 : BitVec 32 := 2#32
  let v132 : BitVec 32 := Scalar.subi v79 c2_i32_82
  let c6_i32_84 : BitVec 32 := 6#32
  let v134 : BitVec 32 := Scalar.remsi v132 c6_i32_84
  let c0_i32_90 : BitVec 32 := 0#32
  let c0_i32_91 : BitVec 32 := 0#32
  ![v134.toNat, 0, 0]
def k0_off30 (d0 : Dev nD) (k0_t1 : Fin k0_t1_loop.trips) : Fin 3 → Nat :=
  let c0_i32_18 : BitVec 32 := 0#32
  let c1_i32_19 : BitVec 32 := 1#32
  let arg18 : BitVec 32 := Scf.iv c0_i32_18 c1_i32_19 k0_t1
  let c3_i32_51 : BitVec 32 := 3#32
  let v78 : BitVec 32 := Scalar.subi arg18 c3_i32_51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v79 : BitVec 32 := Scalar.addi v78 v8
  let c6_i32_62 : BitVec 32 := 6#32
  let v98 : BitVec 32 := Scalar.remsi v79 c6_i32_62
  let v99 : Index := Scalar.indexCast v98
  let c0 : Index := 0#32
  let c0_63 : Index := 0#32
  ![v99.toNat, 0, 0]
def k0_off31 (d0 : Dev nD) (k0_t1 : Fin k0_t1_loop.trips) : Fin 3 → Nat :=
  let c0_i32_18 : BitVec 32 := 0#32
  let c1_i32_19 : BitVec 32 := 1#32
  let arg18 : BitVec 32 := Scf.iv c0_i32_18 c1_i32_19 k0_t1
  let c3_i32_51 : BitVec 32 := 3#32
  let v78 : BitVec 32 := Scalar.subi arg18 c3_i32_51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v79 : BitVec 32 := Scalar.addi v78 v8
  let c2_i32_67 : BitVec 32 := 2#32
  let v109 : BitVec 32 := Scalar.remsi v79 c2_i32_67
  let v110 : Index := Scalar.indexCast v109
  let c0_68 : Index := 0#32
  let c0_69 : Index := 0#32
  ![v110.toNat, 0, 0]
def k0_off32 (d0 : Dev nD) (k0_t1 : Fin k0_t1_loop.trips) : Fin 1 → Nat :=
  let c0_i32_18 : BitVec 32 := 0#32
  let c1_i32_19 : BitVec 32 := 1#32
  let arg18 : BitVec 32 := Scf.iv c0_i32_18 c1_i32_19 k0_t1
  let c3_i32_51 : BitVec 32 := 3#32
  let v78 : BitVec 32 := Scalar.subi arg18 c3_i32_51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v79 : BitVec 32 := Scalar.addi v78 v8
  let c2_i32_72 : BitVec 32 := 2#32
  let v116 : BitVec 32 := Scalar.remsi v79 c2_i32_72
  ![v116.toNat]
def k0_off33 (d0 : Dev nD) (k0_t1 : Fin k0_t1_loop.trips) : Fin 1 → Nat :=
  let c0_i32_18 : BitVec 32 := 0#32
  let c1_i32_19 : BitVec 32 := 1#32
  let arg18 : BitVec 32 := Scf.iv c0_i32_18 c1_i32_19 k0_t1
  let c3_i32_51 : BitVec 32 := 3#32
  let v78 : BitVec 32 := Scalar.subi arg18 c3_i32_51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v79 : BitVec 32 := Scalar.addi v78 v8
  let c6_i32_73 : BitVec 32 := 6#32
  let v117 : BitVec 32 := Scalar.remsi v79 c6_i32_73
  ![v117.toNat]
def k0_off34 (d0 : Dev nD) (k0_t1 : Fin k0_t1_loop.trips) : Fin 3 → Nat :=
  let c0_i32_18 : BitVec 32 := 0#32
  let c1_i32_19 : BitVec 32 := 1#32
  let arg18 : BitVec 32 := Scf.iv c0_i32_18 c1_i32_19 k0_t1
  let c3_i32_51 : BitVec 32 := 3#32
  let v78 : BitVec 32 := Scalar.subi arg18 c3_i32_51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v79 : BitVec 32 := Scalar.addi v78 v8
  let c6_i32_71 : BitVec 32 := 6#32
  let v115 : BitVec 32 := Scalar.remsi v79 c6_i32_71
  let c0_i32_78 : BitVec 32 := 0#32
  let c0_i32_79 : BitVec 32 := 0#32
  ![v115.toNat, 0, 0]
def k0_off35 (d0 : Dev nD) (k0_t1 : Fin k0_t1_loop.trips) : Fin 3 → Nat :=
  let c0_i32_18 : BitVec 32 := 0#32
  let c1_i32_19 : BitVec 32 := 1#32
  let arg18 : BitVec 32 := Scf.iv c0_i32_18 c1_i32_19 k0_t1
  let c3_i32_51 : BitVec 32 := 3#32
  let v78 : BitVec 32 := Scalar.subi arg18 c3_i32_51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v79 : BitVec 32 := Scalar.addi v78 v8
  let c2_i32_70 : BitVec 32 := 2#32
  let v114 : BitVec 32 := Scalar.remsi v79 c2_i32_70
  let c0_i32_80 : BitVec 32 := 0#32
  let c0_i32_81 : BitVec 32 := 0#32
  ![v114.toNat, 0, 0]
def k0_dev4 (d0 : Dev nD) : Nat :=
  let c0_i32_75 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_74 : BitVec 32 := 8#32
  let v118 : BitVec 32 := Scalar.muli v2 c8_i32_74
  let v119 : BitVec 32 := Scalar.addi c0_i32_75 v118
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_76 : BitVec 32 := 4#32
  let v120 : BitVec 32 := Scalar.muli v5 c4_i32_76
  let v121 : BitVec 32 := Scalar.addi v119 v120
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.subi v8 c1_i32_4
  let c0_i32_5 : BitVec 32 := 0#32
  let v14 : BitVec 32 := Scalar.maxsi v13 c0_i32_5
  let c1_i32_77 : BitVec 32 := 1#32
  let v122 : BitVec 32 := Scalar.muli v14 c1_i32_77
  let v123 : BitVec 32 := Scalar.addi v121 v122
  v123.toNat
def k0_cond13 (k0_t1 : Fin k0_t1_loop.trips) : BitVec 1 :=
  let c0_i32_18 : BitVec 32 := 0#32
  let c1_i32_19 : BitVec 32 := 1#32
  let arg18 : BitVec 32 := Scf.iv c0_i32_18 c1_i32_19 k0_t1
  let c3_i32_56 : BitVec 32 := 3#32
  let v89 : BitVec 32 := Scalar.subi arg18 c3_i32_56
  let c0_i32_57 : BitVec 32 := 0#32
  let v90 : BitVec 1 := Scalar.cmpi .sge v89 c0_i32_57
  let c31_i32_58 : BitVec 32 := 31#32
  let v91 : BitVec 1 := Scalar.cmpi .sle v89 c31_i32_58
  let v92 : BitVec 1 := Scalar.andi v90 v91
  let v93 : BitVec 32 := Scalar.extui v92
  let c0_i32_59 : BitVec 32 := 0#32
  let v94 : BitVec 1 := Scalar.cmpi .ne v93 c0_i32_59
  v94

def k0_off36 (k0_t1 : Fin k0_t1_loop.trips) : Fin 1 → Nat :=
  let c0_i32_18 : BitVec 32 := 0#32
  let c1_i32_19 : BitVec 32 := 1#32
  let arg18 : BitVec 32 := Scf.iv c0_i32_18 c1_i32_19 k0_t1
  let c3_i32_56 : BitVec 32 := 3#32
  let v89 : BitVec 32 := Scalar.subi arg18 c3_i32_56
  let c2_i32_61 : BitVec 32 := 2#32
  let v97 : BitVec 32 := Scalar.remsi v89 c2_i32_61
  ![v97.toNat]
def k0_off37 (k0_t1 : Fin k0_t1_loop.trips) : Fin 3 → Nat :=
  let c0_i32_18 : BitVec 32 := 0#32
  let c1_i32_19 : BitVec 32 := 1#32
  let arg18 : BitVec 32 := Scf.iv c0_i32_18 c1_i32_19 k0_t1
  let c3_i32_56 : BitVec 32 := 3#32
  let v89 : BitVec 32 := Scalar.subi arg18 c3_i32_56
  let c2_i32_60 : BitVec 32 := 2#32
  let v96 : BitVec 32 := Scalar.remsi v89 c2_i32_60
  let c0_i32_62 : BitVec 32 := 0#32
  let c0_i32_63 : BitVec 32 := 0#32
  ![v96.toNat, 0, 0]
def k0_off38 (k0_t1 : Fin k0_t1_loop.trips) : Fin 2 → Nat :=
  let c0_i32_18 : BitVec 32 := 0#32
  let c1_i32_19 : BitVec 32 := 1#32
  let arg18 : BitVec 32 := Scf.iv c0_i32_18 c1_i32_19 k0_t1
  let c3_i32_56 : BitVec 32 := 3#32
  let v89 : BitVec 32 := Scalar.subi arg18 c3_i32_56
  let c256_i32 : BitVec 32 := 256#32
  let v95 : BitVec 32 := Scalar.muli v89 c256_i32
  let c0_i32_64 : BitVec 32 := 0#32
  ![v95.toNat, 0]
def k0_off39 (k0_t1 : Fin k0_t1_loop.trips) : Fin 3 → Nat :=
  let c0_i32_18 : BitVec 32 := 0#32
  let c1_i32_19 : BitVec 32 := 1#32
  let arg18 : BitVec 32 := Scf.iv c0_i32_18 c1_i32_19 k0_t1
  let c3_i32_56 : BitVec 32 := 3#32
  let v89 : BitVec 32 := Scalar.subi arg18 c3_i32_56
  let c6_i32_65 : BitVec 32 := 6#32
  let v103 : BitVec 32 := Scalar.remsi v89 c6_i32_65
  let v104 : Index := Scalar.indexCast v103
  let c0 : Index := 0#32
  let c0_66 : Index := 0#32
  ![v104.toNat, 0, 0]
def k0_off40 (k0_t1 : Fin k0_t1_loop.trips) : Fin 3 → Nat :=
  let c0_i32_18 : BitVec 32 := 0#32
  let c1_i32_19 : BitVec 32 := 1#32
  let arg18 : BitVec 32 := Scf.iv c0_i32_18 c1_i32_19 k0_t1
  let c3_i32_56 : BitVec 32 := 3#32
  let v89 : BitVec 32 := Scalar.subi arg18 c3_i32_56
  let c2_i32_67 : BitVec 32 := 2#32
  let v107 : BitVec 32 := Scalar.remsi v89 c2_i32_67
  let v108 : Index := Scalar.indexCast v107
  let c0_68 : Index := 0#32
  let c0_69 : Index := 0#32
  ![v108.toNat, 0, 0]
def k0_cond14 (k0_t1 : Fin k0_t1_loop.trips) : BitVec 1 :=
  let c0_i32_18 : BitVec 32 := 0#32
  let c1_i32_19 : BitVec 32 := 1#32
  let arg18 : BitVec 32 := Scf.iv c0_i32_18 c1_i32_19 k0_t1
  let c3_i32_56 : BitVec 32 := 3#32
  let v89 : BitVec 32 := Scalar.subi arg18 c3_i32_56
  let c2_i32_80 : BitVec 32 := 2#32
  let v134 : BitVec 1 := Scalar.cmpi .sge v89 c2_i32_80
  let v135 : BitVec 32 := Scalar.extui v134
  let c0_i32_81 : BitVec 32 := 0#32
  let v136 : BitVec 1 := Scalar.cmpi .ne v135 c0_i32_81
  v136

def k0_off41 (k0_t1 : Fin k0_t1_loop.trips) : Fin 1 → Nat :=
  let c0_i32_18 : BitVec 32 := 0#32
  let c1_i32_19 : BitVec 32 := 1#32
  let arg18 : BitVec 32 := Scf.iv c0_i32_18 c1_i32_19 k0_t1
  let c3_i32_56 : BitVec 32 := 3#32
  let v89 : BitVec 32 := Scalar.subi arg18 c3_i32_56
  let c2_i32_92 : BitVec 32 := 2#32
  let v157 : BitVec 32 := Scalar.subi v89 c2_i32_92
  let c2_i32_95 : BitVec 32 := 2#32
  let v160 : BitVec 32 := Scalar.remsi v157 c2_i32_95
  ![v160.toNat]
def k0_off42 (k0_t1 : Fin k0_t1_loop.trips) : Fin 2 → Nat :=
  let c0_i32_18 : BitVec 32 := 0#32
  let c1_i32_19 : BitVec 32 := 1#32
  let arg18 : BitVec 32 := Scf.iv c0_i32_18 c1_i32_19 k0_t1
  let c3_i32_56 : BitVec 32 := 3#32
  let v89 : BitVec 32 := Scalar.subi arg18 c3_i32_56
  let c2_i32_92 : BitVec 32 := 2#32
  let v157 : BitVec 32 := Scalar.subi v89 c2_i32_92
  let c256_i32_93 : BitVec 32 := 256#32
  let v158 : BitVec 32 := Scalar.muli v157 c256_i32_93
  let c0_i32_96 : BitVec 32 := 0#32
  ![v158.toNat, 0]
def k0_off43 (k0_t1 : Fin k0_t1_loop.trips) : Fin 3 → Nat :=
  let c0_i32_18 : BitVec 32 := 0#32
  let c1_i32_19 : BitVec 32 := 1#32
  let arg18 : BitVec 32 := Scf.iv c0_i32_18 c1_i32_19 k0_t1
  let c3_i32_56 : BitVec 32 := 3#32
  let v89 : BitVec 32 := Scalar.subi arg18 c3_i32_56
  let c2_i32_92 : BitVec 32 := 2#32
  let v157 : BitVec 32 := Scalar.subi v89 c2_i32_92
  let c2_i32_94 : BitVec 32 := 2#32
  let v159 : BitVec 32 := Scalar.remsi v157 c2_i32_94
  let c0_i32_97 : BitVec 32 := 0#32
  let c0_i32_98 : BitVec 32 := 0#32
  ![v159.toNat, 0, 0]
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v10 : BitVec 1 := Scalar.cmpi .slt v8 c3_i32
  let v32 : BitVec 32 := Scalar.extui v10
  let c0_i32_21 : BitVec 32 := 0#32
  let v33 : BitVec 1 := Scalar.cmpi .ne v32 c0_i32_21
  v33

def k0_off44 : Fin 1 → Nat :=
  let c30_i32_41 : BitVec 32 := 30#32
  let c2_i32_42 : BitVec 32 := 2#32
  let v56 : BitVec 32 := Scalar.remsi c30_i32_41 c2_i32_42
  ![v56.toNat]
def k0_off45 : Fin 3 → Nat :=
  let c30_i32_37 : BitVec 32 := 30#32
  let c2_i32_38 : BitVec 32 := 2#32
  let v54 : BitVec 32 := Scalar.remsi c30_i32_37 c2_i32_38
  let c0_i32_46 : BitVec 32 := 0#32
  let c0_i32_47 : BitVec 32 := 0#32
  ![v54.toNat, 0, 0]
def k0_off46 : Fin 3 → Nat :=
  let c30_i32_39 : BitVec 32 := 30#32
  let c6_i32_40 : BitVec 32 := 6#32
  let v55 : BitVec 32 := Scalar.remsi c30_i32_39 c6_i32_40
  let c0_i32_48 : BitVec 32 := 0#32
  let c0_i32_49 : BitVec 32 := 0#32
  ![v55.toNat, 0, 0]
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let v34 : BitVec 32 := Scalar.extui v9
  let c0_i32_22 : BitVec 32 := 0#32
  let v35 : BitVec 1 := Scalar.cmpi .ne v34 c0_i32_22
  v35

def k0_off47 : Fin 1 → Nat :=
  let c30_i32_41 : BitVec 32 := 30#32
  let c2_i32_42 : BitVec 32 := 2#32
  let v56 : BitVec 32 := Scalar.remsi c30_i32_41 c2_i32_42
  ![v56.toNat]
def k0_off48 : Fin 3 → Nat :=
  let c30_i32_37 : BitVec 32 := 30#32
  let c2_i32_38 : BitVec 32 := 2#32
  let v54 : BitVec 32 := Scalar.remsi c30_i32_37 c2_i32_38
  let c0_i32_46 : BitVec 32 := 0#32
  let c0_i32_47 : BitVec 32 := 0#32
  ![v54.toNat, 0, 0]
def k0_off49 : Fin 3 → Nat :=
  let c30_i32_39 : BitVec 32 := 30#32
  let c6_i32_40 : BitVec 32 := 6#32
  let v55 : BitVec 32 := Scalar.remsi c30_i32_39 c6_i32_40
  let c0_i32_48 : BitVec 32 := 0#32
  let c0_i32_49 : BitVec 32 := 0#32
  ![v55.toNat, 0, 0]
def k0_off50 (c30_i32_24 : BitVec 32) : Fin 1 → Nat :=
  let c2_i32_25 : BitVec 32 := 2#32
  let v37 : BitVec 32 := Scalar.remsi c30_i32_24 c2_i32_25
  ![v37.toNat]
def k0_off51 (c30_i32 : BitVec 32) : Fin 3 → Nat :=
  let c2_i32_23 : BitVec 32 := 2#32
  let v36 : BitVec 32 := Scalar.remsi c30_i32 c2_i32_23
  let c0_i32_27 : BitVec 32 := 0#32
  let c0_i32_28 : BitVec 32 := 0#32
  ![v36.toNat, 0, 0]
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v10 : BitVec 1 := Scalar.cmpi .slt v8 c3_i32
  let v43 : BitVec 32 := Scalar.extui v10
  let c0_i32_29 : BitVec 32 := 0#32
  let v44 : BitVec 1 := Scalar.cmpi .ne v43 c0_i32_29
  v44

def k0_off52 : Fin 1 → Nat :=
  let c31_i32_41 : BitVec 32 := 31#32
  let c2_i32_42 : BitVec 32 := 2#32
  let v56 : BitVec 32 := Scalar.remsi c31_i32_41 c2_i32_42
  ![v56.toNat]
def k0_off53 : Fin 3 → Nat :=
  let c31_i32_37 : BitVec 32 := 31#32
  let c2_i32_38 : BitVec 32 := 2#32
  let v54 : BitVec 32 := Scalar.remsi c31_i32_37 c2_i32_38
  let c0_i32_46 : BitVec 32 := 0#32
  let c0_i32_47 : BitVec 32 := 0#32
  ![v54.toNat, 0, 0]
def k0_off54 : Fin 3 → Nat :=
  let c31_i32_39 : BitVec 32 := 31#32
  let c6_i32_40 : BitVec 32 := 6#32
  let v55 : BitVec 32 := Scalar.remsi c31_i32_39 c6_i32_40
  let c0_i32_48 : BitVec 32 := 0#32
  let c0_i32_49 : BitVec 32 := 0#32
  ![v55.toNat, 0, 0]
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let v45 : BitVec 32 := Scalar.extui v9
  let c0_i32_30 : BitVec 32 := 0#32
  let v46 : BitVec 1 := Scalar.cmpi .ne v45 c0_i32_30
  v46

def k0_off55 : Fin 1 → Nat :=
  let c31_i32_41 : BitVec 32 := 31#32
  let c2_i32_42 : BitVec 32 := 2#32
  let v56 : BitVec 32 := Scalar.remsi c31_i32_41 c2_i32_42
  ![v56.toNat]
def k0_off56 : Fin 3 → Nat :=
  let c31_i32_37 : BitVec 32 := 31#32
  let c2_i32_38 : BitVec 32 := 2#32
  let v54 : BitVec 32 := Scalar.remsi c31_i32_37 c2_i32_38
  let c0_i32_46 : BitVec 32 := 0#32
  let c0_i32_47 : BitVec 32 := 0#32
  ![v54.toNat, 0, 0]
def k0_off57 : Fin 3 → Nat :=
  let c31_i32_39 : BitVec 32 := 31#32
  let c6_i32_40 : BitVec 32 := 6#32
  let v55 : BitVec 32 := Scalar.remsi c31_i32_39 c6_i32_40
  let c0_i32_48 : BitVec 32 := 0#32
  let c0_i32_49 : BitVec 32 := 0#32
  ![v55.toNat, 0, 0]
abbrev stage0_0 : Fin 1 → Memref sig .tc .vmem S2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x8192x2048 : Shape := ⟨3, ![4, 8192, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S8192x2048, .f32⟩
  | .hbm, ⟨2, _⟩ => ⟨S2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Kit.lean ====
/- What the kernel's proof uses of any program: rows of assertions indexed by consecutive numbers, and
   the steps of a core on a slot of a larger buffer, stated by what the slot reads (`owns`). -/
module

public import Idealize.ShloMosaic.Lib.Memref
public import Idealize.ShloMosaic.Lib.Rounds
public import Idealize.ShloMosaic.Lib.Transfers
public import Idealize.ShloMosaic.Lib.Pipeline.Launch
public import Idealize.ShloMosaic.Lib.Pipeline.Kit
public import Idealize.ShloMosaic.Lib.Pipeline.Value
public import Idealize.ShloMosaic.Lib.Scf
public import Idealize.ShloMosaic.Lib.Tactic

@[expose] public section

noncomputable section

namespace Cert.Proof.Kit

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## Rows of assertions -/

section Rows

variable {M : Type*} [URA M]

/-- The assertions `Φ a, …, Φ (b - 1)` side by side. -/
def Seg (a b : ℕ) (Φ : ℕ → sProp M) : sProp M := bigSep (Finset.Ico a b) Φ

variable {a b k : ℕ} {Φ Ψ : ℕ → sProp M}

theorem seg_nil (h : b ≤ a) : Seg a b Φ = iprop(emp) := by
  unfold Seg; rw [Finset.Ico_eq_empty (by omega)]; exact bigSep_empty

theorem seg_nil_intro (h : b ≤ a) : iprop(emp) ⊢ Seg a b Φ := by rw [seg_nil h]

theorem seg_head (h : a < b) : Seg a b Φ = iprop(Φ a ∗ Seg (a + 1) b Φ) := by
  unfold Seg
  rw [show Finset.Ico a b = insert a (Finset.Ico (a + 1) b) by ext x; simp only [Finset.mem_insert, Finset.mem_Ico]; omega]
  exact bigSep_insert (by simp)

theorem seg_last (h : a ≤ b) : Seg a (b + 1) Φ = iprop(Φ b ∗ Seg a b Φ) := by
  unfold Seg
  rw [show Finset.Ico a (b + 1) = insert b (Finset.Ico a b) by ext x; simp only [Finset.mem_insert, Finset.mem_Ico]; omega]
  exact bigSep_insert (by simp)

theorem seg_split (h : a ≤ k) (h' : k ≤ b) : Seg a b Φ = iprop(Seg a k Φ ∗ Seg k b Φ) := by
  unfold Seg
  rw [← Finset.Ico_union_Ico_eq_Ico h h']
  exact bigSep_union (Finset.Ico_disjoint_Ico_consecutive a k b)

/-- Row `k` out, and back. -/
theorem seg_acc (h : a ≤ k) (h' : k < b) : Seg a b Φ ⊢ iprop(Φ k ∗ (Φ k -∗ Seg a b Φ)) := by
  have e : Seg a b Φ = iprop(Φ k ∗ bigSep ((Finset.Ico a b).erase k) Φ) := by
    unfold Seg; exact bigSep_erase (by simp; omega)
  rw [e]
  iintro ⟨H, HR⟩
  isplitl [H]; · iexact H
  iintro H
  isplitl [H] <;> iassumption

theorem seg_mono (h : ∀ k, a ≤ k → k < b → Φ k ⊢ Ψ k) : Seg a b Φ ⊢ Seg a b Ψ := by
  unfold Seg
  exact bigSep_mono fun k hk => h k (Finset.mem_Ico.mp hk).1 (Finset.mem_Ico.mp hk).2

theorem seg_congr (h : ∀ k, a ≤ k → k < b → Φ k = Ψ k) : Seg a b Φ = Seg a b Ψ := by
  unfold Seg
  exact bigSep_congr fun k hk => h k (Finset.mem_Ico.mp hk).1 (Finset.mem_Ico.mp hk).2

theorem seg_sep : Seg a b (fun k => iprop(Φ k ∗ Ψ k)) = iprop(Seg a b Φ ∗ Seg a b Ψ) := by
  unfold Seg; exact bigSep_sep _ _ _

/-- A row over the indices of a finite type. -/
theorem seg_fin (n : ℕ) : Seg 0 n Φ = bigSep Finset.univ (fun i : Fin n => Φ i.val) := by
  unfold Seg
  rw [show Finset.Ico 0 n = Finset.univ.map (Fin.valEmbedding : Fin n ↪ ℕ) by
    ext x; simp only [Finset.mem_map, Finset.mem_Ico, Finset.mem_univ, true_and, Fin.valEmbedding_apply]
    exact ⟨fun h => ⟨⟨x, h.2⟩, rfl⟩, fun ⟨i, hi⟩ => hi ▸ ⟨Nat.zero_le _, i.isLt⟩⟩]
  exact bigSep_map _

/-- A row over `n` consecutive numbers is one over their residues. -/
theorem seg_residues (n o : ℕ) (hn : 0 < n) : Seg o (o + n) (fun k => Φ (k % n)) = Seg 0 n Φ := by
  unfold Seg
  rw [show Finset.Ico 0 n = (Finset.Ico o (o + n)).image (· % n) by
    ext x; simp only [Finset.mem_image, Finset.mem_Ico]
    constructor
    · rintro ⟨-, hx⟩
      refine ⟨o + (x + n - o % n) % n, ⟨Nat.le_add_right _ _, by have := Nat.mod_lt (x + n - o % n) hn; omega⟩, ?_⟩
      have h1 := Nat.mod_lt o hn
      rw [Nat.add_mod, Nat.mod_mod, ← Nat.add_mod, show o + (x + n - o % n) = x + n * (o / n + 1) by
        have := Nat.div_add_mod o n; rw [Nat.mul_add]; omega, Nat.add_mul_mod_self_left, Nat.mod_eq_of_lt hx]
    · rintro ⟨y, hy, rfl⟩
      exact ⟨Nat.zero_le _, Nat.mod_lt _ hn⟩]
  have hinj : Set.InjOn (· % n) (Finset.Ico o (o + n) : Set ℕ) := by
    intro x hx y hy hxy
    simp only [Finset.coe_Ico, Set.mem_Ico] at hx hy
    have hxy' : x % n = y % n := hxy
    have h1 := Nat.div_add_mod x n
    have h2 := Nat.div_add_mod y n
    rcases lt_trichotomy (x / n) (y / n) with h | h | h
    · have := Nat.mul_le_mul_left n (show x / n + 1 ≤ y / n from h)
      rw [Nat.mul_add] at this; omega
    · rw [h] at h1; omega
    · have := Nat.mul_le_mul_left n (show y / n + 1 ≤ x / n from h)
      rw [Nat.mul_add] at this; omega
  generalize hS : Finset.Ico o (o + n) = S at hinj
  clear hS
  induction S using Finset.induction_on with
  | empty => simp only [Finset.image_empty, bigSep_empty]
  | insert x S hx ih =>
    rw [Finset.image_insert, bigSep_insert hx, bigSep_insert, ih (hinj.mono (by simp))]
    intro hm
    obtain ⟨y, hy, hxy⟩ := Finset.mem_image.mp hm
    have := hinj (by simp [hy]) (by simp) hxy
    exact hx (this ▸ hy)

end Rows

/-! ## Steps on slots -/

section Steps

variable {nD : Nat} {τ : Topo} {sig : RefSig} {Val : EltTy → Type}
variable {Ix : Type} [DecidableEq Ix] {Name : Type} [DecidableEq Name] {U : Type} [URA U] {Lvl : Type} [Preorder Lvl]
variable {Λ : Labels} {defs : Defs nD τ sig Val Λ} (𝒱 : Variants) (c : Thread nD τ) (bd : Option 𝒱.V)
variable {α : Type} {Q : α → sProp (MT nD τ sig Ix Val Name U Lvl)}

local notation "𝕄" => MT nD τ sig Ix Val Name U Lvl

/-- A block of a program in two cases, then the rest. -/
theorem wp_block {β : Type} {p : Prog (TpuEff nD τ sig Val Λ c.2) β} {k : β → Prog (TpuEff nD τ sig Val Λ c.2) α}
    {P : sProp 𝕄} {R : β → sProp 𝕄} {Es : Set Name}
    (h : P ⊢ wp frame (wpE defs 𝒱 c bd) Es p R) :
    P ⊢ iprop((∀ b, R b -∗ wp frame (wpE defs 𝒱 c bd) Es (k b) Q) -∗ wp frame (wpE defs 𝒱 c bd) Es (p >>= k) Q) := by
  rw [wp_bind]
  iintro HP Hk
  iapply (wp_wand_r (Q := R) frame (wpE defs 𝒱 c bd) Es)
  isplitl [HP]
  · iapply h $$ HP
  · iexact Hk

/-- The elements of a squeezed slice. -/
theorem set_slot {κ : Kind} {cs : Space} {s s' : Shape} {e : EltTy} (M : Memref sig κ cs s e) (r : Rect s)
    (hr : ∀ a, r.stride a = 1) (hq : r.shape.Squeezes s') :
    ((M.slice r hr).squeeze s' hq).view.set = M.view.setOn r.set := by
  show ((M.view.slice r).reshape s' hq.numel_eq).set = _
  rw [View.set_reshape, View.set_slice]; rfl

/-- A load of a slot through the whole buffer. -/
theorem wp_load_slot {cs : CoreSpace} {s s' : Shape} {e : EltTy} {M : Memref sig c.2.kind cs s e}
    {off off' size : Fin s.rank → ℕ} {inb : ∀ a, off a + size a ≤ s.size a} (inb' : ∀ a, off' a + size a ≤ s.size a)
    (ho : off = off') (hr : ∀ a, (Rect.unit off' size inb').stride a = 1) (hq : (Rect.unit off' size inb').shape.Squeezes s')
    (hc : s'.ShapeCasts (Rect.unit off' size inb').shape)
    {hl : M.view.LoadsAt (Rect.unit off size inb).toLoadRect} {Es : Set Name} {q : PosShare TreeShare} {X : s'.Idx → Val e}
    {k : ((Rect.unit off size inb).toLoadRect.shape.Idx → Val e) → Prog (TpuEff nD τ sig Val Λ c.2) α} :
    (owns c ((M.slice (Rect.unit off' size inb') hr).squeeze s' hq) q X : sProp 𝕄)
      ⊢ iprop((owns c ((M.slice (Rect.unit off' size inb') hr).squeeze s' hq) q X
            -∗ wp frame (wpE defs 𝒱 c bd) Es (k (shapeCast (Rect.unit off' size inb').shape X hc)) Q)
          -∗ wp frame (wpE defs 𝒱 c bd) Es (.op (.load M (Rect.unit off size inb).toLoadRect hl) k) Q) := by
  subst ho
  unfold owns
  iintro ⟨%f, %hf, H⟩ Hk
  iapply (wp_load 𝒱 c bd Es (m := M) (r := (Rect.unit off size inb).toLoadRect)
    (S := ((M.slice (Rect.unit off size inb) hr).squeeze s' hq).view.set) (q := q) (f := f)
    (by rw [set_slot])) $$ H
  iintro H
  have hy : M.view.readAt Val (Rect.unit off size inb).toLoadRect f
      = shapeCast (Rect.unit off size inb).shape X hc := by
    subst hf
    exact (shapeCast_shapeCast (M.view.readAt Val (Rect.unit off size inb).toLoadRect f)
      (show (Rect.unit off size inb).toLoadRect.shape.ShapeCasts s' from hq.numel_eq) hc).symm
  rw [hy]
  iapply Hk
  iexists f
  isplitr; · ipureintro; exact hf
  iexact H

/-- A store to a slot through the whole buffer. -/
theorem wp_store_slot {cs : CoreSpace} {s s' : Shape} {e : EltTy} {M : Memref sig c.2.kind cs s e}
    {off off' size : Fin s.rank → ℕ} {inb : ∀ a, off a + size a ≤ s.size a} (inb' : ∀ a, off' a + size a ≤ s.size a)
    (ho : off = off') (hr : ∀ a, (Rect.unit off' size inb').stride a = 1) (hq : (Rect.unit off' size inb').shape.Squeezes s')
    (hc : (Rect.unit off' size inb').shape.ShapeCasts s')
    {w : (Rect.unit off size inb).shape.Idx → Val e}
    {hx : (M.access (Rect.unit off size inb)).Stores Finset.univ} {hm : (Finset.univ : Finset (Rect.unit off size inb).shape.Idx) = Finset.univ ∨ ∀ a, (Rect.unit off size inb).stride a = 1}
    {Es : Set Name} {X : s'.Idx → Val e}
    {k : PUnit → Prog (TpuEff nD τ sig Val Λ c.2) α} :
    (owns c ((M.slice (Rect.unit off' size inb') hr).squeeze s' hq) fullShare X : sProp 𝕄)
      ⊢ iprop((owns c ((M.slice (Rect.unit off' size inb') hr).squeeze s' hq) fullShare (shapeCast s' (s := (Rect.unit off' size inb').shape) w hc)
            -∗ wp frame (wpE defs 𝒱 c bd) Es (k ⟨⟩) Q)
          -∗ wp frame (wpE defs 𝒱 c bd) Es (.op (.store M (Rect.unit off size inb) w Finset.univ hx hm) k) Q) := by
  subst ho
  unfold owns
  iintro ⟨%f, %hf, H⟩ Hk
  iapply (wp_store 𝒱 c bd Es (m := M) (r := Rect.unit off size inb) (w := w) (Mk := Finset.univ)
    (S := ((M.slice (Rect.unit off size inb) hr).squeeze s' hq).view.set) (f := f)
    (by rw [set_slot]; exact (View.set_slice M.view _).subset)) $$ H
  iintro H
  iapply Hk
  iexists _
  isplitr; rotate_left
  · iexact H
  · ipureintro
    have h := View.read_write_univ (Val := Val) (v := M.access (Rect.unit off size inb)) f w
    funext j
    exact congrFun h (Shape.reshapeEquiv hq.numel_eq j)

/-- A local transfer between slots: until it is waited for, it holds both. -/
theorem wp_dma_owns [Infinite Name] (EC : UEmb Counters 𝕄) [EC.LandsIn (upEmb : UEmb _ 𝕄)] {sp sp' : Space} {s : Shape} {e : EltTy}
    {src src' : Memref sig c.2.kind sp s e} {dst dst' : Memref sig c.2.kind sp' s e} {sm sm' : SemLoc sig}
    (es : src = src') (ed : dst = dst') (em : sm = sm')
    {hsrc : src.view.WordExact} {hdst : dst.view.WordExact} {hsem : DmaTarget.Typed (nD := nD) sp sm (.here dst)}
    {k : PUnit → Prog (TpuEff nD τ sig Val Λ c.2) α} {q : PosShare TreeShare} {X Y : s.Idx → Val e}
    (ι : Ix) (N : ℕ) (hN : dst'.view.amount sm' = N) (hN0 : 0 < N) :
    iprop(owns c src' q X ∗ owns c dst' fullShare Y ∗ semVal (c, sm') 0)
      ⊢ iprop((Transfers.Flight EC c sm' ι N iprop(owns c dst' fullShare X ∗ owns c src' q X)
              -∗ wp frame (wpE defs 𝒱 c bd) Set.univ (k ⟨⟩) Q)
          -∗ wp frame (wpE defs 𝒱 c bd) Set.univ (.op (.enqueueDma src (.here dst) sm hsrc hdst hsem) k) Q) := by
  subst es ed em
  unfold owns
  iintro ⟨⟨%fs, %hfs, Hs⟩, ⟨%fd, %hfd, Hd⟩, Hv⟩ Hk
  iapply (Transfers.wp_dmaLocal EC 𝒱 c bd (src := src) (dst := dst) (via := .same) (sm := sm) (fs := fs) (fd := fd)
    (Sd := dst.view.set) ι N hN hN0 subset_rfl) $$ [Hs Hd Hv]
  · isplitl [Hs]; · iexact Hs
    isplitl [Hd] <;> iassumption
  iintro HF
  iapply Hk
  iapply (Transfers.Flight_mono EC c (sm := sm) (ι := ι) (N := N) (D' := iprop((∃ f, ⌜dst.view.read Val f = X⌝ ∗ (dst.view.loc c ↦[dst.view.set]{fullShare} f))
      ∗ (∃ f, ⌜src.view.read Val f = X⌝ ∗ (src.view.loc c ↦[src.view.set]{q} f)))) ?_) $$ HF
  iintro ⟨Hd, Hs⟩
  isplitl [Hd]
  · iexists _; isplitr; rotate_left
    · iexact Hd
    · ipureintro; rw [View.read_write_univ]; exact hfs
  · iexists fs; isplitr
    · ipureintro; exact hfs
    · iexact Hs

/-- The wait for it. -/
theorem wp_dma_wait [Infinite Name] (EC : UEmb Counters 𝕄) [EC.LandsIn (upEmb : UEmb _ 𝕄)] {sp sp' : Space} {s s' : Shape} {e e' : EltTy} {κ' : Kind}
    {sem sem' : DmaSem sig} (em : sem = sem')
    {srcw : Memref sig c.2.kind sp' s' e'} {dstw : Memref sig κ' sp s e} {hsrc : srcw.view.WordExact} {hdst : dstw.view.WordExact}
    {k : PUnit → Prog (TpuEff nD τ sig Val Λ c.2) α} (ι : Ix) {N : ℕ} (hN : dstw.view.dmaCredit = N) {D : sProp 𝕄}
    {O : CellTallies nD τ sig Ix} {W : Waits sig Ix} :
    iprop(Transfers.Flight EC c (.dma sem') ι N D ∗ owes c O W ∗ MayWait c (.dma sem') ι O)
      ⊢ iprop((iprop(D ∗ semVal (c, .dma sem') 0 ∗ owes c O (insert (SemLoc.dma sem', ι) W)) -∗ wp frame (wpE defs 𝒱 c bd) Set.univ (k ⟨⟩) Q)
          -∗ wp frame (wpE defs 𝒱 c bd) Set.univ (.op (.waitDma2 sem srcw dstw hsrc hdst) k) Q) := by
  subst em
  exact Transfers.wp_waitLocalO EC 𝒱 c bd ι hN

/-- A transfer to another core's slot, from a slot of one's own, handing over resources `R` besides. -/
theorem wp_send_owns {D : Type} [DecidableEq D] (E : Emb (Rounds.URounds (GSem nD τ sig) D) 𝕄) (Rd : Rounds.Schedule (GSem nD τ sig) D 𝕄)
    {c' : Thread nD τ} {sp sp' : Space} {s : Shape} {e : EltTy}
    {src : Memref sig c.2.kind sp s e} {dst : Memref sig c'.2.kind sp' s e} {hsc : dst.view.ref.isScScratch = false} {sS sem : SemLoc sig}
    {hsrc : src.view.WordExact} {hdst : dst.view.WordExact} {hsem : DmaTarget.Typed sp sem (.remote c' dst sS hsc)}
    {k : PUnit → Prog (TpuEff nD τ sig Val Λ c.2) α} {X Y : s.Idx → Val e} {R : sProp 𝕄} {r₁ r₂ : ℕ} {d₁ d₂ : D} {κ₁ κ₂ : Name}
    (hd₁ : d₁ ∈ Rd.duties (c, sS) r₁) (hd₂ : d₂ ∈ Rd.duties (c', sem) r₂)
    (ι ι' : Ix) (N : ℕ) (hN : dst.view.amount sem = N)
    (hk₁ : Rd.amount (c, sS) r₁ d₁ = N) (hk₂ : Rd.amount (c', sem) r₂ d₂ = N)
    {O₀ : CellTallies nD τ sig Ix} (O : CellTallies nD τ sig Ix) (hO : O₀ = O + tallyAt (c', sem) ι N) {W : Waits sig Ix}
    (hpay₁ : owns c src fullShare X ⊢ Rd.payload (c, sS) r₁ d₁)
    (hpay₂ : iprop(owns c' dst fullShare X ∗ R) ⊢ Rd.payload (c', sem) r₂ d₂) {Es : Set Name} (hr : τ.routes c c' = true) :
    iprop(Rounds.cellInv E Rd κ₁ (c, sS) ∗ Rounds.cellInv E Rd κ₂ (c', sem)
        ∗ owns c src fullShare X ∗ (owns c' dst fullShare Y ∗ R)
        ∗ owes c O₀ W
        ∗ Rounds.dutyTok E (c, sS) r₁ d₁ ∗ Rounds.reached E (c, sS) r₁
        ∗ Rounds.dutyTok E (c', sem) r₂ d₂ ∗ Rounds.reached E (c', sem) r₂)
      ⊢ iprop(((cred (tallyAt (c, sS) ι' N) ∗ owes c O W) -∗ wp frame (wpE defs 𝒱 c bd) Es (k ⟨⟩) Q)
          -∗ wp frame (wpE defs 𝒱 c bd) Es (.op (.enqueueDma src (.remote c' dst sS hsc) sem hsrc hdst hsem) k) Q) := by
  iintro ⟨HI₁, HI₂, Hs, ⟨Hd, HR⟩, HO, Ht₁, Hr₁, Ht₂, Hr₂⟩ Hk
  ihave Hs' := (show owns c src fullShare X ⊢ iprop(∃ f, ⌜src.view.read Val f = X⌝ ∗ (src.view.loc c ↦[src.view.set]{fullShare} f)) from .rfl) $$ Hs
  ihave Hd' := (show owns c' dst fullShare Y ⊢ iprop(∃ f, ⌜dst.view.read Val f = Y⌝ ∗ (dst.view.loc c' ↦[dst.view.set]{fullShare} f)) from .rfl) $$ Hd
  icases Hs' with ⟨%fs, %hfs, Hs⟩
  icases Hd' with ⟨%fd, %hfd, Hd⟩
  iapply (Rounds.wp_send_pointsTo_with 𝒱 E Rd c bd (src := src) (dst := dst) (fs := fs) (fd := fd) (F := R) (κ₁ := κ₁) (κ₂ := κ₂)
    (q := fullShare) hd₁ hd₂ ι ι' N hN hk₁ hk₂ O hO
    (((show (src.view.loc c ↦[src.view.set]{fullShare} fs) ⊢ owns c src fullShare X from by
        rw [← hfs]; exact owns_intro c src fullShare fs)).trans hpay₁)
    ((sep_mono_left (show (dst.view.loc c' ↦[dst.view.set]{fullShare} (dst.view.write Val fd (src.view.read Val fs) Finset.univ))
        ⊢ owns c' dst fullShare X from by
          have := owns_intro (Ix := Ix) (Name := Name) (U := U) (Lvl := Lvl) c' dst fullShare (dst.view.write Val fd (src.view.read Val fs) Finset.univ)
          rw [View.read_write_univ] at this
          exact hfs ▸ this)).trans hpay₂) hr) $$ [HI₁ HI₂ Hs Hd HR HO Ht₁ Hr₁ Ht₂ Hr₂]
  · isplitl [HI₁]; · iexact HI₁
    isplitl [HI₂]; · iexact HI₂
    isplitl [Hs]; · iexact Hs
    isplitl [Hd HR]
    · isplitl [Hd] <;> iassumption
    isplitl [HO]; · iexact HO
    isplitl [Ht₁]; · iexact Ht₁
    isplitl [Hr₁]; · iexact Hr₁
    isplitl [Ht₂] <;> iassumption
  iexact Hk

end Steps

end Cert.Proof.Kit
-- ==== Proof.Slots.lean ====
/- A buffer held whole is held slot by slot, and back. -/
module

public import proofs.«01_k».proof.Proof.Kit

@[expose] public section

noncomputable section

namespace Cert.Proof.Kit

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

section Slots

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable (c : Thread nD τ) {sp : Space} {s s' : Shape} {e : EltTy}

/-- A memref read in another shape is the same memory. -/
theorem owns_squeeze (M : Memref sig c.2.kind sp s e) (hq : s.Squeezes s') (q : PosShare TreeShare) (X : s.Idx → Val e) :
    (owns c (M.squeeze s' hq) q (fun i => X (Shape.reshapeEquiv hq.numel_eq i)) : sProp 𝕄) = owns c M q X := by
  have hs : (M.squeeze s' hq).view.set = M.view.set := View.set_reshape _ _
  have h₁ : (owns c (M.squeeze s' hq) q (fun i => X (Shape.reshapeEquiv hq.numel_eq i)) : sProp 𝕄) ⊢ owns c M q X := by
    unfold owns
    iintro ⟨%f, %hf, H⟩
    iexists f
    isplitr
    · ipureintro
      funext j
      have h := congrFun hf ((Shape.reshapeEquiv hq.numel_eq).symm j)
      have h' : M.view.read Val f (Shape.reshapeEquiv hq.numel_eq ((Shape.reshapeEquiv hq.numel_eq).symm j))
          = X (Shape.reshapeEquiv hq.numel_eq ((Shape.reshapeEquiv hq.numel_eq).symm j)) := h
      rw [Equiv.apply_symm_apply] at h'
      exact h'
    · rw [← hs]; iexact H
  have h₂ : owns c M q X ⊢ (owns c (M.squeeze s' hq) q (fun i => X (Shape.reshapeEquiv hq.numel_eq i)) : sProp 𝕄) := by
    unfold owns
    iintro ⟨%f, %hf, H⟩
    iexists f
    isplitr
    · ipureintro
      funext i
      exact congrFun hf (Shape.reshapeEquiv hq.numel_eq i)
    · rw [hs]; iexact H
  exact BI.equiv_iff.mp ⟨h₁, h₂⟩

variable (M : Memref sig c.2.kind sp s e) (q : PosShare TreeShare)
variable {T : Type} [Fintype T] [DecidableEq T] (r : T → Rect s) (hr : ∀ t a, (r t).stride a = 1)
  (hd : ∀ t t', t ≠ t' → Disjoint (r t).set (r t').set)
  (hcov : (Finset.univ : Finset T).biUnion (fun t => (r t).set) = Finset.univ)

include hd in
omit [Fintype T] in
/-- Contents given slot by slot. -/
theorem exists_fill [∀ e, Nonempty (Val e)] (Y : (t : T) → (r t).shape.Idx → Val e) :
    ∃ X : s.Idx → Val e, ∀ t j, X ((r t).emb j) = Y t j := by
  classical
  refine ⟨fun i => if h : ∃ p : (t : T) × (r t).shape.Idx, (r p.1).emb p.2 = i then Y h.choose.1 h.choose.2 else Classical.arbitrary _, fun t j => ?_⟩
  have h : ∃ p : (t : T) × (r t).shape.Idx, (r p.1).emb p.2 = (r t).emb j := ⟨⟨t, j⟩, rfl⟩
  refine (dif_pos h).trans ?_
  have hp := h.choose_spec
  generalize h.choose = p at hp
  obtain ⟨t', j'⟩ := p
  have ht : t' = t := by
    by_contra hne
    have m1 : (r t').emb j' ∈ (r t').set := (r t').map_emb_univ ▸ Finset.mem_map_of_mem _ (Finset.mem_univ j')
    have m2 : (r t).emb j ∈ (r t).set := (r t).map_emb_univ ▸ Finset.mem_map_of_mem _ (Finset.mem_univ j)
    have hp' : (r t').emb j' = (r t).emb j := hp
    rw [hp'] at m1
    exact Finset.disjoint_left.mp (hd t' t hne) m1 m2
  subst ht
  have hj : j' = j := (r t').emb.injective hp
  subst hj
  rfl

variable (hq : ∀ t, (r t).shape.Squeezes s')

include hd hcov in
theorem owns_split (X : s.Idx → Val e) :
    (owns c M q X : sProp 𝕄) ⊢ bigSep Finset.univ fun t =>
      owns c ((M.slice (r t) (hr t)).squeeze s' (hq t)) q (fun i => X ((r t).emb (Shape.reshapeEquiv (hq t).numel_eq i))) :=
  (owns_rects c M q r hr hd hcov X).trans (bigSep_mono fun t _ =>
    Entails.of_eq (owns_squeeze c (M.slice (r t) (hr t)) (hq t) q (fun j => X ((r t).emb j))).symm)

include hd hcov in
theorem owns_join [∀ e, Nonempty (Val e)] (X : s.Idx → Val e) :
    (bigSep Finset.univ fun t =>
      owns c ((M.slice (r t) (hr t)).squeeze s' (hq t)) q (fun i => X ((r t).emb (Shape.reshapeEquiv (hq t).numel_eq i))) : sProp 𝕄) ⊢ owns c M q X :=
  (bigSep_mono fun t _ =>
    Entails.of_eq (owns_squeeze c (M.slice (r t) (hr t)) (hq t) q (fun j => X ((r t).emb j)))).trans (owns_of_rects c M q r hr hd hcov X)

include hd hcov in
theorem owns_join_some [∀ e, Nonempty (Val e)] :
    (bigSep Finset.univ fun t => iprop(∃ Y : s'.Idx → Val e, owns c ((M.slice (r t) (hr t)).squeeze s' (hq t)) q Y) : sProp 𝕄)
      ⊢ iprop(∃ X, owns c M q X) := by
  refine (BI.bigSep_exists_pi Finset.univ (fun (t : T) (Y : s'.Idx → Val e) => (owns c ((M.slice (r t) (hr t)).squeeze s' (hq t)) q Y : sProp 𝕄))).trans ?_
  iintro ⟨%Y, H⟩
  obtain ⟨X, hX⟩ := exists_fill r hd (fun t j => Y t ((Shape.reshapeEquiv (hq t).numel_eq).symm j))
  iexists X
  iapply (owns_join (Ix := Ix) (Name := Name) (U := U) (Lvl := Lvl) c M q r hr hd hcov hq X)
  have e : (bigSep Finset.univ fun t => (owns c ((M.slice (r t) (hr t)).squeeze s' (hq t)) q (Y t) : sProp 𝕄))
      ⊢ bigSep Finset.univ fun t => owns c ((M.slice (r t) (hr t)).squeeze s' (hq t)) q (fun i => X ((r t).emb (Shape.reshapeEquiv (hq t).numel_eq i))) :=
    bigSep_mono fun t _ => Entails.of_eq (congrArg (owns c ((M.slice (r t) (hr t)).squeeze s' (hq t)) q) (funext fun i => by
      rw [hX t, Equiv.symm_apply_apply]))
  iapply e $$ H

include hd hcov in
/-- The same for parts in the buffer's own shape, with what each part then reads. -/
theorem owns_fill [∀ e, Nonempty (Val e)] (Y : (t : T) → (r t).shape.Idx → Val e) :
    (bigSep Finset.univ fun t => owns c (M.slice (r t) (hr t)) q (Y t) : sProp 𝕄)
      ⊢ iprop(∃ X, ⌜∀ t j, X ((r t).emb j) = Y t j⌝ ∗ owns c M q X) := by
  obtain ⟨X, hX⟩ := exists_fill r hd Y
  iintro H
  iexists X
  isplitr; · ipureintro; exact hX
  iapply (owns_of_rects (Ix := Ix) (Name := Name) (U := U) (Lvl := Lvl) c M q r hr hd hcov X)
  have e : (bigSep Finset.univ fun t => (owns c (M.slice (r t) (hr t)) q (Y t) : sProp 𝕄))
      ⊢ bigSep Finset.univ fun t => owns c (M.slice (r t) (hr t)) q (fun j => X ((r t).emb j)) :=
    bigSep_mono fun t _ => Entails.of_eq (congrArg (owns c (M.slice (r t) (hr t)) q) (funext fun j => (hX t j).symm))
  iapply e $$ H

end Slots

/-! ## More on rows -/

section Rows

variable {M : Type*} [URA M] {Φ : ℕ → sProp M}

theorem seg_shift (a b o : ℕ) : Seg (a + o) (b + o) Φ = Seg a b (fun k => Φ (k + o)) := by
  unfold Seg
  rw [show Finset.Ico (a + o) (b + o) = (Finset.Ico a b).map (addRightEmbedding o) by
    ext x
    simp only [Finset.mem_map, Finset.mem_Ico, addRightEmbedding_apply]
    exact ⟨fun h => ⟨x - o, by omega, by omega⟩, fun ⟨y, h, e⟩ => by omega⟩]
  exact bigSep_map _

/-- A row that only looks at the residues, one turn of it anywhere. -/
theorem seg_turn (n o : ℕ) (hn : 0 < n) (h : ∀ k, Φ k = Φ (k % n)) : Seg o (o + n) Φ = Seg 0 n Φ :=
  (seg_congr fun k _ _ => h k).trans (seg_residues n o hn)

end Rows

end Cert.Proof.Kit

end
-- ==== Proof.KI.Tables.lean ====
/- Closed forms of the kernel's printed index chains: which conditions hold, which slot, chunk and
   semaphore each view names, as plain arithmetic in the device's place `z = c % 4` on the line of four
   and the trip number. Each is decided over the finitely many devices and trips. -/
module

public import proofs.«01_k».proof.Proof.Gen.KernelIdeal
public import proofs.«01_k».proof.Proof.Gen.KernelIdeal.Skeleton

@[expose] public section

set_option maxRecDepth 4000

namespace Cert.KernelIdeal.Tab

open Cert.KernelIdeal Cert.KernelIdeal.Gen
open Idealize.ShloMosaic

abbrev Trip := Fin k0_t1_loop.trips

/-- A direction of travel along the line of four devices: `false` towards higher places, `true` towards lower. -/
abbrev Dir := Bool

/-- The device's place on its line. -/
abbrev zz (c : Dev nD) : ℕ := c.val % 4

/-- How many devices lie behind `c` in direction `d`. -/
def rk (d : Dir) (c : Dev nD) : ℕ := if d then 3 - zz c else zz c

/-- Somebody sends to `c` in direction `d`. -/
abbrev hasIn (d : Dir) (c : Dev nD) : Prop := 0 < rk d c
/-- `c` sends to somebody in direction `d`. -/
abbrev hasOut (d : Dir) (c : Dev nD) : Prop := rk d c < 3

theorem trips_eq : k0_t1_loop.trips = 35 := by decide +kernel

theorem cond1_iff : ∀ c : Dev nD, k0_cond1 c = 1#1 ↔ zz c < 3 := by decide +kernel
theorem cond2_iff : ∀ c : Dev nD, k0_cond2 c = 1#1 ↔ 0 < zz c := by decide +kernel
theorem cond4_iff : ∀ t : Trip, k0_cond4 t = 1#1 ↔ t.val + 1 < 32 := by decide +kernel
theorem cond5_iff : ∀ t : Trip, k0_cond5 t = 1#1 ↔ 2 ≤ t.val ∧ t.val < 34 := by decide +kernel
theorem cond6_iff : ∀ t : Trip, k0_cond6 t = 1#1 ↔ t.val < 32 := by decide +kernel
theorem cond7_iff : ∀ (c : Dev nD) (t : Trip), k0_cond7 c t = 1#1 ↔ hasIn false c ∧ rk false c ≤ t.val ∧ t.val < rk false c + 32 := by decide +kernel
theorem cond8_iff : ∀ (c : Dev nD) (t : Trip), k0_cond8 c t = 1#1 ↔ hasOut false c ∧ rk false c ≤ t.val ∧ t.val < rk false c + 32 := by decide +kernel
theorem cond9_iff : ∀ (c : Dev nD) (t : Trip), k0_cond8 c t = 1#1 → (k0_cond9 c t = 1#1 ↔ rk false c + 2 ≤ t.val) := by decide +kernel
theorem cond10_iff : ∀ (c : Dev nD) (t : Trip), k0_cond10 c t = 1#1 ↔ hasIn true c ∧ rk true c ≤ t.val ∧ t.val < rk true c + 32 := by decide +kernel
theorem cond11_iff : ∀ (c : Dev nD) (t : Trip), k0_cond11 c t = 1#1 ↔ hasOut true c ∧ rk true c ≤ t.val ∧ t.val < rk true c + 32 := by decide +kernel
theorem cond12_iff : ∀ (c : Dev nD) (t : Trip), k0_cond11 c t = 1#1 → (k0_cond12 c t = 1#1 ↔ rk true c + 2 ≤ t.val) := by decide +kernel
theorem cond13_iff : ∀ t : Trip, k0_cond13 t = 1#1 ↔ 3 ≤ t.val := by decide +kernel
theorem cond14_iff : ∀ t : Trip, k0_cond13 t = 1#1 → (k0_cond14 t = 1#1 ↔ 5 ≤ t.val) := by decide +kernel
theorem cond15_iff : ∀ c : Dev nD, k0_cond15 c = 1#1 ↔ hasOut false c := by decide +kernel
theorem cond16_iff : ∀ c : Dev nD, k0_cond16 c = 1#1 ↔ hasOut true c := by decide +kernel
theorem cond17_iff : ∀ c : Dev nD, k0_cond17 c = 1#1 ↔ hasOut false c := by decide +kernel
theorem cond18_iff : ∀ c : Dev nD, k0_cond18 c = 1#1 ↔ hasOut true c := by decide +kernel

/-! Semaphores of the trip. -/

theorem off1_eq : k0_off1 = ![0 % 6] := by decide +kernel
theorem off3_eq : ∀ t : Trip, k0_off3 t = ![(t.val + 1) % 6] := by decide +kernel
theorem off6_eq : ∀ t : Trip, k0_cond5 t = 1#1 → k0_off6 t = ![(t.val - 2) % 2] := by decide +kernel
theorem off9_eq : ∀ t : Trip, k0_off9 t = ![t.val % 6] := by decide +kernel
theorem off12_eq : ∀ (c : Dev nD) (t : Trip), k0_cond7 c t = 1#1 → k0_off12 c t = ![(t.val - rk false c) % 6] := by decide +kernel
theorem off15_eq : ∀ (c : Dev nD) (t : Trip), k0_cond8 c t = 1#1 → k0_cond9 c t = 1#1 → k0_off15 c t = ![(t.val - rk false c - 2) % 2] := by decide +kernel
theorem off20_eq : ∀ (c : Dev nD) (t : Trip), k0_cond8 c t = 1#1 → k0_off20 c t = ![(t.val - rk false c) % 2] := by decide +kernel
theorem off21_eq : ∀ (c : Dev nD) (t : Trip), k0_cond8 c t = 1#1 → k0_off21 c t = ![(t.val - rk false c) % 6] := by decide +kernel
theorem off24_eq : ∀ (c : Dev nD) (t : Trip), k0_cond10 c t = 1#1 → k0_off24 c t = ![(t.val - rk true c) % 6] := by decide +kernel
theorem off27_eq : ∀ (c : Dev nD) (t : Trip), k0_cond11 c t = 1#1 → k0_cond12 c t = 1#1 → k0_off27 c t = ![(t.val - rk true c - 2) % 2] := by decide +kernel
theorem off32_eq : ∀ (c : Dev nD) (t : Trip), k0_cond11 c t = 1#1 → k0_off32 c t = ![(t.val - rk true c) % 2] := by decide +kernel
theorem off33_eq : ∀ (c : Dev nD) (t : Trip), k0_cond11 c t = 1#1 → k0_off33 c t = ![(t.val - rk true c) % 6] := by decide +kernel
theorem off36_eq : ∀ t : Trip, k0_cond13 t = 1#1 → k0_off36 t = ![(t.val - 3) % 2] := by decide +kernel
theorem off41_eq : ∀ t : Trip, k0_cond13 t = 1#1 → k0_cond14 t = 1#1 → k0_off41 t = ![(t.val - 5) % 2] := by decide +kernel
theorem off44_eq : k0_off44 = ![30 % 2] := by decide +kernel
theorem off47_eq : k0_off47 = ![30 % 2] := by decide +kernel
theorem off52_eq : k0_off52 = ![31 % 2] := by decide +kernel
theorem off55_eq : k0_off55 = ![31 % 2] := by decide +kernel
theorem off50_eq30 : k0_off50 30#32 = ![30 % 2] := by decide +kernel
theorem off50_eq31 : k0_off50 31#32 = ![31 % 2] := by decide +kernel

/-! Slots of the scratch buffers and chunks of the arrays. -/

theorem off2_eq : k0_off2 = ![0 % 6, 0, 0] := by decide +kernel
theorem off4_eq : ∀ t : Trip, k0_off4 t = ![(t.val + 1) % 6, 0, 0] := by decide +kernel
theorem off5_eq : ∀ t : Trip, k0_cond4 t = 1#1 → k0_off5 t = ![0, 256 * ((t.val + 1) % 32), 0] := by decide +kernel
theorem off7_eq : ∀ t : Trip, k0_cond5 t = 1#1 → k0_off7 t = ![(t.val - 2) % 2, 0, 0] := by decide +kernel
theorem off8_eq : ∀ t : Trip, k0_cond5 t = 1#1 → k0_off8 t = ![256 * ((t.val - 2) % 32), 0] := by decide +kernel
theorem off18_eq : ∀ (c : Dev nD) (t : Trip), k0_cond8 c t = 1#1 → k0_off18 c t = ![(t.val - rk false c) % 6, 0, 0] := by decide +kernel
theorem off19_eq : ∀ (c : Dev nD) (t : Trip), k0_cond8 c t = 1#1 → k0_off19 c t = ![(t.val - rk false c) % 2, 0, 0] := by decide +kernel
theorem off22_eq : ∀ (c : Dev nD) (t : Trip), k0_cond8 c t = 1#1 → k0_off22 c t = ![(t.val - rk false c) % 6, 0, 0] := by decide +kernel
theorem off23_eq : ∀ (c : Dev nD) (t : Trip), k0_cond8 c t = 1#1 → k0_off23 c t = ![(t.val - rk false c) % 2, 0, 0] := by decide +kernel
theorem off30_eq : ∀ (c : Dev nD) (t : Trip), k0_cond11 c t = 1#1 → k0_off30 c t = ![(t.val - rk true c) % 6, 0, 0] := by decide +kernel
theorem off31_eq : ∀ (c : Dev nD) (t : Trip), k0_cond11 c t = 1#1 → k0_off31 c t = ![(t.val - rk true c) % 2, 0, 0] := by decide +kernel
theorem off34_eq : ∀ (c : Dev nD) (t : Trip), k0_cond11 c t = 1#1 → k0_off34 c t = ![(t.val - rk true c) % 6, 0, 0] := by decide +kernel
theorem off35_eq : ∀ (c : Dev nD) (t : Trip), k0_cond11 c t = 1#1 → k0_off35 c t = ![(t.val - rk true c) % 2, 0, 0] := by decide +kernel
theorem off37_eq : ∀ t : Trip, k0_cond13 t = 1#1 → k0_off37 t = ![(t.val - 3) % 2, 0, 0] := by decide +kernel
theorem off38_eq : ∀ t : Trip, k0_cond13 t = 1#1 → k0_off38 t = ![256 * ((t.val - 3) % 32), 0] := by decide +kernel
theorem off39_eq : ∀ t : Trip, k0_cond13 t = 1#1 → k0_off39 t = ![(t.val - 3) % 6, 0, 0] := by decide +kernel
theorem off40_eq : ∀ t : Trip, k0_cond13 t = 1#1 → k0_off40 t = ![(t.val - 3) % 2, 0, 0] := by decide +kernel

/-! The neighbours. -/

set_option backward.proofsInPublic true in
/-- One place up the line (round the corner at its end, where nobody sends). -/
def nbUp (c : Dev nD) : Dev nD := ⟨4 * (c.val / 4) + (c.val + 1) % 4, by have := c.isLt; simp only [nD] at *; omega⟩
set_option backward.proofsInPublic true in
/-- One place down the line. -/
def nbDn (c : Dev nD) : Dev nD := ⟨4 * (c.val / 4) + (c.val + 3) % 4, by have := c.isLt; simp only [nD] at *; omega⟩

/-- Where `c` sends in direction `d`. -/
def nb (d : Dir) (c : Dev nD) : Dev nD := if d then nbDn c else nbUp c

theorem nb_nb : ∀ (d : Dir) (c : Dev nD), nb (!d) (nb d c) = c := by decide +kernel
theorem nb_nb' : ∀ (d : Dir) (c : Dev nD), nb d (nb (!d) c) = c := by decide +kernel
theorem rk_not : ∀ (d : Dir) (c : Dev nD), rk (!d) c = 3 - rk d c := by decide +kernel
theorem rk_le : ∀ (d : Dir) (c : Dev nD), rk d c ≤ 3 := by decide +kernel
theorem rk_nb : ∀ (d : Dir) (c : Dev nD), hasOut d c → rk d (nb d c) = rk d c + 1 := by decide +kernel
theorem rk_src : ∀ (d : Dir) (c : Dev nD), hasIn d c → rk d (nb (!d) c) + 1 = rk d c := by decide +kernel
theorem hasIn_nb : ∀ (d : Dir) (c : Dev nD), hasIn d (nb d c) ↔ hasOut d c := by decide +kernel
theorem hasOut_src : ∀ (d : Dir) (c : Dev nD), hasOut d (nb (!d) c) ↔ hasIn d c := by decide +kernel
theorem hasIn_not : ∀ (d : Dir) (c : Dev nD), hasIn (!d) c ↔ hasOut d c := by decide +kernel
theorem hasOut_not : ∀ (d : Dir) (c : Dev nD), hasOut (!d) c ↔ hasIn d c := by decide +kernel

/-- Rotation of every line by one place. -/
def nbEquiv (d : Dir) : Dev nD ≃ Dev nD := ⟨nb d, nb (!d), nb_nb d, nb_nb' d⟩

theorem dev1_eq : ∀ (c : Dev nD), k0_cond1 c = 1#1 → k0_dev1 c = (nb false c).val := by decide +kernel
theorem dev2_eq : ∀ (c : Dev nD), k0_cond2 c = 1#1 → k0_dev2 c = (nb true c).val := by decide +kernel
theorem dev3_eq : ∀ (c : Dev nD), hasOut false c → k0_dev3 c = (nb false c).val := by decide +kernel
theorem dev4_eq : ∀ (c : Dev nD), hasOut true c → k0_dev4 c = (nb true c).val := by decide +kernel

/-- Whether anybody sends to `c` in direction `d`, as the bit the kernel selects by. -/
def bit (d : Dir) (c : Dev nD) : BitVec 1 := if hasIn d c then 1#1 else 0#1

end Cert.KernelIdeal.Tab
-- ==== Proof.KI.Proto.lean ====
/- The protocol of the kernel: the slots and semaphores it names, what each slot carries, and the rounds
   of the cells through which neighbouring devices hand slots over. -/
module

public import proofs.«01_k».proof.Proof.KI.Tables
public import proofs.«01_k».proof.Proof.Kit
public import proofs.«01_k».proof.Proof.Gen.KernelIdeal.Launch
public import proofs.«01_k».proof.Proof.Gen.KernelIdeal.Points

@[expose] public section

noncomputable section

namespace Cert.KernelIdeal.Tab

open Cert.KernelIdeal Cert.KernelIdeal.Gen Cert.Proof.Kit
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Slots and chunks -/

theorem inb6 (k : ℕ) : ∀ a, (![k % 6, 0, 0] : Fin 3 → ℕ) a + S1x256x2048.size a ≤ S6x256x2048.size a := by
  intro a; have := Nat.mod_lt k (show 0 < 6 by decide)
  fin_cases a
  · show k % 6 + 1 ≤ 6; omega
  · show 0 + 256 ≤ 256; omega
  · show 0 + 2048 ≤ 2048; omega
theorem inb2 (k : ℕ) : ∀ a, (![k % 2, 0, 0] : Fin 3 → ℕ) a + S1x256x2048.size a ≤ S2x256x2048.size a := by
  intro a; have := Nat.mod_lt k (show 0 < 2 by decide)
  fin_cases a
  · show k % 2 + 1 ≤ 2; omega
  · show 0 + 256 ≤ 256; omega
  · show 0 + 2048 ≤ 2048; omega
theorem inbX (k : ℕ) : ∀ a, (![0, 256 * (k % 32), 0] : Fin 3 → ℕ) a + S1x256x2048.size a ≤ S1x8192x2048.size a := by
  intro a; have := Nat.mod_lt k (show 0 < 32 by decide)
  fin_cases a
  · show 0 + 1 ≤ 1; omega
  · show 256 * (k % 32) + 256 ≤ 8192; omega
  · show 0 + 2048 ≤ 2048; omega
theorem inbR (k : ℕ) : ∀ a, (![256 * (k % 32), 0] : Fin 2 → ℕ) a + S256x2048.size a ≤ S8192x2048.size a := by
  intro a; have := Nat.mod_lt k (show 0 < 32 by decide)
  fin_cases a
  · show 256 * (k % 32) + 256 ≤ 8192; omega
  · show 0 + 2048 ≤ 2048; omega

/-- Slot `k` (counted round and round) of a buffer of six slots. -/
abbrev sl6 (M : Memref sig .tc .vmem S6x256x2048 .f32) (k : ℕ) : Memref sig .tc .vmem S256x2048 .f32 :=
  (M.slice (Rect.unit (s := S6x256x2048) ![k % 6, 0, 0] S1x256x2048.size (inb6 k)) (fun _ => rfl)).squeeze S256x2048 squeezes_S1x256x2048_S256x2048
/-- Slot `k` of a buffer of two slots. -/
abbrev sl2 (M : Memref sig .tc .vmem S2x256x2048 .f32) (k : ℕ) : Memref sig .tc .vmem S256x2048 .f32 :=
  (M.slice (Rect.unit (s := S2x256x2048) ![k % 2, 0, 0] S1x256x2048.size (inb2 k)) (fun _ => rfl)).squeeze S256x2048 squeezes_S1x256x2048_S256x2048
/-- Chunk `k` of the device's own term of the sum. -/
abbrev xC (k : ℕ) : Memref sig .tc .hbm S256x2048 .f32 :=
  ((Memref.whole main_arg0).slice (Rect.unit (s := S1x8192x2048) ![0, 256 * (k % 32), 0] S1x256x2048.size (inbX k)) (fun _ => rfl)).squeeze S256x2048 squeezes_S1x256x2048_S256x2048
/-- Chunk `k` of the residual. -/
abbrev rC (k : ℕ) : Memref sig .tc .hbm S256x2048 .f32 :=
  (Memref.whole main_arg1).slice (Rect.unit (s := S8192x2048) ![256 * (k % 32), 0] S256x2048.size (inbR k)) (fun _ => rfl)
/-- Chunk `k` of the result. -/
abbrev oC (k : ℕ) : Memref sig .tc .hbm S256x2048 .f32 :=
  (Memref.whole main_v1).slice (Rect.unit (s := S8192x2048) ![256 * (k % 32), 0] S256x2048.size (inbR k)) (fun _ => rfl)

abbrev lxM : Memref sig .tc .vmem S6x256x2048 .f32 := Memref.whole cc0_scratch0
/-- Where arrivals in direction `d` land. -/
abbrev landM : Dir → Memref sig .tc .vmem S6x256x2048 .f32
  | false => Memref.whole cc0_scratch1
  | true => Memref.whole cc0_scratch2
/-- Where departures in direction `d` start from. -/
abbrev sendM : Dir → Memref sig .tc .vmem S2x256x2048 .f32
  | false => Memref.whole cc0_scratch3
  | true => Memref.whole cc0_scratch4
abbrev oxM : Memref sig .tc .vmem S2x256x2048 .f32 := Memref.whole cc0_scratch5
abbrev rxM : Memref sig .tc .vmem S2x256x2048 .f32 := Memref.whole cc0_scratch6

theorem sl6_mod (M : Memref sig .tc .vmem S6x256x2048 .f32) (k : ℕ) : sl6 M (k % 6) = sl6 M k := by
  have h : k % 6 % 6 = k % 6 := Nat.mod_mod _ _
  unfold sl6; congr 2; simp only [h]
theorem sl2_mod (M : Memref sig .tc .vmem S2x256x2048 .f32) (k : ℕ) : sl2 M (k % 2) = sl2 M k := by
  have h : k % 2 % 2 = k % 2 := Nat.mod_mod _ _
  unfold sl2; congr 2; simp only [h]
theorem sl6_congr (M : Memref sig .tc .vmem S6x256x2048 .f32) {k k' : ℕ} (h : k % 6 = k' % 6) : sl6 M k = sl6 M k' := by
  rw [← sl6_mod M k, h, sl6_mod]
theorem sl2_congr (M : Memref sig .tc .vmem S2x256x2048 .f32) {k k' : ℕ} (h : k % 2 = k' % 2) : sl2 M k = sl2 M k' := by
  rw [← sl2_mod M k, h, sl2_mod]

/-! ## Semaphores -/

theorem inbS6 (k : ℕ) : ∀ a, (![k % 6] : Fin 1 → ℕ) a + S1.size a ≤ S6.size a := by
  intro a; have := Nat.mod_lt k (show 0 < 6 by decide)
  fin_cases a; show k % 6 + 1 ≤ 6; omega
theorem inbS2 (k : ℕ) : ∀ a, (![k % 2] : Fin 1 → ℕ) a + S1.size a ≤ S2.size a := by
  intro a; have := Nat.mod_lt k (show 0 < 2 by decide)
  fin_cases a; show k % 2 + 1 ≤ 2; omega

abbrev sem6 (A : DmaSems sig S6) (k : ℕ) : DmaSem sig := ((A.slice (Rect.unit (s := S6) ![k % 6] S1.size (inbS6 k))).squeeze S_ squeezes_S1_S_).sem
abbrev sem2 (A : DmaSems sig S2) (k : ℕ) : DmaSem sig := ((A.slice (Rect.unit (s := S2) ![k % 2] S1.size (inbS2 k))).squeeze S_ squeezes_S1_S_).sem

abbrev loadS (k : ℕ) : DmaSem sig := sem6 cc0_scratch7 k
abbrev residS (k : ℕ) : DmaSem sig := sem2 cc0_scratch8 k
abbrev outS (k : ℕ) : DmaSem sig := sem2 cc0_scratch9 k
abbrev sendA : Dir → DmaSems sig S2
  | false => cc0_scratch10
  | true => cc0_scratch12
abbrev recvA : Dir → DmaSems sig S6
  | false => cc0_scratch11
  | true => cc0_scratch13
abbrev sendS (d : Dir) (k : ℕ) : DmaSem sig := sem2 (sendA d) k
abbrev recvS (d : Dir) (k : ℕ) : DmaSem sig := sem6 (recvA d) k

theorem sem6_of {A : DmaSems sig S6} {b : ℕ} (h : ∀ s : Fin 6, (sem6 A s.val).val = b + s.val) (k : ℕ) : (sem6 A k).val = b + k % 6 := by
  have e : sem6 A k = sem6 A (k % 6) := by
    have h : k % 6 % 6 = k % 6 := Nat.mod_mod _ _
    unfold sem6; congr 3; simp only [h]
  rw [e]; exact h ⟨k % 6, Nat.mod_lt _ (by decide)⟩
theorem sem2_of {A : DmaSems sig S2} {b : ℕ} (h : ∀ s : Fin 2, (sem2 A s.val).val = b + s.val) (k : ℕ) : (sem2 A k).val = b + k % 2 := by
  have e : sem2 A k = sem2 A (k % 2) := by
    have h : k % 2 % 2 = k % 2 := Nat.mod_mod _ _
    unfold sem2; congr 3; simp only [h]
  rw [e]; exact h ⟨k % 2, Nat.mod_lt _ (by decide)⟩

theorem loadS_val (k : ℕ) : (loadS k).val = 1 + k % 6 := sem6_of (by decide +kernel) k
theorem residS_val (k : ℕ) : (residS k).val = 7 + k % 2 := sem2_of (by decide +kernel) k
theorem outS_val (k : ℕ) : (outS k).val = 9 + k % 2 := sem2_of (by decide +kernel) k
theorem sendS_val (d : Dir) (k : ℕ) : (sendS d k).val = (if d then 19 else 11) + k % 2 := by
  cases d <;> exact sem2_of (by decide +kernel) k
theorem recvS_val (d : Dir) (k : ℕ) : (recvS d k).val = (if d then 21 else 13) + k % 6 := by
  cases d <;> exact sem6_of (by decide +kernel) k

theorem sem6_congr (A : DmaSems sig S6) {k k' : ℕ} (h : k % 6 = k' % 6) : sem6 A k = sem6 A k' := by
  unfold sem6; congr 3; simp only [h]
theorem sem2_congr (A : DmaSems sig S2) {k k' : ℕ} (h : k % 2 = k' % 2) : sem2 A k = sem2 A k' := by
  unfold sem2; congr 3; simp only [h]

abbrev barS : Sem sig := barrier0

abbrev barCell (c : Dev nD) : GSem nD τ sig := ((c : Thread nD τ), .reg barrier0)
abbrev sendCell (d : Dir) (c : Dev nD) (k : ℕ) : GSem nD τ sig := ((c : Thread nD τ), .dma (sendS d k))
abbrev recvCell (d : Dir) (c : Dev nD) (k : ℕ) : GSem nD τ sig := ((c : Thread nD τ), .dma (recvS d k))

/-- What a semaphore is for, of those by which devices talk to each other. -/
inductive CK where
  | bar
  | send (d : Dir) (s : ℕ)
  | recv (d : Dir) (s : ℕ)
  | other

def kind : SemLoc sig → CK
  | .reg _ => .bar
  | .dma i => if i.val < 11 then .other else if i.val < 13 then .send false (i.val - 11) else if i.val < 19 then .recv false (i.val - 13)
      else if i.val < 21 then .send true (i.val - 19) else .recv true (i.val - 21)

def kindG (g : GSem nD τ sig) : CK := if g.1.2 = .tc then kind g.2 else .other

theorem kindG_bar (c : Dev nD) : kindG (barCell c) = .bar := by unfold kindG; rw [if_pos rfl]; rfl
theorem kindG_send (d : Dir) (c : Dev nD) (k : ℕ) : kindG (sendCell d c k) = .send d (k % 2) := by
  unfold kindG; rw [if_pos rfl]
  have h := sendS_val d k
  have := Nat.mod_lt k (show 0 < 2 by decide)
  show (if (sendS d k).val < 11 then CK.other else _) = _
  cases d
  · have h' : (sendS false k).val = 11 + k % 2 := h
    rw [if_neg (by omega), if_pos (by omega)]; congr 1; omega
  · have h' : (sendS true k).val = 19 + k % 2 := h
    rw [if_neg (by omega), if_neg (by omega), if_neg (by omega), if_pos (by omega)]; congr 1; omega
theorem kindG_recv (d : Dir) (c : Dev nD) (k : ℕ) : kindG (recvCell d c k) = .recv d (k % 6) := by
  unfold kindG; rw [if_pos rfl]
  have h := recvS_val d k
  have := Nat.mod_lt k (show 0 < 6 by decide)
  show (if (recvS d k).val < 11 then CK.other else _) = _
  cases d
  · have h' : (recvS false k).val = 13 + k % 6 := h
    rw [if_neg (by omega), if_neg (by omega), if_pos (by omega)]; congr 1; omega
  · have h' : (recvS true k).val = 21 + k % 6 := h
    rw [if_neg (by omega), if_neg (by omega), if_neg (by omega), if_neg (by omega)]; congr 1; omega

/-! ## What is computed -/

/-- A slot's payload: the device's own chunk, and the arrival added where there is one. -/
def stepv (b : BitVec 1) (x y : Vec F S256x2048 .f32) : Vec F S256x2048 .f32 :=
  shapeCast S256x2048 (k0_pay2 b (shapeCast S1x256x2048 x shapeCasts_S256x2048_S1x256x2048) (shapeCast S1x256x2048 y shapeCasts_S256x2048_S1x256x2048)) shapeCasts_S1x256x2048_S256x2048

/-- A chunk of the result: own term, residual, what arrives from below and from above. -/
def outv (b b' : BitVec 1) (x r y y' : Vec F S256x2048 .f32) (g : Vec F S2048 .f32) : Vec F S256x2048 .f32 :=
  shapeCast S256x2048
    (k0_pay1
      (k0_pay4 b b' (shapeCast S1x256x2048 x shapeCasts_S256x2048_S1x256x2048) (shapeCast S1x256x2048 r shapeCasts_S256x2048_S1x256x2048)
        (shapeCast S1x256x2048 y shapeCasts_S256x2048_S1x256x2048) (shapeCast S1x256x2048 y' shapeCasts_S256x2048_S1x256x2048))
      (k0_pay5 b b' (shapeCast S1x256x2048 x shapeCasts_S256x2048_S1x256x2048) (shapeCast S1x256x2048 r shapeCasts_S256x2048_S1x256x2048)
        (shapeCast S1x256x2048 y shapeCasts_S256x2048_S1x256x2048) (shapeCast S1x256x2048 y' shapeCasts_S256x2048_S1x256x2048))
      (Scalar.ofBits .f32 0x358637BD#32) g)
    shapeCasts_S1x256x2048_S256x2048

theorem stepv_zero (x y y' : Vec F S256x2048 .f32) : stepv 0#1 x y = stepv 0#1 x y' := rfl
theorem outv_zero (b' : BitVec 1) (x r y z y' : Vec F S256x2048 .f32) (g : Vec F S2048 .f32) : outv 0#1 b' x r y z g = outv 0#1 b' x r y' z g := rfl
theorem outv_zero' (b : BitVec 1) (x r y z z' : Vec F S256x2048 .f32) (g : Vec F S2048 .f32) : outv b 0#1 x r y z g = outv b 0#1 x r y z' g := rfl

variable (m : (ℓ : Loc nD τ sig) → Buf (Elt F) ℓ)

/-- The device's own chunk, the residual's, and the scale. -/
def xV (c : Dev nD) (k : ℕ) : Vec F S256x2048 .f32 := (xC k).view.read (Elt F) (m ((c : Thread nD τ).loc main_arg0))
def rV (c : Dev nD) (k : ℕ) : Vec F S256x2048 .f32 := (rC k).view.read (Elt F) (m ((c : Thread nD τ).loc main_arg1))
def gV (c : Dev nD) : Vec F S2048 .f32 := (win0_0.blk (0 : Fin 1)).view.read (Elt F) (m ((c : Thread nD τ).loc main_arg2))

/-- The partial sum over `n + 1` devices: `c` and the `n` behind it in direction `d`. -/
def accN (d : Dir) : ℕ → Dev nD → ℕ → Vec F S256x2048 .f32
  | 0, c, k => stepv 0#1 (xV m c k) (xV m c k)
  | n + 1, c, k => stepv 1#1 (xV m c k) (accN d n (nb (!d) c) k)

/-- What `c` sends on in direction `d`. -/
def acc (d : Dir) (c : Dev nD) (k : ℕ) : Vec F S256x2048 .f32 := accN m d (rk d c) c k
/-- What arrives at `c` in direction `d`. -/
def arr (d : Dir) (c : Dev nD) (k : ℕ) : Vec F S256x2048 .f32 := acc m d (nb (!d) c) k
/-- Chunk `k` of the result on `c`. -/
def res (c : Dev nD) (k : ℕ) : Vec F S256x2048 .f32 :=
  outv (bit false c) (bit true c) (xV m c k) (rV m c k) (arr m false c k) (arr m true c k) (gV m c)

theorem step_acc (d : Dir) (c : Dev nD) (k : ℕ) (Y : Vec F S256x2048 .f32) (h : hasIn d c → Y = arr m d c k) :
    stepv (bit d c) (xV m c k) Y = acc m d c k := by
  unfold acc bit
  by_cases hi : hasIn d c
  · rw [if_pos hi, h hi, ← rk_src d c hi]; rfl
  · rw [if_neg hi, show rk d c = 0 from Nat.eq_zero_of_not_pos hi]; exact stepv_zero _ _ _

theorem out_res (c : Dev nD) (k : ℕ) (Y Y' : Vec F S256x2048 .f32) (h : hasIn false c → Y = arr m false c k) (h' : hasIn true c → Y' = arr m true c k) :
    outv (bit false c) (bit true c) (xV m c k) (rV m c k) Y Y' (gV m c) = res m c k := by
  unfold res
  by_cases hi : hasIn false c
  · rw [h hi]
    by_cases hi' : hasIn true c
    · rw [h' hi']
    · rw [show bit true c = 0#1 from if_neg hi']; exact outv_zero' _ _ _ _ _ _ _
  · rw [show bit false c = 0#1 from if_neg hi]
    by_cases hi' : hasIn true c
    · rw [h' hi']; exact outv_zero _ _ _ _ _ _ _
    · rw [show bit true c = 0#1 from if_neg hi', outv_zero 0#1 _ _ Y Y' (arr m false c k)]; exact outv_zero' _ _ _ _ _ _ _

/-! ## The schedule -/

abbrev UB : Type := URounds (GSem nD τ sig) Bool
abbrev UU : Type := UR sig nD τ × (UB × Counters)

local notation "𝕄" => MT nD τ sig ℕ (Elt F) ℕ UU ℕ

abbrev EP : Emb (UR sig nD τ) 𝕄 := embL
def ER : Emb UB 𝕄 :=
  ((Emb.inl : Emb UB (UB × Counters)).trans (Emb.inr : Emb (UB × Counters) UU)).trans
    (uEmb (nD := nD) (sig := sig) (Ix := ℕ) (Val := Elt F) (Name := ℕ) (U := UU) (Lvl := ℕ)).toEmb
instance ER_landsIn : (ER : Emb UB 𝕄).LandsIn (upEmb : UEmb _ 𝕄) := by unfold ER; infer_instance
abbrev EC : UEmb Counters 𝕄 := countersEmb

/-- The credit of a transfer of one slot. -/
def N : ℕ := (sl6 lxM 0).view.dmaCredit
theorem N_pos : 0 < N := View.dmaCredit_pos _ (by decide)
theorem N_lx (k : ℕ) : (sl6 lxM k).view.dmaCredit = N := rfl
theorem N_land (d : Dir) (k : ℕ) : (sl6 (landM d) k).view.dmaCredit = N := by cases d <;> rfl
theorem N_send (d : Dir) (k : ℕ) : (sl2 (sendM d) k).view.dmaCredit = N := by cases d <;> rfl
theorem N_rx (k : ℕ) : (sl2 rxM k).view.dmaCredit = N := rfl
theorem N_oC (k : ℕ) : (oC k).view.dmaCredit = N := rfl

/-! The credit is the same for every view a wait names. -/

theorem Nw_lx {off : Fin 3 → ℕ} {inb : ∀ a, off a + S1x256x2048.size a ≤ S6x256x2048.size a} :
    (((lxM : Memref sig .tc .vmem S6x256x2048 .f32).slice (Rect.unit (s := S6x256x2048) off S1x256x2048.size inb) (fun _ => rfl)).squeeze S256x2048 squeezes_S1x256x2048_S256x2048).view.dmaCredit = N :=
  .trans rfl (N_lx 0)
theorem Nw_land (d : Dir) {off : Fin 3 → ℕ} {inb : ∀ a, off a + S1x256x2048.size a ≤ S6x256x2048.size a} :
    (((landM d : Memref sig .tc .vmem S6x256x2048 .f32).slice (Rect.unit (s := S6x256x2048) off S1x256x2048.size inb) (fun _ => rfl)).squeeze S256x2048 squeezes_S1x256x2048_S256x2048).view.dmaCredit = N :=
  .trans rfl (N_land d 0)
theorem Nw_send (d : Dir) {off : Fin 3 → ℕ} {inb : ∀ a, off a + S1x256x2048.size a ≤ S2x256x2048.size a} :
    (((sendM d : Memref sig .tc .vmem S2x256x2048 .f32).slice (Rect.unit (s := S2x256x2048) off S1x256x2048.size inb) (fun _ => rfl)).squeeze S256x2048 squeezes_S1x256x2048_S256x2048).view.dmaCredit = N :=
  .trans rfl (N_send d 0)
theorem Nw_rx {off : Fin 3 → ℕ} {inb : ∀ a, off a + S1x256x2048.size a ≤ S2x256x2048.size a} :
    (((rxM : Memref sig .tc .vmem S2x256x2048 .f32).slice (Rect.unit (s := S2x256x2048) off S1x256x2048.size inb) (fun _ => rfl)).squeeze S256x2048 squeezes_S1x256x2048_S256x2048).view.dmaCredit = N :=
  .trans rfl (N_rx 0)
theorem Nw_out {off : Fin 2 → ℕ} {inb : ∀ a, off a + S256x2048.size a ≤ S8192x2048.size a} :
    ((Memref.whole main_v1).slice (Rect.unit (s := S8192x2048) off S256x2048.size inb) (fun _ => rfl)).view.dmaCredit = N :=
  .trans rfl (N_oC 0)

/-- A slot of one of `c`'s buffers, with whatever it holds. -/
def some6 (c : Dev nD) (M : Memref sig .tc .vmem S6x256x2048 .f32) (k : ℕ) : sProp 𝕄 :=
  iprop(∃ X : Vec F S256x2048 .f32, owns (c : Thread nD τ) (sl6 M k) fullShare X)
def some2 (c : Dev nD) (M : Memref sig .tc .vmem S2x256x2048 .f32) (k : ℕ) : sProp 𝕄 :=
  iprop(∃ X : Vec F S256x2048 .f32, owns (c : Thread nD τ) (sl2 M k) fullShare X)

instance some6_storable (c : Dev nD) (M : Memref sig .tc .vmem S6x256x2048 .f32) (k : ℕ) : BI.Storable (upEmb : UEmb _ 𝕄) (some6 (F := F) c M k) := by
  unfold some6; infer_instance
instance some2_storable (c : Dev nD) (M : Memref sig .tc .vmem S2x256x2048 .f32) (k : ℕ) : BI.Storable (upEmb : UEmb _ 𝕄) (some2 (F := F) c M k) := by
  unfold some2; infer_instance

/-- A landing slot given back: `e` has read arrival `k` of direction `d` and will not look there before round `k / 6 + 1`. -/
def freed (d : Dir) (e : Dev nD) (k : ℕ) : sProp 𝕄 :=
  iprop(some6 e (landM d) k ∗ reached ER (recvCell d e k) (k / 6 + 1))
instance freed_storable (d : Dir) (e : Dev nD) (k : ℕ) : BI.Storable (upEmb : UEmb _ 𝕄) (freed (F := F) d e k) := by
  unfold freed; infer_instance

/-- What a transfer started in trip `τ` by `e` in direction `d` gives back of the opposite direction's landing slots. -/
def back (d : Dir) (e : Dev nD) (τ : ℕ) : sProp 𝕄 :=
  if 4 ≤ τ ∧ τ ≤ 29 then freed (!d) e (τ - 4) else iprop(emp)
instance back_storable (d : Dir) (e : Dev nD) (τ : ℕ) : BI.Storable (upEmb : UEmb _ 𝕄) (back (F := F) d e τ) := by
  unfold back; split <;> infer_instance

/-- At the barrier `c` hears from the device it sends to in direction `d`: all six landing slots there. -/
def barPay (d : Dir) (c : Dev nD) : sProp 𝕄 := Seg 0 6 (some6 (nb d c) (landM d))
instance barPay_storable (d : Dir) (c : Dev nD) : BI.Storable (upEmb : UEmb _ 𝕄) (barPay (F := F) d c) := by
  unfold barPay Seg; infer_instance

def recvPay (d : Dir) (c : Dev nD) (k : ℕ) : sProp 𝕄 :=
  iprop(owns (c : Thread nD τ) (sl6 (landM d) k) fullShare (arr m d c k) ∗ back d (nb (!d) c) (k + rk d (nb (!d) c)))
instance recvPay_storable (d : Dir) (c : Dev nD) (k : ℕ) : BI.Storable (upEmb : UEmb _ 𝕄) (recvPay m d c k) := by
  unfold recvPay; infer_instance

def Rd : Rounds.Schedule (GSem nD τ sig) Bool 𝕄 where
  duties g r := match kindG g with
    | .bar => if r = 0 then Finset.univ.filter (fun d => hasOut d g.1.1) else ∅
    | .send d s => if hasOut d g.1.1 ∧ 2 * r + s < 32 then {false} else ∅
    | .recv d s => if hasIn d g.1.1 ∧ 6 * r + s < 32 then {false} else ∅
    | .other => ∅
  unitless _ := False
  amount g _ _ := match kindG g with
    | .bar => 1
    | _ => N
  payload g r b := match kindG g with
    | .bar => barPay b g.1.1
    | .send d s => some2 g.1.1 (sendM d) (2 * r + s)
    | .recv d s => recvPay m d g.1.1 (6 * r + s)
    | .other => iprop(emp)
  amount_pos g _ _ _ := by cases kindG g <;> first | exact Nat.one_pos | exact N_pos

instance Rd_payload_storable (g : GSem nD τ sig) (r : ℕ) (b : Bool) : BI.Storable (upEmb : UEmb _ 𝕄) ((Rd (F := F) m).payload g r b) := by
  dsimp only [Rd]; split <;> infer_instance

theorem duties_bar (c : Dev nD) : (Rd (F := F) m).duties (barCell c) 0 = Finset.univ.filter (fun d => hasOut d c) := by
  dsimp only [Rd]; rw [kindG_bar]; rfl
theorem duties_send (d : Dir) (c : Dev nD) (k : ℕ) (h : hasOut d c) (hk : k < 32) : (Rd (F := F) m).duties (sendCell d c k) (k / 2) = {false} := by
  dsimp only [Rd]; rw [kindG_send]; exact if_pos ⟨h, by omega⟩
theorem duties_recv (d : Dir) (c : Dev nD) (k : ℕ) (h : hasIn d c) (hk : k < 32) : (Rd (F := F) m).duties (recvCell d c k) (k / 6) = {false} := by
  dsimp only [Rd]; rw [kindG_recv]; exact if_pos ⟨h, by omega⟩
theorem duties_send_end (d : Dir) (c : Dev nD) (k : ℕ) (h : ¬hasOut d c ∨ 32 ≤ k) (r : ℕ) (hr : k / 2 ≤ r) : (Rd (F := F) m).duties (sendCell d c k) r = ∅ := by
  dsimp only [Rd]; rw [kindG_send]; exact if_neg (fun h' => h.elim (· h'.1) (fun hk => by omega))
theorem duties_recv_end (d : Dir) (c : Dev nD) (k : ℕ) (h : ¬hasIn d c ∨ 32 ≤ k) (r : ℕ) (hr : k / 6 ≤ r) : (Rd (F := F) m).duties (recvCell d c k) r = ∅ := by
  dsimp only [Rd]; rw [kindG_recv]; exact if_neg (fun h' => h.elim (· h'.1) (fun hk => by omega))
theorem duties_bar_end (c : Dev nD) (r : ℕ) (hr : 1 ≤ r) : (Rd (F := F) m).duties (barCell c) r = ∅ := by
  dsimp only [Rd]; rw [kindG_bar]; exact if_neg (by omega)

theorem amount_bar (c : Dev nD) (r : ℕ) (b : Bool) : (Rd (F := F) m).amount (barCell c) r b = 1 := by dsimp only [Rd]; rw [kindG_bar]
theorem amount_send (d : Dir) (c : Dev nD) (k r : ℕ) (b : Bool) : (Rd (F := F) m).amount (sendCell d c k) r b = N := by dsimp only [Rd]; rw [kindG_send]
theorem amount_recv (d : Dir) (c : Dev nD) (k r : ℕ) (b : Bool) : (Rd (F := F) m).amount (recvCell d c k) r b = N := by dsimp only [Rd]; rw [kindG_recv]

theorem payload_bar (c : Dev nD) (r : ℕ) (d : Dir) : (Rd (F := F) m).payload (barCell c) r d = barPay d c := by dsimp only [Rd]; rw [kindG_bar]
theorem payload_send (d : Dir) (c : Dev nD) (k : ℕ) (b : Bool) : (Rd (F := F) m).payload (sendCell d c k) (k / 2) b = some2 c (sendM d) k := by
  dsimp only [Rd]; rw [kindG_send]; show some2 c (sendM d) (2 * (k / 2) + k % 2) = _; rw [Nat.div_add_mod]
theorem payload_recv (d : Dir) (c : Dev nD) (k : ℕ) (b : Bool) : (Rd (F := F) m).payload (recvCell d c k) (k / 6) b = recvPay m d c k := by
  dsimp only [Rd]; rw [kindG_recv]; show recvPay m d c (6 * (k / 6) + k % 6) = _; rw [Nat.div_add_mod]

theorem expect_send (d : Dir) (c : Dev nD) (k : ℕ) (h : hasOut d c) (hk : k < 32) : (Rd (F := F) m).expect (sendCell d c k) (k / 2) = N := by
  unfold Schedule.expect Schedule.amountOf; rw [duties_send m d c k h hk, Finset.sum_singleton, amount_send]
theorem expect_recv (d : Dir) (c : Dev nD) (k : ℕ) (h : hasIn d c) (hk : k < 32) : (Rd (F := F) m).expect (recvCell d c k) (k / 6) = N := by
  unfold Schedule.expect Schedule.amountOf; rw [duties_recv m d c k h hk, Finset.sum_singleton, amount_recv]

theorem rest_send (d : Dir) (c : Dev nD) (k : ℕ) (h : hasOut d c) (hk : k < 32) :
    bigSep ((Rd (F := F) m).duties (sendCell d c k) (k / 2) \ ∅) (fun b => (Rd (F := F) m).payload (sendCell d c k) (k / 2) b) = some2 c (sendM d) k := by
  rw [Finset.sdiff_empty, duties_send m d c k h hk, bigSep_singleton, payload_send]
theorem rest_recv (d : Dir) (c : Dev nD) (k : ℕ) (h : hasIn d c) (hk : k < 32) :
    bigSep ((Rd (F := F) m).duties (recvCell d c k) (k / 6) \ ∅) (fun b => (Rd (F := F) m).payload (recvCell d c k) (k / 6) b) = recvPay m d c k := by
  rw [Finset.sdiff_empty, duties_recv m d c k h hk, bigSep_singleton, payload_recv]

/-! ## What is owed -/

/-- The transfers of direction `d` from the `n`-th on, as `c` owes them to its neighbour. -/
def oSend (d : Dir) (c : Dev nD) (n : ℕ) : CellTallies nD τ sig ℕ :=
  if hasOut d c then ∑ k ∈ Finset.Ico n 32, tallyAt (recvCell d (nb d c) k) (k + rk d c + 2) N else 0
/-- The barrier signals. -/
def oBar (d : Dir) (c : Dev nD) : CellTallies nD τ sig ℕ :=
  if hasOut d c then tallyAt (barCell (nb d c)) 1 1 else 0

theorem oSend_step (d : Dir) (c : Dev nD) (n : ℕ) (h : hasOut d c) (hn : n < 32) :
    oSend d c n = oSend d c (n + 1) + tallyAt (recvCell d (nb d c) n) (n + rk d c + 2) N := by
  unfold oSend; rw [if_pos h, if_pos h]
  rw [show Finset.Ico n 32 = insert n (Finset.Ico (n + 1) 32) by ext x; simp only [Finset.mem_insert, Finset.mem_Ico]; omega,
    Finset.sum_insert (by simp), add_comm]
theorem oSend_end (d : Dir) (c : Dev nD) (n : ℕ) (hn : 32 ≤ n) : oSend d c n = 0 := by
  unfold oSend; rw [Finset.Ico_eq_empty (by omega), Finset.sum_empty, ite_self]
theorem oSend_pos {d : Dir} {c : Dev nD} {n : ℕ} {g : GSem nD τ sig} {u : ℕ} (h : 0 < oSend d c n g u) :
    g.1.2 = .tc ∧ hasOut d c ∧ n + rk d c + 2 ≤ u ∧ u < 64 := by
  unfold oSend at h
  by_cases ho : hasOut d c
  · rw [if_pos ho, Finset.sum_apply, Finsupp.coe_finset_sum, Finset.sum_apply] at h
    obtain ⟨k, hk, hp⟩ := Finset.exists_ne_zero_of_sum_ne_zero (Nat.pos_iff_ne_zero.mp h)
    rw [tallyAt_apply] at hp
    have hg : g = recvCell d (nb d c) k ∧ u = k + rk d c + 2 := by
      by_contra hn; rw [if_neg (fun h' => hn ⟨h'.1, h'.2⟩)] at hp; exact hp rfl
    have := Finset.mem_Ico.mp hk
    have hr : rk d c < 3 := ho
    exact ⟨by rw [hg.1], ho, by omega, by omega⟩
  · rw [if_neg ho] at h; exact absurd h (Nat.lt_irrefl 0)
theorem oBar_pos {d : Dir} {c : Dev nD} {g : GSem nD τ sig} {u : ℕ} (h : 0 < oBar d c g u) : g.1.2 = .tc ∧ u = 1 := by
  unfold oBar at h
  by_cases ho : hasOut d c
  · rw [if_pos ho, tallyAt_apply] at h
    by_contra hn
    rw [if_neg (fun h' => hn ⟨by rw [h'.1], h'.2⟩)] at h; exact Nat.lt_irrefl 0 h
  · rw [if_neg ho] at h; exact absurd h (Nat.lt_irrefl 0)

def L (g : GSem nD τ sig) : Finset ℕ := if g.1.2 = .tc then Finset.range 64 else ∅
def lv (_ : GSem nD τ sig) (u : ℕ) : ℕ := u

/-- What `c` owes with `n` transfers of the one direction and `n'` of the other still to be counted from. -/
abbrev oTot (c : Dev nD) (n n' : ℕ) : CellTallies nD τ sig ℕ := oSend false c n + oSend true c n'

/-- A wait at index `u` is allowed below everything owed. -/
theorem mayWait_of (c : Dev nD) (sm : SemLoc sig) (u : ℕ) (hu : u < 64) (O : CellTallies nD τ sig ℕ)
    (hO : ∀ g v, 0 < O g v → g.1.2 = .tc ∧ u < v ∧ v < 64) : (levAts L lv : sProp 𝕄) ⊢ MayWait (c : Thread nD τ) sm u O := by
  refine MayOwe.of_cut (L := L) (lev := lv) u ?_ ?_ ?_ ?_
  · intro p hp; rw [Finset.mem_singleton.mp hp]; unfold L; rw [if_pos rfl]; exact Finset.mem_range.mpr hu
  · intro g v hg; unfold L; rw [if_pos (hO g v hg).1]; exact Finset.mem_range.mpr (hO g v hg).2.2
  · intro p hp; rw [Finset.mem_singleton.mp hp]; exact le_refl _
  · intro g v hg; exact (hO g v hg).2.1

theorem mayWait_tot (c : Dev nD) (sm : SemLoc sig) (u n n' : ℕ) (hu : u < 64)
    (h : hasOut false c → n < 32 → u < n + rk false c + 2) (h' : hasOut true c → n' < 32 → u < n' + rk true c + 2) :
    (levAts L lv : sProp 𝕄) ⊢ MayWait (c : Thread nD τ) sm u (oTot c n n') := by
  refine mayWait_of c sm u hu _ fun g v hg => ?_
  have hs : 0 < oSend false c n g v ∨ 0 < oSend true c n' g v := by
    have hg' : 0 < (oSend false c n + oSend true c n') g v := hg
    rw [Pi.add_apply, Finsupp.add_apply] at hg'; omega
  rcases hs with hs | hs
  · obtain ⟨h1, h2, h3, h4⟩ := oSend_pos hs
    rcases Nat.lt_or_ge n 32 with hn | hn
    · have := h h2 hn; exact ⟨h1, by omega, h4⟩
    · rw [oSend_end false c n hn] at hs; exact absurd hs (Nat.lt_irrefl 0)
  · obtain ⟨h1, h2, h3, h4⟩ := oSend_pos hs
    rcases Nat.lt_or_ge n' 32 with hn | hn
    · have := h' h2 hn; exact ⟨h1, by omega, h4⟩
    · rw [oSend_end true c n' hn] at hs; exact absurd hs (Nat.lt_irrefl 0)

end Cert.KernelIdeal.Tab
-- ==== Proof.KI.Copies.lean ====
/- The device's own copies: chunks brought in from the large arrays, results sent back out. -/
module

public import proofs.«01_k».proof.Proof.KI.Proto

@[expose] public section

noncomputable section

namespace Cert.KernelIdeal.Tab

open Cert.KernelIdeal Cert.KernelIdeal.Gen Cert.Proof.Kit
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

abbrev 𝒱₀ : Variants := Variants.none

/-! ## The printed views are the slots and chunks -/

section Views
variable {hr3 : ∀ a : Fin 3, (fun _ : Fin 3 => 1) a = 1}

theorem sl6_of {M : Memref sig .tc .vmem S6x256x2048 .f32} {off : Fin 3 → ℕ} {inb : ∀ a, off a + S1x256x2048.size a ≤ S6x256x2048.size a} {k : ℕ} (h : off = ![k % 6, 0, 0]) :
    (M.slice (Rect.unit (s := S6x256x2048) off S1x256x2048.size inb) (fun _ => rfl)).squeeze S256x2048 squeezes_S1x256x2048_S256x2048 = sl6 M k := by subst h; rfl
theorem sl2_of {M : Memref sig .tc .vmem S2x256x2048 .f32} {off : Fin 3 → ℕ} {inb : ∀ a, off a + S1x256x2048.size a ≤ S2x256x2048.size a} {k : ℕ} (h : off = ![k % 2, 0, 0]) :
    (M.slice (Rect.unit (s := S2x256x2048) off S1x256x2048.size inb) (fun _ => rfl)).squeeze S256x2048 squeezes_S1x256x2048_S256x2048 = sl2 M k := by subst h; rfl
theorem xC_of {off : Fin 3 → ℕ} {inb : ∀ a, off a + S1x256x2048.size a ≤ S1x8192x2048.size a} {k : ℕ} (h : off = ![0, 256 * (k % 32), 0]) :
    ((Memref.whole main_arg0).slice (Rect.unit (s := S1x8192x2048) off S1x256x2048.size inb) (fun _ => rfl)).squeeze S256x2048 squeezes_S1x256x2048_S256x2048 = xC k := by subst h; rfl
theorem rC_of {off : Fin 2 → ℕ} {inb : ∀ a, off a + S256x2048.size a ≤ S8192x2048.size a} {k : ℕ} (h : off = ![256 * (k % 32), 0]) :
    (Memref.whole main_arg1).slice (Rect.unit (s := S8192x2048) off S256x2048.size inb) (fun _ => rfl) = rC k := by subst h; rfl
theorem oC_of {off : Fin 2 → ℕ} {inb : ∀ a, off a + S256x2048.size a ≤ S8192x2048.size a} {k : ℕ} (h : off = ![256 * (k % 32), 0]) :
    (Memref.whole main_v1).slice (Rect.unit (s := S8192x2048) off S256x2048.size inb) (fun _ => rfl) = oC k := by subst h; rfl
theorem s6_of {A : DmaSems sig S6} {off : Fin 1 → ℕ} {inb : ∀ a, off a + S1.size a ≤ S6.size a} {k : ℕ} (h : off = ![k % 6]) :
    ((A.slice (Rect.unit (s := S6) off S1.size inb)).squeeze S_ squeezes_S1_S_).sem = sem6 A k := by subst h; rfl
theorem s2_of {A : DmaSems sig S2} {off : Fin 1 → ℕ} {inb : ∀ a, off a + S1.size a ≤ S2.size a} {k : ℕ} (h : off = ![k % 2]) :
    ((A.slice (Rect.unit (s := S2) off S1.size inb)).squeeze S_ squeezes_S1_S_).sem = sem2 A k := by subst h; rfl

end Views

/-! ## Bringing chunks in -/

section In

variable (n : ℕ) (src : ℕ → Memref sig .tc .hbm S256x2048 .f32) (dst : ℕ → Memref sig .tc .vmem S256x2048 .f32) (sm : ℕ → DmaSem sig)
  (V : ℕ → Vec F S256x2048 .f32) (c : Dev nD)

/-- A slot with whatever it holds, its semaphore at rest. -/
abbrev slotFree (k : ℕ) : sProp 𝕄 :=
  iprop((∃ X : Vec F S256x2048 .f32, owns (c : Thread nD τ) (dst k) fullShare X) ∗ semVal ((c : Thread nD τ), SemLoc.dma (sm k)) 0)
/-- A slot holding chunk `k`. -/
abbrev slotFull (k : ℕ) : sProp 𝕄 :=
  iprop(owns (c : Thread nD τ) (dst k) fullShare (V k) ∗ semVal ((c : Thread nD τ), SemLoc.dma (sm k)) 0)
abbrev srcOwn (k : ℕ) : sProp 𝕄 := owns (c : Thread nD τ) (src k) fullShare (V k)
abbrev inFly (k : ℕ) : sProp 𝕄 :=
  Transfers.Flight EC (c : Thread nD τ) (.dma (sm k)) 0 N iprop(owns (c : Thread nD τ) (dst k) fullShare (V k) ∗ owns (c : Thread nD τ) (src k) fullShare (V k))

/-- `a` copies started, `b` of them waited for, `h` of those used up. -/
def Cin (a b h : ℕ) : sProp 𝕄 :=
  iprop(Seg a 32 (srcOwn src V c) ∗ Seg 0 b (srcOwn src V c) ∗ Seg a (h + n) (slotFree dst sm c) ∗ Seg b a (inFly src dst sm V c)
    ∗ Seg h b (slotFull dst sm V c))

variable {n src dst sm V c} {a b h : ℕ}

theorem cin_start (hN : ∀ k, (dst k).view.dmaCredit = N) (ha : a < 32) (hah : a < h + n) (hba : b ≤ a)
    {s : Memref sig .tc .hbm S256x2048 .f32} {d : Memref sig .tc .vmem S256x2048 .f32} {q : DmaSem sig}
    (es : s = src a) (ed : d = dst a) (eq : q = sm a)
    {hsrc : s.view.WordExact} {hdst : d.view.WordExact} {hsem : DmaTarget.Typed .hbm (.dma q) (.here d : DmaTarget nD τ sig .tc .vmem S256x2048 .f32)}
    {α : Type} {Q : α → sProp 𝕄} {k : PUnit → Prog (TpuEff nD τ sig (Elt F) Λ₀ .tc) α} :
    Cin n src dst sm V c a b h
      ⊢ iprop((Cin n src dst sm V c (a + 1) b h -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma s (.here d) (.dma q) hsrc hdst hsem) k) Q) := by
  unfold Cin
  rw [seg_head (a := a) (b := 32) ha, seg_head (a := a) (b := h + n) hah, seg_last hba]
  iintro ⟨⟨Hx, Htodo⟩, Hdone, ⟨Hs, Hfree⟩, Hfly, Hheld⟩ Hk
  ihave Hs' := (show slotFree dst sm c a ⊢ iprop((∃ X : Vec F S256x2048 .f32, owns (c : Thread nD τ) (dst a) fullShare X) ∗ semVal ((c : Thread nD τ), SemLoc.dma (sm a)) 0) from .rfl) $$ Hs
  icases Hs' with ⟨⟨%X, Hs⟩, Hv⟩
  ihave Hx' := (show srcOwn src V c a ⊢ owns (c : Thread nD τ) (src a) fullShare (V a) from .rfl) $$ Hx
  iapply (wp_dma_owns 𝒱₀ (c : Thread nD τ) none EC es ed (congrArg SemLoc.dma eq) 0 N (hN a) N_pos) $$ [Hx' Hs Hv]
  · isplitl [Hx']; · iexact Hx'
    isplitl [Hs]; · iexact Hs
    iexact Hv
  iintro HF
  iapply Hk
  isplitl [Htodo]; · iexact Htodo
  isplitl [Hdone]; · iexact Hdone
  isplitl [Hfree]; · iexact Hfree
  isplitl [HF Hfly]
  · isplitl [HF]; · iexact HF
    iexact Hfly
  iexact Hheld

theorem cin_wait (hN : ∀ k, (dst k).view.dmaCredit = N) (hba : b < a) (hhb : h ≤ b)
    {sw : Memref sig .tc .hbm S256x2048 .f32} {dw : Memref sig .tc .vmem S256x2048 .f32} {q : DmaSem sig}
    (hdw : dw.view.dmaCredit = N) (eq : q = sm b)
    {hsrc : sw.view.WordExact} {hdst : dw.view.WordExact}
    {α : Type} {Q : α → sProp 𝕄} {k : PUnit → Prog (TpuEff nD τ sig (Elt F) Λ₀ .tc) α} {O : CellTallies nD τ sig ℕ} {W : Waits sig ℕ} :
    iprop(Cin n src dst sm V c a b h ∗ owes (c : Thread nD τ) O W ∗ MayWait (c : Thread nD τ) (.dma (sm b)) 0 O)
      ⊢ iprop(((Cin n src dst sm V c a (b + 1) h ∗ ∃ W, owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q sw dw hsrc hdst) k) Q) := by
  unfold Cin
  rw [seg_head (a := b) (b := a) hba, seg_last (Nat.zero_le b), seg_last hhb]
  iintro ⟨⟨Htodo, Hdone, Hfree, ⟨HF, Hfly⟩, Hheld⟩, HO, HM⟩ Hk
  iapply (wp_dma_wait 𝒱₀ (c : Thread nD τ) none EC eq 0 hdw
    (D := iprop(owns (c : Thread nD τ) (dst b) fullShare (V b) ∗ owns (c : Thread nD τ) (src b) fullShare (V b)))) $$ [HF HO HM]
  · isplitl [HF]; · iexact HF
    isplitl [HO] <;> iassumption
  iintro ⟨⟨Hd, Hs⟩, Hv, HO⟩
  iapply Hk
  isplitr [HO]; rotate_left
  · iexists _; iexact HO
  isplitl [Htodo]; · iexact Htodo
  isplitl [Hs Hdone]
  · isplitl [Hs]; · iexact Hs
    iexact Hdone
  isplitl [Hfree]; · iexact Hfree
  isplitl [Hfly]; · iexact Hfly
  isplitl [Hd Hv]
  · isplitl [Hd]; · iexact Hd
    iexact Hv
  iexact Hheld

/-- The oldest chunk used up: its slot is free again. -/
theorem cin_drop (hd : ∀ k, dst (k + n) = dst k) (hs : ∀ k, sm (k + n) = sm k) (hhb : h < b) (ha : a ≤ h + n) :
    Cin n src dst sm V c a b h ⊢ Cin n src dst sm V c a b (h + 1) := by
  unfold Cin
  rw [show h + 1 + n = (h + n) + 1 by omega, seg_last ha, seg_head (a := h) (b := b) hhb]
  iintro ⟨Htodo, Hdone, Hfree, Hfly, ⟨Hh, Hheld⟩⟩
  isplitl [Htodo]; · iexact Htodo
  isplitl [Hdone]; · iexact Hdone
  isplitl [Hh Hfree]
  · isplitl [Hh]
    · unfold slotFree; rw [hd, hs]
      icases Hh with ⟨Hh, Hv⟩
      isplitl [Hh]; · iexists _; iexact Hh
      iexact Hv
    iexact Hfree
  isplitl [Hfly] <;> iassumption

/-- A chunk that is in. -/
theorem cin_acc {k : ℕ} (hk : h ≤ k) (hkb : k < b) :
    Cin n src dst sm V c a b h ⊢ iprop(owns (c : Thread nD τ) (dst k) fullShare (V k)
      ∗ (owns (c : Thread nD τ) (dst k) fullShare (V k) -∗ Cin n src dst sm V c a b h)) := by
  unfold Cin
  iintro ⟨Htodo, Hdone, Hfree, Hfly, Hheld⟩
  ihave H := (seg_acc hk hkb) $$ Hheld
  icases H with ⟨Hk, Hback⟩
  ihave Hk' := (show slotFull dst sm V c k ⊢ iprop(owns (c : Thread nD τ) (dst k) fullShare (V k) ∗ semVal ((c : Thread nD τ), SemLoc.dma (sm k)) 0) from .rfl) $$ Hk
  icases Hk' with ⟨Hk, Hv⟩
  isplitl [Hk]; · iexact Hk
  iintro Hk
  isplitl [Htodo]; · iexact Htodo
  isplitl [Hdone]; · iexact Hdone
  isplitl [Hfree]; · iexact Hfree
  isplitl [Hfly]; · iexact Hfly
  iapply Hback
  isplitl [Hk]; · iexact Hk
  iexact Hv

end In

/-! ## Sending results out -/

section Out

variable (m : (ℓ : Loc nD τ sig) → Buf (Elt F) ℓ) (c : Dev nD)

abbrev outTodo (k : ℕ) : sProp 𝕄 := iprop(∃ X : Vec F S256x2048 .f32, owns (c : Thread nD τ) (oC k) fullShare X)
abbrev outDone (k : ℕ) : sProp 𝕄 := owns (c : Thread nD τ) (oC k) fullShare (res m c k)
abbrev outFly (k : ℕ) : sProp 𝕄 :=
  Transfers.Flight EC (c : Thread nD τ) (.dma (outS k)) 0 N iprop(owns (c : Thread nD τ) (oC k) fullShare (res m c k) ∗ owns (c : Thread nD τ) (sl2 oxM k) fullShare (res m c k))
abbrev outFree (k : ℕ) : sProp 𝕄 := iprop(some2 c oxM k ∗ semVal ((c : Thread nD τ), SemLoc.dma (outS k)) 0)

/-- `a` copies started, `b` of them waited for. -/
def Cout (a b : ℕ) : sProp 𝕄 :=
  iprop(Seg a 32 (outTodo c) ∗ Seg 0 b (outDone m c) ∗ Seg a (b + 2) (outFree c) ∗ Seg b a (outFly m c))

/-- The same with slot `a` taken out. -/
def CoutRest (a b : ℕ) : sProp 𝕄 :=
  iprop(Seg a 32 (outTodo c) ∗ Seg 0 b (outDone m c) ∗ Seg (a + 1) (b + 2) (outFree c) ∗ Seg b a (outFly m c)
    ∗ semVal ((c : Thread nD τ), SemLoc.dma (outS a)) 0)

variable {m c} {a b : ℕ}

theorem cout_wait (hba : b < a) (ha : a ≤ b + 2)
    {sw : Memref sig .tc .vmem S256x2048 .f32} {dw : Memref sig .tc .hbm S256x2048 .f32} {q : DmaSem sig}
    (hdw : dw.view.dmaCredit = N) (eq : q = outS b)
    {hsrc : sw.view.WordExact} {hdst : dw.view.WordExact}
    {α : Type} {Q : α → sProp 𝕄} {k : PUnit → Prog (TpuEff nD τ sig (Elt F) Λ₀ .tc) α} {O : CellTallies nD τ sig ℕ} {W : Waits sig ℕ} :
    iprop(Cout m c a b ∗ owes (c : Thread nD τ) O W ∗ MayWait (c : Thread nD τ) (.dma (outS b)) 0 O)
      ⊢ iprop(((Cout m c a (b + 1) ∗ ∃ W, owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q sw dw hsrc hdst) k) Q) := by
  unfold Cout
  rw [seg_head (a := b) (b := a) hba, seg_last (Nat.zero_le b), show b + 1 + 2 = (b + 2) + 1 by omega, seg_last ha]
  iintro ⟨⟨Htodo, Hdone, Hfree, ⟨HF, Hfly⟩⟩, HO, HM⟩ Hk
  iapply (wp_dma_wait 𝒱₀ (c : Thread nD τ) none EC eq 0 hdw
    (D := iprop(owns (c : Thread nD τ) (oC b) fullShare (res m c b) ∗ owns (c : Thread nD τ) (sl2 oxM b) fullShare (res m c b)))) $$ [HF HO HM]
  · isplitl [HF]; · iexact HF
    isplitl [HO] <;> iassumption
  iintro ⟨⟨Hd, Hs⟩, Hv, HO⟩
  iapply Hk
  isplitr [HO]; rotate_left
  · iexists _; iexact HO
  isplitl [Htodo]; · iexact Htodo
  isplitl [Hd Hdone]
  · isplitl [Hd]; · iexact Hd
    iexact Hdone
  isplitl [Hs Hv Hfree]
  · isplitl [Hs Hv]
    · unfold outFree some2
      rw [sl2_congr oxM (show (b + 2) % 2 = b % 2 by omega), show outS (b + 2) = outS b from sem2_congr cc0_scratch9 (by omega)]
      isplitl [Hs]; · iexists _; iexact Hs
      iexact Hv
    iexact Hfree
  iexact Hfly

theorem cout_take (ha : a < b + 2) : Cout m c a b ⊢ iprop(some2 c oxM a ∗ CoutRest m c a b) := by
  unfold Cout CoutRest
  rw [seg_head (a := a) (b := b + 2) ha]
  iintro ⟨Htodo, Hdone, ⟨Hs, Hfree⟩, Hfly⟩
  icases Hs with ⟨Hs, Hv⟩
  isplitl [Hs]; · iexact Hs
  isplitl [Htodo]; · iexact Htodo
  isplitl [Hdone]; · iexact Hdone
  isplitl [Hfree]; · iexact Hfree
  isplitl [Hfly] <;> iassumption

theorem cout_start (ha : a < 32) (hba : b ≤ a)
    {s : Memref sig .tc .vmem S256x2048 .f32} {d : Memref sig .tc .hbm S256x2048 .f32} {q : DmaSem sig}
    (es : s = sl2 oxM a) (ed : d = oC a) (eq : q = outS a)
    {hsrc : s.view.WordExact} {hdst : d.view.WordExact} {hsem : DmaTarget.Typed .vmem (.dma q) (.here d : DmaTarget nD τ sig .tc .hbm S256x2048 .f32)}
    {α : Type} {Q : α → sProp 𝕄} {k : PUnit → Prog (TpuEff nD τ sig (Elt F) Λ₀ .tc) α} :
    iprop(owns (c : Thread nD τ) (sl2 oxM a) fullShare (res m c a) ∗ CoutRest m c a b)
      ⊢ iprop((Cout m c (a + 1) b -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma s (.here d) (.dma q) hsrc hdst hsem) k) Q) := by
  unfold Cout CoutRest
  rw [seg_head (a := a) (b := 32) ha, seg_last hba]
  iintro ⟨Hs, ⟨Hd, Htodo⟩, Hdone, Hfree, Hfly, Hv⟩ Hk
  ihave Hd' := (show outTodo c a ⊢ iprop(∃ X : Vec F S256x2048 .f32, owns (c : Thread nD τ) (oC a) fullShare X) from .rfl) $$ Hd
  icases Hd' with ⟨%X, Hd⟩
  iapply (wp_dma_owns 𝒱₀ (c : Thread nD τ) none EC es ed (congrArg SemLoc.dma eq) 0 N (N_oC a) N_pos) $$ [Hs Hd Hv]
  · isplitl [Hs]; · iexact Hs
    isplitl [Hd] <;> iassumption
  iintro HF
  iapply Hk
  isplitl [Htodo]; · iexact Htodo
  isplitl [Hdone]; · iexact Hdone
  isplitl [Hfree]; · iexact Hfree
  isplitl [HF]; · iexact HF
  iexact Hfly

end Out

end Cert.KernelIdeal.Tab
-- ==== Proof.KI.Exchange.lean ====
/- What a device hands to its neighbours and takes from them, in each direction of travel. -/
module

public import proofs.«01_k».proof.Proof.KI.Copies

@[expose] public section

noncomputable section

namespace Cert.KernelIdeal.Tab

open Cert.KernelIdeal Cert.KernelIdeal.Gen Cert.Proof.Kit
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ)

/-! ## The records every device may use -/

/-- The cells that run in rounds: the barrier's, and the sixteen of the sends and receives. -/
abbrev osemR : Fin 17 → SemLoc sig := fun i => if h : i.val = 0 then .reg barrier0 else .dma ⟨10 + i.val, by have := i.isLt; show 10 + i.val < 27; omega⟩
abbrev rcell (ck : Dev nD × Fin 17) : GSem nD τ sig := ((ck.1 : Thread nD τ), osemR ck.2)

/-- Every such cell has its invariant, and its round 0 is reached. -/
def Recs : sProp 𝕄 :=
  iprop(∃ K : Dev nD × Fin 17 → ℕ, (bigSep Finset.univ fun ck : Dev nD × Fin 17 => cellInv ER (Rd m) (K ck) (rcell ck))
    ∗ (bigSep Finset.univ fun ck : Dev nD × Fin 17 => reached ER (rcell ck) 0) ∗ levAts L lv)

instance Recs_persistent : BI.Persistent (Recs (F := F) m) := by unfold Recs; infer_instance

theorem rcell_bar (c : Dev nD) : rcell (c, 0) = barCell c := rfl
theorem exists_rcell (c : Dev nD) (q : DmaSem sig) (h : 11 ≤ q.val) : ∃ i, rcell (c, i) = ((c : Thread nD τ), SemLoc.dma q) := by
  have hq : q.val < 27 := q.isLt
  refine ⟨⟨q.val - 10, by omega⟩, ?_⟩
  unfold rcell osemR
  dsimp only
  rw [dif_neg (by omega)]
  congr 2
  exact Fin.ext (by simp only []; omega)
theorem exists_send (d : Dir) (c : Dev nD) (k : ℕ) : ∃ i, rcell (c, i) = sendCell d c k :=
  exists_rcell c _ (by rw [sendS_val]; cases d <;> simp <;> omega)
theorem exists_recv (d : Dir) (c : Dev nD) (k : ℕ) : ∃ i, rcell (c, i) = recvCell d c k :=
  exists_rcell c _ (by rw [recvS_val]; cases d <;> simp <;> omega)

theorem recs_cell (ck : Dev nD × Fin 17) (g : GSem nD τ sig) (h : rcell ck = g) : Recs (F := F) m ⊢ iprop(∃ κ, cellInv ER (Rd m) κ g) := by
  subst h
  unfold Recs
  iintro ⟨%K, HI, -, -⟩
  iexists K ck
  ihave H := (show (bigSep Finset.univ fun ck : Dev nD × Fin 17 => cellInv ER (Rd (F := F) m) (K ck) (rcell ck) : sProp 𝕄) ⊢ cellInv ER (Rd m) (K ck) (rcell ck) from bigSep_elim (Finset.mem_univ ck)) $$ HI
  iexact H
theorem recs_reached (ck : Dev nD × Fin 17) (g : GSem nD τ sig) (h : rcell ck = g) : Recs (F := F) m ⊢ reached ER g 0 := by
  subst h
  unfold Recs
  iintro ⟨%K, -, HR, -⟩
  ihave H := (show (bigSep Finset.univ fun ck : Dev nD × Fin 17 => reached ER (rcell ck) 0 : sProp 𝕄) ⊢ reached ER (rcell ck) 0 from bigSep_elim (Finset.mem_univ ck)) $$ HR
  iexact H
theorem recs_bar (c : Dev nD) : Recs (F := F) m ⊢ iprop(∃ κ, cellInv ER (Rd m) κ (barCell c)) := recs_cell m (c, 0) _ (rcell_bar c)
theorem recs_send (d : Dir) (c : Dev nD) (k : ℕ) : Recs (F := F) m ⊢ iprop(∃ κ, cellInv ER (Rd m) κ (sendCell d c k)) := by
  obtain ⟨i, hi⟩ := exists_send d c k; exact recs_cell m (c, i) _ hi
theorem recs_recv (d : Dir) (c : Dev nD) (k : ℕ) : Recs (F := F) m ⊢ iprop(∃ κ, cellInv ER (Rd m) κ (recvCell d c k)) := by
  obtain ⟨i, hi⟩ := exists_recv d c k; exact recs_cell m (c, i) _ hi
theorem recs_lev : Recs (F := F) m ⊢ (levAts L lv : sProp 𝕄) := by
  unfold Recs
  iintro ⟨%K, -, -, HL⟩
  iexact HL

theorem routes_nb : ∀ (d : Dir) (c : Dev nD), τ.routes (c : Thread nD τ) (nb d c : Thread nD τ) = true := by decide +kernel

/-! ## Sending -/

variable (d : Dir) (c : Dev nD)

abbrev sendFly (k : ℕ) : sProp 𝕄 := iprop(cred (tallyAt (sendCell d c k) 0 N) ∗ atPos ER (sendCell d c k) (k / 2) ∅ 0)
abbrev sendFree (k : ℕ) : sProp 𝕄 := iprop(some2 c (sendM d) k ∗ atPos ER (sendCell d c k) (k / 2) ∅ 0 ∗ reached ER (sendCell d c k) (k / 2))
abbrev sendTok (k : ℕ) : sProp 𝕄 := iprop(dutyTok ER (sendCell d c k) (k / 2) false ∗ dutyTok ER (recvCell d (nb d c) k) (k / 6) false)
abbrev sendRoom (k : ℕ) : sProp 𝕄 := iprop(some6 (nb d c) (landM d) k ∗ reached ER (recvCell d (nb d c) k) (k / 6))
abbrev sendIdle (k : ℕ) : sProp 𝕄 := iprop(some2 c (sendM d) k ∗ atPos ER (sendCell d c k) (k / 2) ∅ 0)

/-- `n` transfers started, `w` of them waited for, room for the first `v` at the neighbour. -/
def Csend (n w v : ℕ) : sProp 𝕄 :=
  if hasOut d c then iprop(Seg w n (sendFly d c) ∗ Seg n (w + 2) (sendFree d c) ∗ Seg n 32 (sendTok d c) ∗ Seg n v (sendRoom d c))
  else Seg 0 2 (sendIdle d c)

/-- The same with the slot of transfer `n` taken out. -/
def CsendRest (n w v : ℕ) : sProp 𝕄 :=
  iprop(Seg w n (sendFly d c) ∗ (atPos ER (sendCell d c n) (n / 2) ∅ 0 ∗ reached ER (sendCell d c n) (n / 2) ∗ Seg (n + 1) (w + 2) (sendFree d c))
    ∗ Seg n 32 (sendTok d c) ∗ Seg n v (sendRoom d c))

variable {d c} {n w v : ℕ}

theorem csend_wait (ho : hasOut d c) (hwn : w < n) (hn : n ≤ w + 2) (hw : w < 32)
    {sw : Memref sig .tc .vmem S256x2048 .f32} {dw : Memref sig .tc .vmem S256x2048 .f32} {q : DmaSem sig}
    (hdw : dw.view.dmaCredit = N) (eq : q = sendS d w)
    {hsrc : sw.view.WordExact} {hdst : dw.view.WordExact}
    {α : Type} {Q : α → sProp 𝕄} {k : PUnit → Prog (TpuEff nD τ sig (Elt F) Λ₀ .tc) α} {O : CellTallies nD τ sig ℕ} {W : Waits sig ℕ} :
    iprop(Recs m ∗ Csend d c n w v ∗ owes (c : Thread nD τ) O W ∗ MayWait (c : Thread nD τ) (.dma (sendS d w)) 0 O)
      ⊢ iprop(((Csend d c n (w + 1) v ∗ ∃ W, owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q sw dw hsrc hdst) k) Q) := by
  subst eq
  unfold Csend
  rw [if_pos ho, if_pos ho, seg_head (a := w) (b := n) hwn, show w + 1 + 2 = (w + 2) + 1 by omega, seg_last hn]
  iintro ⟨#HR, ⟨⟨⟨Hc, Hat⟩, Hfly⟩, Hfree, Htok, Hroom⟩, HO, HM⟩ Hk
  ihave HI := (recs_send m d c w) $$ HR
  icases HI with ⟨%κ, #HI⟩
  iapply (Rounds.wp_wait_rest_token 𝒱₀ ER (Rd m) (c : Thread nD τ) none (κ := κ)
      (wpE_waitDma2_eq 𝒱₀ (c : Thread nD τ) none Set.univ) (Set.mem_univ _) 0 (O := O) (W := W) (R := w / 2) (m := 0) (T := ∅)
      (by rw [Nat.zero_add, hdw, expect_send m d c w ho hw])) $$ [Hc HO HM Hat]
  · isplitr; · iexact HI
    isplitl [Hc]; · rw [hdw]; iexact Hc
    isplitl [HO]; · iexact HO
    isplitl [HM]; · iexact HM
    iexact Hat
  iintro ⟨HO, Hat, #Hrch, Hpay⟩
  ihave Hs := (Entails.of_eq (rest_send m d c w ho hw)) $$ Hpay
  iapply Hk
  isplitr [HO]; rotate_left
  · iexists _; iexact HO
  isplitl [Hfly]; · iexact Hfly
  isplitl [Hs Hat Hfree]
  · isplitl [Hs Hat]
    · unfold sendFree
      rw [show (w + 2) / 2 = w / 2 + 1 by omega, show sendCell d c (w + 2) = sendCell d c w from
        congrArg (fun q => ((c : Thread nD τ), SemLoc.dma q)) (sem2_congr (sendA d) (by omega)),
        show some2 (F := F) c (sendM d) (w + 2) = some2 c (sendM d) w by unfold some2; rw [sl2_congr (sendM d) (show (w + 2) % 2 = w % 2 by omega)]]
      isplitl [Hs]; · iexact Hs
      isplitl [Hat]; · iexact Hat
      iexact Hrch
    iexact Hfree
  isplitl [Htok] <;> iassumption

theorem csend_take (ho : hasOut d c) (hn : n < w + 2) : Csend d c n w v ⊢ iprop(some2 (F := F) c (sendM d) n ∗ CsendRest d c n w v) := by
  unfold Csend CsendRest
  rw [if_pos ho, seg_head (a := n) (b := w + 2) hn]
  iintro ⟨Hfly, ⟨⟨Hs, Hat, Hr⟩, Hfree⟩, Htok, Hroom⟩
  isplitl [Hs]; · iexact Hs
  isplitl [Hfly]; · iexact Hfly
  isplitl [Hat Hr Hfree]
  · isplitl [Hat]; · iexact Hat
    isplitl [Hr] <;> iassumption
  isplitl [Htok] <;> iassumption

theorem csend_start (ho : hasOut d c) (hn : n < 32) (hwn : w ≤ n) (hnv : n < v) {e : Dev nD} (he : e = nb d c)
    {s : Memref sig .tc .vmem S256x2048 .f32} {t : Memref sig .tc .vmem S256x2048 .f32} {q q' : DmaSem sig}
    (es : s = sl2 (sendM d) n) (et : t = sl6 (landM d) n) (eq : q = sendS d n) (eq' : q' = recvS d n)
    {hsc : (t : Memref sig (Dev.tc e : Thread nD τ).2.kind .vmem S256x2048 .f32).view.ref.isScScratch = false}
    {hsrc : s.view.WordExact} {hdst : t.view.WordExact}
    {hsem : DmaTarget.Typed .vmem (.dma q') (.remote (Dev.tc e : Thread nD τ) t (.dma q) hsc : DmaTarget nD τ sig .tc .vmem S256x2048 .f32)}
    {O₀ O : CellTallies nD τ sig ℕ} (hO : O₀ = O + tallyAt (recvCell d (nb d c) n) (n + rk d c + 2) N) {W : Waits sig ℕ}
    {α : Type} {Q : α → sProp 𝕄} {k : PUnit → Prog (TpuEff nD τ sig (Elt F) Λ₀ .tc) α} :
    iprop(Recs m ∗ owns (c : Thread nD τ) (sl2 (sendM d) n) fullShare (acc m d c n) ∗ CsendRest d c n w v ∗ back d c (n + rk d c)
        ∗ owes (c : Thread nD τ) O₀ W)
      ⊢ iprop(((Csend d c (n + 1) w v ∗ ∃ W, owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma s (.remote (Dev.tc e : Thread nD τ) t (.dma q) hsc) (.dma q') hsrc hdst hsem) k) Q) := by
  subst he es et eq eq'
  unfold Csend CsendRest
  rw [if_pos ho, seg_head (a := n) (b := 32) hn, seg_head (a := n) (b := v) hnv, seg_last hwn]
  iintro ⟨#HR, Hs, ⟨Hfly, ⟨Hat, #Hr, Hfree⟩, ⟨⟨Ht₁, Ht₂⟩, Htok⟩, ⟨⟨Hd, #Hr'⟩, Hroom⟩⟩, Hback, HO⟩ Hk
  ihave HI := (recs_send m d c n) $$ HR
  icases HI with ⟨%κ₁, #HI₁⟩
  ihave HI := (recs_recv m d (nb d c) n) $$ HR
  icases HI with ⟨%κ₂, #HI₂⟩
  ihave Hd' := (show some6 (F := F) (nb d c) (landM d) n ⊢ iprop(∃ X : Vec F S256x2048 .f32, owns (nb d c : Thread nD τ) (sl6 (landM d) n) fullShare X) from .rfl) $$ Hd
  icases Hd' with ⟨%Y, Hd⟩
  have hi : hasIn d (nb d c) := (hasIn_nb d c).mpr ho
  iapply (wp_send_owns 𝒱₀ (c : Thread nD τ) none ER (Rd m) (κ₁ := κ₁) (κ₂ := κ₂) (r₁ := n / 2) (r₂ := n / 6) (d₁ := false) (d₂ := false)
    (c' := (nb d c : Thread nD τ)) (X := acc m d c n) (Y := Y) (R := back d c (n + rk d c))
    (by rw [duties_send m d c n ho hn]; exact Finset.mem_singleton_self _)
    (by rw [duties_recv m d (nb d c) n hi hn]; exact Finset.mem_singleton_self _)
    (n + rk d c + 2) 0 N (show (sl6 (landM d) n).view.amount (SemLoc.dma (recvS d n)) = N from N_land d n) (amount_send m d c n _ _) (amount_recv m d (nb d c) n _ _) O hO
    (by rw [payload_send]; unfold some2; iintro H; iexists _; iexact H)
    (by rw [payload_recv]; unfold recvPay arr; rw [nb_nb]) (routes_nb d c)) $$ [Hs Hd Hback HO Ht₁ Ht₂]
  · isplitr; · iexact HI₁
    isplitr; · iexact HI₂
    isplitl [Hs]; · iexact Hs
    isplitl [Hd Hback]
    · isplitl [Hd] <;> iassumption
    isplitl [HO]; · iexact HO
    isplitl [Ht₁]; · iexact Ht₁
    isplitr; · iexact Hr
    isplitl [Ht₂]; · iexact Ht₂
    iexact Hr'
  iintro ⟨Hc, HO⟩
  iapply Hk
  isplitr [HO]; rotate_left
  · iexists _; iexact HO
  isplitl [Hc Hat Hfly]
  · isplitl [Hc Hat]
    · isplitl [Hc] <;> iassumption
    iexact Hfly
  isplitl [Hfree]; · iexact Hfree
  isplitl [Htok] <;> iassumption

/-- Room grows by what comes back with an arrival of the opposite direction, in trip `t`. -/
theorem csend_room {t : ℕ} (ht : 1 ≤ t) (hn : n ≤ max 6 (min (t + 1) 32)) :
    iprop(Csend d c n w (max 6 (min (t + 1) 32)) ∗ back (!d) (nb d c) (t - 1)) ⊢ Csend (F := F) d c n w (max 6 (min (t + 2) 32)) := by
  unfold Csend
  by_cases ho : hasOut d c
  · rw [if_pos ho, if_pos ho]
    unfold back
    by_cases h : 4 ≤ t - 1 ∧ t - 1 ≤ 29
    · rw [if_pos h, Bool.not_not, show max 6 (min (t + 2) 32) = max 6 (min (t + 1) 32) + 1 by omega, seg_last hn]
      unfold freed
      iintro ⟨⟨Hfly, Hfree, Htok, Hroom⟩, Hs, Hr⟩
      isplitl [Hfly]; · iexact Hfly
      isplitl [Hfree]; · iexact Hfree
      isplitl [Htok]; · iexact Htok
      isplitr [Hroom]; rotate_left
      · iexact Hroom
      rw [show max 6 (min (t + 1) 32) = (t - 1 - 4) + 6 by omega]
      unfold sendRoom
      rw [show (t - 1 - 4 + 6) / 6 = (t - 1 - 4) / 6 + 1 by omega, show recvCell d (nb d c) (t - 1 - 4 + 6) = recvCell d (nb d c) (t - 1 - 4) from
        congrArg (fun q => ((nb d c : Thread nD τ), SemLoc.dma q)) (sem6_congr (recvA d) (by omega)),
        show some6 (F := F) (nb d c) (landM d) (t - 1 - 4 + 6) = some6 (nb d c) (landM d) (t - 1 - 4) by unfold some6; rw [sl6_congr (landM d) (show (t - 1 - 4 + 6) % 6 = (t - 1 - 4) % 6 by omega)]]
      isplitl [Hs] <;> iassumption
    · rw [if_neg h, show max 6 (min (t + 2) 32) = max 6 (min (t + 1) 32) by omega]
      iintro ⟨H, -⟩; iexact H
  · rw [if_neg ho, if_neg ho]
    iintro ⟨H, -⟩; iexact H

/-! ## Receiving -/

variable (d c)

abbrev recvPos (k : ℕ) : sProp 𝕄 := atPos ER (recvCell d c k) (k / 6) ∅ 0
abbrev recvCred (k : ℕ) : sProp 𝕄 := cred (tallyAt (recvCell d c k) (k + rk d c + 1) N)
abbrev recvHeld (k : ℕ) : sProp 𝕄 := iprop(owns (c : Thread nD τ) (sl6 (landM d) k) fullShare (arr m d c k) ∗ reached ER (recvCell d c k) (k / 6 + 1))

/-- `n` arrivals waited for, `h` of them used up, the slots of `r` of those given back. -/
def Crecv (n h r : ℕ) : sProp 𝕄 :=
  if hasIn d c then iprop(Seg n (n + 6) (recvPos d c) ∗ Seg n 32 (recvCred d c) ∗ Seg h n (recvHeld m d c) ∗ Seg r h (freed d c))
  else iprop(Seg 0 6 (recvPos d c) ∗ Seg 0 6 (some6 c (landM d)))

variable {d c} {h r : ℕ}

theorem crecv_wait (hi : hasIn d c) (hn : n < 32) (hh : h ≤ n)
    {sw : Memref sig .tc .vmem S256x2048 .f32} {dw : Memref sig .tc .vmem S256x2048 .f32} {q : DmaSem sig}
    (hdw : dw.view.dmaCredit = N) (eq : q = recvS d n)
    {hsrc : sw.view.WordExact} {hdst : dw.view.WordExact}
    {α : Type} {Q : α → sProp 𝕄} {k : PUnit → Prog (TpuEff nD τ sig (Elt F) Λ₀ .tc) α} {O : CellTallies nD τ sig ℕ} {W : Waits sig ℕ} :
    iprop(Recs m ∗ Crecv m d c n h r ∗ owes (c : Thread nD τ) O W ∗ MayWait (c : Thread nD τ) (.dma (recvS d n)) (n + rk d c + 1) O)
      ⊢ iprop(((Crecv m d c (n + 1) h r ∗ back d (nb (!d) c) (n + rk d c - 1) ∗ ∃ W, owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q sw dw hsrc hdst) k) Q) := by
  subst eq
  unfold Crecv
  rw [if_pos hi, if_pos hi, seg_head (a := n) (b := n + 6) (by omega), seg_head (a := n) (b := 32) hn, seg_last hh,
    show n + 1 + 6 = (n + 6) + 1 by omega, seg_last (a := n + 1) (b := n + 6) (by omega)]
  iintro ⟨#HR, ⟨⟨Hat, Hpos⟩, ⟨Hc, Hcred⟩, Hheld, Hrel⟩, HO, HM⟩ Hk
  ihave HI := (recs_recv m d c n) $$ HR
  icases HI with ⟨%κ, #HI⟩
  iapply (Rounds.wp_wait_rest_token 𝒱₀ ER (Rd m) (c : Thread nD τ) none (κ := κ)
      (wpE_waitDma2_eq 𝒱₀ (c : Thread nD τ) none Set.univ) (Set.mem_univ _) (n + rk d c + 1) (O := O) (W := W) (R := n / 6) (m := 0) (T := ∅)
      (by rw [Nat.zero_add, hdw, expect_recv m d c n hi hn])) $$ [Hc HO HM Hat]
  · isplitr; · iexact HI
    isplitl [Hc]; · rw [hdw]; iexact Hc
    isplitl [HO]; · iexact HO
    isplitl [HM]; · iexact HM
    iexact Hat
  iintro ⟨HO, Hat, #Hrch, Hpay⟩
  ihave Hs := (Entails.of_eq (rest_recv m d c n hi hn)) $$ Hpay
  unfold recvPay
  icases Hs with ⟨Hs, Hback⟩
  iapply Hk
  isplitr [HO Hback]; rotate_left
  · have hrk := rk_src d c hi
    rw [show n + rk d c - 1 = n + rk d (nb (!d) c) by omega]
    isplitl [Hback]; · iexact Hback
    iexists _; iexact HO
  isplitl [Hat Hpos]
  · isplitl [Hat]
    · unfold recvPos
      rw [show (n + 6) / 6 = n / 6 + 1 by omega, show recvCell d c (n + 6) = recvCell d c n from
        congrArg (fun q => ((c : Thread nD τ), SemLoc.dma q)) (sem6_congr (recvA d) (by omega))]
      iexact Hat
    iexact Hpos
  isplitl [Hcred]; · iexact Hcred
  isplitl [Hs Hheld]
  · isplitl [Hs]
    · isplitl [Hs]; · iexact Hs
      iexact Hrch
    iexact Hheld
  iexact Hrel

/-- The oldest arrival used up. -/
theorem crecv_drop (hhn : hasIn d c → h < n) (hr : hasIn d c → r ≤ h) : Crecv m d c n h r ⊢ Crecv m d c n (h + 1) r := by
  unfold Crecv
  by_cases hi : hasIn d c
  · rw [if_pos hi, if_pos hi, seg_last (hr hi), seg_head (a := h) (b := n) (hhn hi)]
    unfold recvHeld freed some6
    iintro ⟨Hpos, Hcred, ⟨⟨Hs, Hr⟩, Hheld⟩, Hrel⟩
    isplitl [Hpos]; · iexact Hpos
    isplitl [Hcred]; · iexact Hcred
    isplitl [Hheld]; · iexact Hheld
    isplitl [Hs Hr]
    · isplitl [Hs]
      · iexists _; iexact Hs
      iexact Hr
    iexact Hrel
  · rw [if_neg hi, if_neg hi]

/-- A used-up arrival's slot given back along with the transfer of trip `t` in the opposite direction. -/
theorem crecv_back {t : ℕ} (hi : hasIn d c) :
    Crecv m d c n (min (t - 3) 32) (min (t - 4) 26) ⊢ iprop(Crecv m d c n (min (t - 3) 32) (min (t + 1 - 4) 26) ∗ back (!d) c t) := by
  unfold Crecv back
  rw [if_pos hi, if_pos hi]
  by_cases h : 4 ≤ t ∧ t ≤ 29
  · rw [if_pos h, Bool.not_not, show min (t + 1 - 4) 26 = (t - 4) + 1 by omega, show min (t - 4) 26 = t - 4 by omega,
      seg_head (a := t - 4) (b := min (t - 3) 32) (by omega)]
    iintro ⟨Hpos, Hcred, Hheld, Hs, Hrel⟩
    isplitr [Hs]; rotate_left
    · iexact Hs
    isplitl [Hpos]; · iexact Hpos
    isplitl [Hcred]; · iexact Hcred
    isplitl [Hheld] <;> iassumption
  · rw [if_neg h, show min (t + 1 - 4) 26 = min (t - 4) 26 by omega]
    iintro H
    isplitl [H]; · iexact H
    iempintro

/-- The slot of arrival `k`, which holds it if anything arrives. -/
theorem crecv_acc {k : ℕ} (hk : hasIn d c → h ≤ k) (hkn : hasIn d c → k < n) :
    Crecv m d c n h r ⊢ iprop(∃ Y : Vec F S256x2048 .f32, ⌜hasIn d c → Y = arr m d c k⌝ ∗ owns (c : Thread nD τ) (sl6 (landM d) k) fullShare Y
      ∗ (owns (c : Thread nD τ) (sl6 (landM d) k) fullShare Y -∗ Crecv m d c n h r)) := by
  unfold Crecv
  by_cases hi : hasIn d c
  · rw [if_pos hi]
    iintro ⟨Hpos, Hcred, Hheld, Hrel⟩
    ihave H := (seg_acc (hk hi) (hkn hi)) $$ Hheld
    icases H with ⟨⟨Hs, Hr⟩, Hback⟩
    iexists arr m d c k
    isplitr; · ipureintro; exact fun _ => rfl
    isplitl [Hs]; · iexact Hs
    iintro Hs
    isplitl [Hpos]; · iexact Hpos
    isplitl [Hcred]; · iexact Hcred
    isplitr [Hrel]; rotate_left
    · iexact Hrel
    iapply Hback
    isplitl [Hs] <;> iassumption
  · rw [if_neg hi]
    iintro ⟨Hpos, Hs⟩
    ihave H := (seg_acc (Φ := some6 (F := F) c (landM d)) (Nat.zero_le (k % 6)) (Nat.mod_lt k (show 0 < 6 by decide))) $$ Hs
    unfold some6
    rw [sl6_mod]
    icases H with ⟨⟨%X, Hs⟩, Hback⟩
    iexists X
    isplitr; · ipureintro; exact fun h => absurd h hi
    isplitl [Hs]; · iexact Hs
    iintro Hs
    isplitl [Hpos]; · iexact Hpos
    iapply Hback
    iexists X
    iexact Hs

end Cert.KernelIdeal.Tab
-- ==== Proof.KI.State.lean ====
/- The state of a device between the steps of a trip, and the payloads of its transfers. -/
module

public import proofs.«01_k».proof.Proof.KI.Exchange

@[expose] public section

set_option maxRecDepth 20000

noncomputable section

namespace Cert.KernelIdeal.Tab

open Cert.KernelIdeal Cert.KernelIdeal.Gen Cert.Proof.Kit
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ) (c : Dev nD)

/-! ## The state between the blocks of a trip -/

/-- Own chunks: loads started in the trips before `i`, waited for before `j`, used up before `l`. -/
abbrev lxAt (i j l : ℕ) : sProp 𝕄 := Cin 6 xC (sl6 lxM) loadS (xV m c) c (min (i + 1) 32) (min j 32) (min (l - 3) 32)
/-- Residual chunks, the same. -/
abbrev rxAt (i j l : ℕ) : sProp 𝕄 := Cin 2 rC (sl2 rxM) residS (rV m c) c (min (i - 2) 32) (min (j - 3) 32) (min (l - 3) 32)
/-- Results: started before `i`, waited for before `j`. -/
abbrev outAt (i j : ℕ) : sProp 𝕄 := Cout m c (min (i - 3) 32) (min (j - 5) 30)
/-- Transfers to the neighbour: made before `i`; room there as known before `v`. -/
abbrev sendAt (d : Dir) (i v : ℕ) : sProp 𝕄 := Csend d c (min (i - rk d c) 32) (min (i - rk d c - 2) 30) (max 6 (min (v + 1) 32))
/-- Arrivals: waited for before `i`, used up before `l`, given back before `r`. -/
abbrev recvAt (d : Dir) (i l r : ℕ) : sProp 𝕄 := Crecv m d c (min (i - rk d c) 32) (min (l - 3) 32) (min (r - 4) 26)
/-- What is owed with the transfers made before `i` and `j`. -/
abbrev owesAt (i j : ℕ) : sProp 𝕄 := iprop(∃ W, owes (c : Thread nD τ) (oTot c (min (i - rk false c) 32) (min (j - rk true c) 32)) W)
/-- The scale. -/
abbrev gamAt : sProp 𝕄 := owns (c : Thread nD τ) (Memref.whole cc0_stg0_0) fullShare (gV m c)

/-- Before trip `t`. -/
def Inv (t : ℕ) : sProp 𝕄 :=
  iprop(lxAt m c t t t ∗ rxAt m c t t t ∗ outAt m c t t ∗ (sendAt c false t t ∗ recvAt m c false t t t) ∗ (sendAt c true t t ∗ recvAt m c true t t t)
    ∗ owesAt c t t ∗ gamAt m c)

theorem csend_idle {d : Dir} (h : ¬hasOut d c) (n w v n' w' v' : ℕ) : Csend (F := F) d c n w v = Csend d c n' w' v' := by
  unfold Csend; rw [if_neg h, if_neg h]
theorem crecv_idle {d : Dir} (h : ¬hasIn d c) (n l r n' l' r' : ℕ) : Crecv m d c n l r = Crecv m d c n' l' r' := by
  unfold Crecv; rw [if_neg h, if_neg h]
theorem oSend_idle {d : Dir} (h : ¬hasOut d c) (n : ℕ) : oSend d c n = 0 := by unfold oSend; rw [if_neg h]

/-- The wait indices are below what is still owed, in any trip. -/
theorem may_local (sm : SemLoc sig) (i j : ℕ) : (Recs (F := F) m) ⊢ MayWait (c : Thread nD τ) sm 0 (oTot c i j) :=
  (recs_lev m).trans (mayWait_tot c sm 0 i j (by decide) (fun _ _ => Nat.succ_pos _) (fun _ _ => Nat.succ_pos _))

/-! ## Programs -/

variable {c}

/-- A block done or skipped, and the rest. -/
theorem wp_skip {α : Type} {Q : α → sProp 𝕄} {p : Prop} {_ : Decidable p} {A : p → Prog (TpuEff nD τ sig (Elt F) Λ₀ .tc) α} {J : Prog (TpuEff nD τ sig (Elt F) Λ₀ .tc) α} {P : sProp 𝕄} (R : sProp 𝕄)
    (h₁ : ¬p → P ⊢ R)
    (h₂ : ∀ h : p, (R ⊢ wp frame (wpE (defs₀ (F := F)) 𝒱₀ (c : Thread nD τ) none) Set.univ J Q) → P ⊢ wp frame (wpE (defs₀ (F := F)) 𝒱₀ (c : Thread nD τ) none) Set.univ (A h) Q)
    (h₃ : R ⊢ wp frame (wpE (defs₀ (F := F)) 𝒱₀ (c : Thread nD τ) none) Set.univ J Q) :
    P ⊢ wp frame (wpE (defs₀ (F := F)) 𝒱₀ (c : Thread nD τ) none) Set.univ (if h : p then A h else J) Q := by
  by_cases h : p
  · rw [dif_pos h]; exact h₂ h h₃
  · rw [dif_neg h]; exact (h₁ h).trans h₃

/-! ## One transfer's payload computed: direction `false` -/

theorem part1_spec (t : Trip) (v2 v5 v12 v68 : BitVec 32) (hC : k0_cond8 c t = 1#1) :
    iprop(Recs m ∗ sendAt c false t.val t.val ∗ lxAt m c (t.val + 1) (t.val + 1) t.val ∗ recvAt m c false (t.val + 1) t.val t.val ∗ owesAt c t.val t.val)
      ⊢ wp frame (wpE (defs₀ (F := F)) 𝒱₀ (c : Thread nD τ) none) Set.univ
          (k0_part1 (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v2 v5 (bit false c) v12 t v68 hC)
          (fun _ => iprop((owns (c : Thread nD τ) (sl2 (sendM false) (t.val - rk false c)) fullShare (acc m false c (t.val - rk false c))
              ∗ CsendRest false c (min (t.val - rk false c) 32) (min (t.val + 1 - rk false c - 2) 30) (max 6 (min (t.val + 1) 32)))
            ∗ lxAt m c (t.val + 1) (t.val + 1) t.val ∗ recvAt m c false (t.val + 1) t.val t.val ∗ owesAt c t.val t.val)) := by
  obtain ⟨ho, hlo, hhi⟩ := (cond8_iff c t).mp hC
  have hr : rk false c < 3 := ho
  have ht : t.val < 35 := lt_of_lt_of_eq t.isLt trips_eq
  rw [k0_part1_eq_skeleton]
  unfold k0_part1_skel
  simp only [Prog.lift, Prog.bind_op, Prog.bind_ret, Prog.pure_eq_ret]
  refine wp_skip iprop(Recs m ∗ Csend false c (min (t.val - rk false c) 32) (min (t.val + 1 - rk false c - 2) 30) (max 6 (min (t.val + 1) 32)) ∗ lxAt m c (t.val + 1) (t.val + 1) t.val ∗ recvAt m c false (t.val + 1) t.val t.val ∗ owesAt c t.val t.val) ?_ ?_ ?_
  · intro hn
    have hn' : ¬(rk false c + 2 ≤ t.val) := fun h => hn ((cond9_iff c t hC).mpr h)
    unfold sendAt
    rw [show min (t.val + 1 - rk false c - 2) 30 = min (t.val - rk false c - 2) 30 by omega]
  · intro hw h₃
    have hw' : rk false c + 2 ≤ t.val := (cond9_iff c t hC).mp hw
    unfold sendAt
    iintro ⟨#HR, HS, Hx, Hr, ⟨%W, HO⟩⟩
    iapply (csend_wait m (n := min (t.val - rk false c) 32) (w := min (t.val - rk false c - 2) 30) (v := max 6 (min (t.val + 1) 32)) ho (by omega) (by omega) (by omega) (Nw_send false)
      (eq := (s2_of (A := sendA false) (off15_eq c t hC hw)).trans (sem2_congr (sendA false) (by omega))) (W := W)) $$ [HS HO]
    · isplitr; · iexact HR
      isplitl [HS]; · iexact HS
      isplitl [HO]; · iexact HO
      iapply (may_local m c _ _ _) $$ HR
    iintro ⟨HS, HO⟩
    iapply h₃
    isplitr; · iexact HR
    isplitl [HS]
    · rw [show min (t.val + 1 - rk false c - 2) 30 = min (t.val - rk false c - 2) 30 + 1 by omega]; iexact HS
    isplitl [Hx]; · iexact Hx
    isplitl [Hr]; · iexact Hr
    iexact HO
  · iintro ⟨#HR, HS, Hx, Hr, HO⟩
    ihave H := (csend_take ho (n := min (t.val - rk false c) 32) (w := min (t.val + 1 - rk false c - 2) 30) (v := max 6 (min (t.val + 1) 32)) (by omega)) $$ HS
    icases H with ⟨Hs, Hrest⟩
    ihave H := (cin_acc (k := t.val - rk false c) (by omega) (by omega)) $$ Hx
    icases H with ⟨Hx, Hxb⟩
    ihave H := (crecv_acc m (k := t.val - rk false c) (fun _ => by omega) (fun _ => by omega)) $$ Hr
    icases H with ⟨%Y, %hY, Hr, Hrb⟩
    ihave Hs := (show some2 (F := F) c (sendM false) (min (t.val - rk false c) 32) ⊢ iprop(∃ X : Vec F S256x2048 .f32, owns (c : Thread nD τ) (sl2 (sendM false) (t.val - rk false c)) fullShare X) from
      Entails.of_eq (by unfold some2; rw [show min (t.val - rk false c) 32 = t.val - rk false c by omega])) $$ Hs
    icases Hs with ⟨%Z, Hs⟩
    iapply (wp_load_slot 𝒱₀ (c : Thread nD τ) none (inb6 (t.val - rk false c)) (off18_eq c t hC) (fun _ => rfl) squeezes_S1x256x2048_S256x2048 shapeCasts_S256x2048_S1x256x2048) $$ Hx
    iintro Hx
    iapply (wp_load_slot 𝒱₀ (c : Thread nD τ) none (inb6 (t.val - rk false c)) (off18_eq c t hC) (fun _ => rfl) squeezes_S1x256x2048_S256x2048 shapeCasts_S256x2048_S1x256x2048) $$ Hr
    iintro Hr
    iapply (wp_load_slot 𝒱₀ (c : Thread nD τ) none (inb2 (t.val - rk false c)) (off19_eq c t hC) (fun _ => rfl) squeezes_S1x256x2048_S256x2048 shapeCasts_S256x2048_S1x256x2048) $$ Hs
    iintro Hs
    iapply (wp_store_slot 𝒱₀ (c : Thread nD τ) none (inb2 (t.val - rk false c)) (off19_eq c t hC) (fun _ => rfl) squeezes_S1x256x2048_S256x2048 shapeCasts_S1x256x2048_S256x2048) $$ Hs
    iintro Hs
    rw [wp_ret]; imodintro
    isplitl [Hs Hrest]
    · isplitl [Hs]
      · rw [← step_acc m false c (t.val - rk false c) Y hY]
        iexact Hs
      iexact Hrest
    isplitl [Hx Hxb]
    · iapply Hxb; iexact Hx
    isplitl [Hr Hrb]
    · iapply Hrb; iexact Hr
    iexact HO

/-! ## One transfer's payload computed: direction `true` -/

theorem part2_spec (t : Trip) (v2 v5 v12 v68 : BitVec 32) (hC : k0_cond11 c t = 1#1) :
    iprop(Recs m ∗ sendAt c true t.val (t.val + 1) ∗ lxAt m c (t.val + 1) (t.val + 1) t.val ∗ recvAt m c true (t.val + 1) t.val (t.val + 1) ∗ owesAt c (t.val + 1) t.val)
      ⊢ wp frame (wpE (defs₀ (F := F)) 𝒱₀ (c : Thread nD τ) none) Set.univ
          (k0_part2 (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v2 v5 (bit true c) v12 t v68 hC)
          (fun _ => iprop((owns (c : Thread nD τ) (sl2 (sendM true) (t.val - rk true c)) fullShare (acc m true c (t.val - rk true c))
              ∗ CsendRest true c (min (t.val - rk true c) 32) (min (t.val + 1 - rk true c - 2) 30) (max 6 (min ((t.val + 1) + 1) 32)))
            ∗ lxAt m c (t.val + 1) (t.val + 1) t.val ∗ recvAt m c true (t.val + 1) t.val (t.val + 1) ∗ owesAt c (t.val + 1) t.val)) := by
  obtain ⟨ho, hlo, hhi⟩ := (cond11_iff c t).mp hC
  have hr : rk true c < 3 := ho
  have ht : t.val < 35 := lt_of_lt_of_eq t.isLt trips_eq
  rw [k0_part2_eq_skeleton]
  unfold k0_part2_skel
  simp only [Prog.lift, Prog.bind_op, Prog.bind_ret, Prog.pure_eq_ret]
  refine wp_skip iprop(Recs m ∗ Csend true c (min (t.val - rk true c) 32) (min (t.val + 1 - rk true c - 2) 30) (max 6 (min ((t.val + 1) + 1) 32)) ∗ lxAt m c (t.val + 1) (t.val + 1) t.val ∗ recvAt m c true (t.val + 1) t.val (t.val + 1) ∗ owesAt c (t.val + 1) t.val) ?_ ?_ ?_
  · intro hn
    have hn' : ¬(rk true c + 2 ≤ t.val) := fun h => hn ((cond12_iff c t hC).mpr h)
    unfold sendAt
    rw [show min (t.val + 1 - rk true c - 2) 30 = min (t.val - rk true c - 2) 30 by omega]
  · intro hw h₃
    have hw' : rk true c + 2 ≤ t.val := (cond12_iff c t hC).mp hw
    unfold sendAt
    iintro ⟨#HR, HS, Hx, Hr, ⟨%W, HO⟩⟩
    iapply (csend_wait m (n := min (t.val - rk true c) 32) (w := min (t.val - rk true c - 2) 30) (v := max 6 (min ((t.val + 1) + 1) 32)) ho (by omega) (by omega) (by omega) (Nw_send true)
      (eq := (s2_of (A := sendA true) (off27_eq c t hC hw)).trans (sem2_congr (sendA true) (by omega))) (W := W)) $$ [HS HO]
    · isplitr; · iexact HR
      isplitl [HS]; · iexact HS
      isplitl [HO]; · iexact HO
      iapply (may_local m c _ _ _) $$ HR
    iintro ⟨HS, HO⟩
    iapply h₃
    isplitr; · iexact HR
    isplitl [HS]
    · rw [show min (t.val + 1 - rk true c - 2) 30 = min (t.val - rk true c - 2) 30 + 1 by omega]; iexact HS
    isplitl [Hx]; · iexact Hx
    isplitl [Hr]; · iexact Hr
    iexact HO
  · iintro ⟨#HR, HS, Hx, Hr, HO⟩
    ihave H := (csend_take ho (n := min (t.val - rk true c) 32) (w := min (t.val + 1 - rk true c - 2) 30) (v := max 6 (min ((t.val + 1) + 1) 32)) (by omega)) $$ HS
    icases H with ⟨Hs, Hrest⟩
    ihave H := (cin_acc (k := t.val - rk true c) (by omega) (by omega)) $$ Hx
    icases H with ⟨Hx, Hxb⟩
    ihave H := (crecv_acc m (k := t.val - rk true c) (fun _ => by omega) (fun _ => by omega)) $$ Hr
    icases H with ⟨%Y, %hY, Hr, Hrb⟩
    ihave Hs := (show some2 (F := F) c (sendM true) (min (t.val - rk true c) 32) ⊢ iprop(∃ X : Vec F S256x2048 .f32, owns (c : Thread nD τ) (sl2 (sendM true) (t.val - rk true c)) fullShare X) from
      Entails.of_eq (by unfold some2; rw [show min (t.val - rk true c) 32 = t.val - rk true c by omega])) $$ Hs
    icases Hs with ⟨%Z, Hs⟩
    iapply (wp_load_slot 𝒱₀ (c : Thread nD τ) none (inb6 (t.val - rk true c)) (off30_eq c t hC) (fun _ => rfl) squeezes_S1x256x2048_S256x2048 shapeCasts_S256x2048_S1x256x2048) $$ Hx
    iintro Hx
    iapply (wp_load_slot 𝒱₀ (c : Thread nD τ) none (inb6 (t.val - rk true c)) (off30_eq c t hC) (fun _ => rfl) squeezes_S1x256x2048_S256x2048 shapeCasts_S256x2048_S1x256x2048) $$ Hr
    iintro Hr
    iapply (wp_load_slot 𝒱₀ (c : Thread nD τ) none (inb2 (t.val - rk true c)) (off31_eq c t hC) (fun _ => rfl) squeezes_S1x256x2048_S256x2048 shapeCasts_S256x2048_S1x256x2048) $$ Hs
    iintro Hs
    iapply (wp_store_slot 𝒱₀ (c : Thread nD τ) none (inb2 (t.val - rk true c)) (off31_eq c t hC) (fun _ => rfl) squeezes_S1x256x2048_S256x2048 shapeCasts_S1x256x2048_S256x2048) $$ Hs
    iintro Hs
    rw [wp_ret]; imodintro
    isplitl [Hs Hrest]
    · isplitl [Hs]
      · rw [← step_acc m true c (t.val - rk true c) Y hY]
        iexact Hs
      iexact Hrest
    isplitl [Hx Hxb]
    · iapply Hxb; iexact Hx
    isplitl [Hr Hrb]
    · iapply Hrb; iexact Hr
    iexact HO

end Cert.KernelIdeal.Tab
-- ==== Proof.KI.Opening.lean ====
/- The opening of the kernel: its barrier. -/
module

public import proofs.«01_k».proof.Proof.KI.State

@[expose] public section

set_option maxRecDepth 20000

noncomputable section

namespace Cert.KernelIdeal.Tab

open Cert.KernelIdeal Cert.KernelIdeal.Gen Cert.Proof.Kit
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ) (c : Dev nD)

/-! ## What a device starts with -/

/-- To send in direction `d`: its slots and their cells at round 0, and, if it sends, the duties of its transfers and of
    its barrier signal, and the credit of the signal it waits for. -/
def sendPre (d : Dir) (c : Dev nD) : sProp 𝕄 :=
  if hasOut d c then iprop(Seg 0 2 (sendIdle d c) ∗ Seg 0 32 (sendTok d c) ∗ dutyTok ER (barCell (nb d c)) 0 (!d) ∗ cred (tallyAt (barCell c) 1 1))
  else Seg 0 2 (sendIdle d c)
/-- The same once its own signal is out. -/
def sendMid (d : Dir) (c : Dev nD) : sProp 𝕄 :=
  if hasOut d c then iprop(Seg 0 2 (sendIdle d c) ∗ Seg 0 32 (sendTok d c) ∗ cred (tallyAt (barCell c) 1 1))
  else Seg 0 2 (sendIdle d c)
/-- To receive in direction `d`: its landing slots and their cells at round 0, and the credits of the arrivals. -/
def recvPre (d : Dir) (c : Dev nD) : sProp 𝕄 :=
  if hasIn d c then iprop(Seg 0 6 (recvPos d c) ∗ Seg 0 6 (some6 c (landM d)) ∗ Seg 0 32 (recvCred d c))
  else iprop(Seg 0 6 (recvPos d c) ∗ Seg 0 6 (some6 c (landM d)))

variable {c}

theorem recv_ready {d : Dir} (hi : hasIn d c) : iprop(Seg 0 6 (recvPos d c) ∗ Seg 0 32 (recvCred d c)) ⊢ Crecv m d c 0 0 0 := by
  unfold Crecv
  rw [if_pos hi]
  iintro ⟨Hp, Hc⟩
  isplitl [Hp]; · iexact Hp
  isplitl [Hc]; · iexact Hc
  rw [seg_nil (le_refl 0), seg_nil (le_refl 0)]
  isplitl []; · iempintro
  iempintro
theorem recv_ready' {d : Dir} (hi : ¬hasIn d c) : recvPre (F := F) d c ⊢ Crecv m d c 0 0 0 := by
  unfold Crecv recvPre
  rw [if_neg hi, if_neg hi]

theorem send_ready {d : Dir} (ho : hasOut d c) :
    iprop(Recs m ∗ Seg 0 2 (sendIdle d c) ∗ Seg 0 32 (sendTok d c) ∗ barPay d c) ⊢ Csend (F := F) d c 0 0 6 := by
  unfold Csend barPay
  rw [if_pos ho, seg_nil (le_refl 0)]
  obtain ⟨i, hi⟩ := exists_send d c 0
  obtain ⟨j, hj⟩ := exists_send d c 1
  have h0 : iprop(Seg 0 2 (sendIdle (F := F) d c) ∗ reached ER (sendCell d c 0) 0 ∗ reached ER (sendCell d c 1) 0) ⊢ Seg 0 (0 + 2) (sendFree d c) := by
    rw [seg_head (a := 0) (b := 2) (by decide), seg_head (a := 0 + 1) (b := 2) (by decide), seg_nil (a := 0 + 1 + 1) (b := 2) (le_refl 2),
      seg_head (a := 0) (b := 0 + 2) (by decide), seg_head (a := 0 + 1) (b := 0 + 2) (by decide), seg_nil (a := 0 + 1 + 1) (b := 0 + 2) (le_refl 2)]
    iintro ⟨⟨⟨Hs0, Ha0⟩, ⟨Hs1, Ha1⟩, -⟩, H0, H1⟩
    isplitl [Hs0 Ha0 H0]
    · isplitl [Hs0]; · iexact Hs0
      isplitl [Ha0]; · iexact Ha0
      iexact H0
    isplitl [Hs1 Ha1 H1]
    · isplitl [Hs1]; · iexact Hs1
      isplitl [Ha1]; · iexact Ha1
      iexact H1
    iempintro
  iintro ⟨#HR, Hs, Ht, Hp⟩
  isplitl []; · iempintro
  isplitl [Hs]
  · iapply h0
    isplitl [Hs]; · iexact Hs
    isplitr
    · iapply (recs_reached m (c, i) _ hi) $$ HR
    iapply (recs_reached m (c, j) _ hj) $$ HR
  isplitl [Ht]; · iexact Ht
  have hrow : ∀ k : ℕ, k < 6 → Recs (F := F) m ⊢ reached ER (recvCell d (nb d c) k) (k / 6) := fun k hk => by
    obtain ⟨i, hi⟩ := exists_recv d (nb d c) k
    rw [Nat.div_eq_of_lt hk]
    exact recs_reached m (nb d c, i) _ hi
  rw [show Seg 0 6 (sendRoom d c) = iprop(Seg 0 6 (some6 (F := F) (nb d c) (landM d)) ∗ Seg 0 6 (fun k => reached ER (recvCell d (nb d c) k) (k / 6))) from seg_sep]
  isplitl [Hp]; · iexact Hp
  rw [seg_head (a := 0) (b := 6) (by decide), seg_head (a := 0 + 1) (b := 6) (by decide), seg_head (a := 0 + 1 + 1) (b := 6) (by decide), seg_head (a := 0 + 1 + 1 + 1) (b := 6) (by decide),
    seg_head (a := 0 + 1 + 1 + 1 + 1) (b := 6) (by decide), seg_head (a := 0 + 1 + 1 + 1 + 1 + 1) (b := 6) (by decide), seg_nil (a := 0 + 1 + 1 + 1 + 1 + 1 + 1) (b := 6) (by decide)]
  isplitl []; · iapply (hrow 0 (by decide)) $$ HR
  isplitl []; · iapply (hrow 1 (by decide)) $$ HR
  isplitl []; · iapply (hrow 2 (by decide)) $$ HR
  isplitl []; · iapply (hrow 3 (by decide)) $$ HR
  isplitl []; · iapply (hrow 4 (by decide)) $$ HR
  isplitl []; · iapply (hrow 5 (by decide)) $$ HR
  iempintro
theorem send_ready' {d : Dir} (ho : ¬hasOut d c) : sendMid (F := F) d c ⊢ Csend d c 0 0 6 := by
  unfold Csend sendMid
  rw [if_neg ho, if_neg ho]

/-! ## The barrier -/

theorem bar_signal {d : Dir} (ho : hasOut d c) {e : Dev nD} (he : e = nb d c) {q : Sem sig} (hq : q = barrier0)
    {O₀ O : CellTallies nD τ sig ℕ} (hO : O₀ = O + oBar d c) {W : Waits sig ℕ}
    {α : Type} {Q : α → sProp 𝕄} {k : PUnit → Prog (TpuEff nD τ sig (Elt F) Λ₀ .tc) α} :
    iprop(Recs m ∗ owes (c : Thread nD τ) O₀ W ∗ dutyTok ER (barCell (nb d c)) 0 (!d) ∗ Seg 0 6 (some6 c (landM (!d))))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc e : Thread nD τ) q 1) k) Q) := by
  subst he hq
  iintro ⟨#HR, HO, Ht, Hp⟩ Hk
  ihave HI := (recs_bar m (nb d c)) $$ HR
  icases HI with ⟨%κ, #HI⟩
  iapply (Rounds.wp_signal 𝒱₀ ER (Rd m) (c : Thread nD τ) none (dst := (nb d c : Thread nD τ)) (κ := κ) (r := 0) (d := !d)
    (by rw [duties_bar m (nb d c)]; exact Finset.mem_filter.mpr ⟨Finset.mem_univ _, (hasOut_not d (nb d c)).mpr ((hasIn_nb d c).mpr ho)⟩)
    (amount_bar m (nb d c) 0 (!d)) 1 O (hO.trans (by unfold oBar; rw [if_pos ho])) (routes_nb d c)) $$ [HO Ht Hp]
  · isplitr; · iexact HI
    isplitl [HO]; · iexact HO
    isplitl [Ht]; · iexact Ht
    isplitl [Hp]
    · rw [payload_bar]; unfold barPay; rw [nb_nb]; iexact Hp
    iapply (recs_reached m (nb d c, 0) _ (rcell_bar _)) $$ HR
  iintro HO
  iapply Hk
  iexact HO

theorem may_bar (m : (ℓ : Loc nD τ sig) → Buf (Elt F) ℓ) (c : Dev nD) : Recs (F := F) m ⊢ MayWait (c : Thread nD τ) (.reg barrier0) 1 (oTot c 0 0) :=
  (recs_lev m).trans (mayWait_tot c (.reg barrier0) 1 0 0 (by decide) (fun _ _ => by omega) (fun _ _ => by omega))

/-- A device at an end of its line waits for one signal. -/
theorem bar_wait_end {d : Dir} (ho : hasOut d c) (hn : ¬hasOut (!d) c) {q : Sem sig} (hq : q = barrier0) {W : Waits sig ℕ}
    {α : Type} {Q : α → sProp 𝕄} {k : PUnit → Prog (TpuEff nD τ sig (Elt F) Λ₀ .tc) α} :
    iprop(Recs m ∗ cred (tallyAt (barCell c) 1 1) ∗ owes (c : Thread nD τ) (oTot c 0 0) W ∗ atPos ER (barCell c) 0 ∅ 0)
      ⊢ iprop((((∃ W, owes (c : Thread nD τ) (oTot c 0 0) W) ∗ atPos ER (barCell c) 1 ∅ 0 ∗ barPay d c) -∗ wp frame (wpE (defs₀ (F := F)) 𝒱₀ (c : Thread nD τ) none) Set.univ (k ⟨⟩) Q)
          -∗ wp frame (wpE (defs₀ (F := F)) 𝒱₀ (c : Thread nD τ) none) Set.univ (.op (.semWait q 1) k) Q) := by
  subst hq
  have hd : (Rd (F := F) m).duties (barCell c) 0 = {d} := by
    rw [duties_bar]; ext b
    simp only [Finset.mem_filter, Finset.mem_univ, true_and, Finset.mem_singleton]
    constructor
    · intro h; by_contra hb; rw [show b = !d by cases b <;> cases d <;> simp_all] at h; exact hn h
    · rintro rfl; exact ho
  have he : bigSep ((Rd (F := F) m).duties (barCell c) 0 \ ∅) ((Rd m).payload (barCell c) 0) ⊢ barPay d c := by
    rw [Finset.sdiff_empty, hd, BI.bigSep_singleton, payload_bar]
  iintro ⟨#HR, Hc, HO, Hat⟩ Hk
  ihave HI := (recs_bar m c) $$ HR
  icases HI with ⟨%κ, #HI⟩
  iapply (Rounds.wp_wait_rest_token 𝒱₀ ER (Rd m) (c : Thread nD τ) none (κ := κ)
      (wpE_semWait_eq 𝒱₀ (c : Thread nD τ) none Set.univ) (Set.mem_univ _) 1 (O := oTot c 0 0) (W := W) (R := 0) (m := 0) (T := ∅)
      (by unfold Schedule.expect Schedule.amountOf; rw [hd, Finset.sum_singleton, amount_bar])) $$ [Hc HO Hat]
  · isplitr; · iexact HI
    isplitl [Hc]; · iexact Hc
    isplitl [HO]; · iexact HO
    isplitr; · iapply (may_bar m c) $$ HR
    iexact Hat
  iintro ⟨HO, Hat, -, Hpay⟩
  iapply Hk
  isplitl [HO]; · iexists _; iexact HO
  isplitl [Hat]; · iexact Hat
  iapply he
  iexact Hpay

/-- A device inside its line waits for two, one after the other. -/
theorem bar_wait_first (h₁ : hasOut false c) (h₂ : hasOut true c) {q : Sem sig} (hq : q = barrier0) {W : Waits sig ℕ}
    {α : Type} {Q : α → sProp 𝕄} {k : PUnit → Prog (TpuEff nD τ sig (Elt F) Λ₀ .tc) α} :
    iprop(Recs m ∗ cred (tallyAt (barCell c) 1 1) ∗ owes (c : Thread nD τ) (oTot c 0 0) W ∗ atPos ER (barCell c) 0 ∅ 0)
      ⊢ iprop((((∃ W, owes (c : Thread nD τ) (oTot c 0 0) W) ∗ ∃ S : Finset Bool, atPos ER (barCell c) 0 S 1 ∗ bigSep S (fun b => barPay (F := F) b c)) -∗ wp frame (wpE (defs₀ (F := F)) 𝒱₀ (c : Thread nD τ) none) Set.univ (k ⟨⟩) Q)
          -∗ wp frame (wpE (defs₀ (F := F)) 𝒱₀ (c : Thread nD τ) none) Set.univ (.op (.semWait q 1) k) Q) := by
  subst hq
  iintro ⟨#HR, Hc, HO, Hat⟩ Hk
  ihave HI := (recs_bar m c) $$ HR
  icases HI with ⟨%κ, #HI⟩
  iapply (Rounds.wp_wait 𝒱₀ ER (Rd m) (c : Thread nD τ) none (κ := κ)
      (wpE_semWait_eq 𝒱₀ (c : Thread nD τ) none Set.univ) (Set.mem_univ _) {(SemLoc.reg barrier0, 1)} (cr := Finsupp.single 1 1) (O := oTot c 0 0) (W := W) (R := 0) (m := 0) (T := ∅)
      (by rw [Util.total_single]) (image_single_subset _ _ _)) $$ [Hc HO Hat]
  · isplitr; · iexact HI
    isplitl [Hc]; · iexact Hc
    isplitl [HO]; · iexact HO
    isplitr; · iapply (may_bar m c) $$ HR
    iexact Hat
  iintro %S ⟨-, HO, Hat, Hpay⟩
  iapply Hk
  isplitl [HO]; · iexists _; iexact HO
  iexists S
  isplitl [Hat]; · iexact Hat
  iapply (show bigSep (S \ ∅) ((Rd (F := F) m).payload (barCell c) 0) ⊢ bigSep S (fun b => barPay (F := F) b c) by
    rw [Finset.sdiff_empty, show (Rd (F := F) m).payload (barCell c) 0 = (fun b => barPay b c) from funext fun b => payload_bar m c 0 b])
  iexact Hpay

theorem bar_wait_second (h₁ : hasOut false c) (h₂ : hasOut true c) {q : Sem sig} (hq : q = barrier0) {W : Waits sig ℕ} {S : Finset Bool}
    {α : Type} {Q : α → sProp 𝕄} {k : PUnit → Prog (TpuEff nD τ sig (Elt F) Λ₀ .tc) α} :
    iprop(Recs m ∗ cred (tallyAt (barCell c) 1 1) ∗ owes (c : Thread nD τ) (oTot c 0 0) W ∗ atPos ER (barCell c) 0 S 1 ∗ bigSep S (fun b => barPay (F := F) b c))
      ⊢ iprop((((∃ W, owes (c : Thread nD τ) (oTot c 0 0) W) ∗ atPos ER (barCell c) 1 ∅ 0 ∗ barPay false c ∗ barPay true c) -∗ wp frame (wpE (defs₀ (F := F)) 𝒱₀ (c : Thread nD τ) none) Set.univ (k ⟨⟩) Q)
          -∗ wp frame (wpE (defs₀ (F := F)) 𝒱₀ (c : Thread nD τ) none) Set.univ (.op (.semWait q 1) k) Q) := by
  subst hq
  have hd : (Rd (F := F) m).duties (barCell c) 0 = Finset.univ := by
    rw [duties_bar]; ext b
    simp only [Finset.mem_filter, Finset.mem_univ, true_and, iff_true]
    cases b <;> assumption
  have e : iprop(bigSep S (fun b => barPay (F := F) b c) ∗ bigSep ((Rd (F := F) m).duties (barCell c) 0 \ S) ((Rd m).payload (barCell c) 0)) ⊢ iprop(barPay false c ∗ barPay true c) := by
    rw [hd, show (Rd (F := F) m).payload (barCell c) 0 = (fun b => barPay b c) from funext fun b => payload_bar m c 0 b]
    refine (show _ ⊢ bigSep (Finset.univ : Finset Bool) (fun b => barPay (F := F) b c) from ?_).trans ?_
    · rw [show bigSep (Finset.univ : Finset Bool) (fun b => barPay (F := F) b c) = iprop(bigSep S (fun b => barPay (F := F) b c) ∗ bigSep (Finset.univ \ S) (fun b => barPay (F := F) b c))
        from BI.bigSep_sdiff_split (Finset.subset_univ S)]
    · rw [show (Finset.univ : Finset Bool) = insert false {true} from by decide, BI.bigSep_insert (by decide), BI.bigSep_singleton]
      exact .rfl
  iintro ⟨#HR, Hc, HO, Hat, Hp⟩ Hk
  ihave HI := (recs_bar m c) $$ HR
  icases HI with ⟨%κ, #HI⟩
  iapply (Rounds.wp_wait_rest_token 𝒱₀ ER (Rd m) (c : Thread nD τ) none (κ := κ)
      (wpE_semWait_eq 𝒱₀ (c : Thread nD τ) none Set.univ) (Set.mem_univ _) 1 (O := oTot c 0 0) (W := W) (R := 0) (m := 1) (T := S)
      (by unfold Schedule.expect Schedule.amountOf; rw [hd, Finset.sum_congr rfl (fun b _ => amount_bar m c 0 b)]; rfl)) $$ [Hc HO Hat]
  · isplitr; · iexact HI
    isplitl [Hc]; · iexact Hc
    isplitl [HO]; · iexact HO
    isplitr; · iapply (may_bar m c) $$ HR
    iexact Hat
  iintro ⟨HO, Hat, -, Hpay⟩
  iapply Hk
  isplitl [HO]; · iexists _; iexact HO
  isplitl [Hat]; · iexact Hat
  iapply e
  isplitl [Hp] <;> iassumption

/-! ## The opening: signals, waits -/

theorem bits_eq : ∀ c : Dev nD, Scalar.cmpi .sgt (Scalar.remsi (Scalar.divsi (Dev.word c) 1#32) 4#32) 0#32 = bit false c
    ∧ Scalar.cmpi .slt (Scalar.remsi (Scalar.divsi (Dev.word c) 1#32) 4#32) 3#32 = bit true c := by decide +kernel
theorem cond3_iff : ∀ c : Dev nD, Iff (Scalar.cmpi .ne (Scalar.extui (Scalar.andi (bit false c) (bit true c)) : BitVec 32) 0#32 = 1#1) (hasOut false c ∧ hasOut true c) := by decide +kernel
theorem one_out : ∀ c : Dev nD, hasOut false c ∨ hasOut true c := by decide +kernel

/-- Both directions ready. -/
abbrev Ready (c : Dev nD) : sProp 𝕄 :=
  iprop((Csend false c 0 0 6 ∗ Crecv m false c 0 0 0) ∗ (Csend true c 0 0 6 ∗ Crecv m true c 0 0 0) ∗ (∃ W, owes (c : Thread nD τ) (oTot c 0 0) W)
    ∗ atPos ER (barCell c) 1 ∅ 0)

set_option maxHeartbeats 2000000 in
theorem part5_spec :
    iprop(Recs m ∗ (sendPre false c ∗ recvPre false c) ∗ (sendPre true c ∗ recvPre true c) ∗ (∃ W, owes (c : Thread nD τ) (oTot c 0 0 + oBar true c + oBar false c) W) ∗ atPos ER (barCell c) 0 ∅ 0)
      ⊢ wp frame (wpE (defs₀ (F := F)) 𝒱₀ (c : Thread nD τ) none) Set.univ (k0_part5 (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13)
          (fun v => iprop(∃ v2 v5 v8 v12 v14, ⌜v = ⟨c, v2, v5, v8, bit false c, bit true c, v12, v14⟩⌝ ∗ Ready m c)) := by
  rw [k0_part5_eq_skeleton]
  unfold k0_part5_skel
  simp only [semSignalWord, semWaitWord, Prog.lift, Prog.bind_op, Prog.bind_ret, Prog.pure_eq_ret, Prog.bind_assoc, wp_deviceId]
  rw [(bits_eq c).1, (bits_eq c).2]
  refine wp_skip iprop(Recs m ∗ (sendMid false c ∗ recvPre false c) ∗ (sendPre true c ∗ Crecv m true c 0 0 0) ∗ (∃ W, owes (c : Thread nD τ) (oTot c 0 0 + oBar true c) W) ∗ atPos ER (barCell c) 0 ∅ 0) ?_ ?_ ?_
  · intro hn
    have hn' : ¬hasOut false c := fun h => hn ((cond1_iff c).mpr h)
    have hi : ¬hasIn true c := fun h => hn' ((hasIn_not false c).mp h)
    unfold sendPre sendMid
    rw [if_neg hn', if_neg hn', show oBar false c = 0 from if_neg hn', add_zero]
    iintro ⟨#HR, Hf, ⟨Hs, Hr⟩, HO, Hat⟩
    isplitr; · iexact HR
    isplitl [Hf]; · iexact Hf
    isplitl [Hs Hr]
    · isplitl [Hs]; · iexact Hs
      iapply (recv_ready' m hi) $$ Hr
    isplitl [HO] <;> iassumption
  · intro hC h₃
    have ho : hasOut false c := (cond1_iff c).mp hC
    have hi : hasIn true c := (hasIn_not false c).mpr ho
    rw [show sendPre (F := F) false c = _ from if_pos ho, show recvPre (F := F) true c = _ from if_pos hi]
    iintro ⟨#HR, ⟨⟨Hs, Htok, Hb, Hc⟩, Hr⟩, ⟨Hst, ⟨Hp, Hl, Hcr⟩⟩, ⟨%W, HO⟩, Hat⟩
    iapply (bar_signal m (d := false) ho (Fin.ext (dev1_eq c hC) : (⟨k0_dev1 c, k0_dev1_lt c hC⟩ : Dev nD) = nb false c) rfl (O := oTot c 0 0 + oBar true c) rfl (W := W)) $$ [HO Hb Hl]
    · isplitr; · iexact HR
      isplitl [HO]; · iexact HO
      isplitl [Hb]; · iexact Hb
      iexact Hl
    iintro HO
    iapply h₃
    isplitr; · iexact HR
    isplitl [Hs Htok Hc Hr]
    · isplitr [Hr]; rotate_left
      · iexact Hr
      unfold sendMid; rw [if_pos ho]
      isplitl [Hs]; · iexact Hs
      isplitl [Htok] <;> iassumption
    isplitl [Hst Hp Hcr]
    · isplitl [Hst]; · iexact Hst
      iapply (recv_ready m hi)
      isplitl [Hp] <;> iassumption
    isplitl [HO]; · iexists W; iexact HO
    iexact Hat
  refine wp_skip iprop(Recs m ∗ (sendMid false c ∗ Crecv m false c 0 0 0) ∗ (sendMid true c ∗ Crecv m true c 0 0 0) ∗ (∃ W, owes (c : Thread nD τ) (oTot c 0 0) W) ∗ atPos ER (barCell c) 0 ∅ 0) ?_ ?_ ?_
  · intro hn
    have hn' : ¬hasOut true c := fun h => hn ((cond2_iff c).mpr (by unfold hasOut rk at h; rw [if_pos rfl] at h; omega))
    have hi : ¬hasIn false c := fun h => hn' ((hasIn_not true c).mp h)
    unfold sendPre
    rw [show sendMid (F := F) true c = _ from if_neg hn', if_neg hn', show oBar true c = 0 from if_neg hn', add_zero]
    iintro ⟨#HR, ⟨Hs, Hr⟩, Ht, HO, Hat⟩
    isplitr; · iexact HR
    isplitl [Hs Hr]
    · isplitl [Hs]; · iexact Hs
      iapply (recv_ready' m hi) $$ Hr
    isplitl [Ht]; · iexact Ht
    isplitl [HO] <;> iassumption
  · intro hC h₃
    have ho : hasOut true c := by have := (cond2_iff c).mp hC; unfold hasOut rk; rw [if_pos rfl]; omega
    have hi : hasIn false c := (hasIn_not true c).mpr ho
    rw [show sendPre (F := F) true c = _ from if_pos ho, show recvPre (F := F) false c = _ from if_pos hi]
    iintro ⟨#HR, ⟨Hst, ⟨Hp, Hl, Hcr⟩⟩, ⟨⟨Hs, Htok, Hb, Hc⟩, Hr⟩, ⟨%W, HO⟩, Hat⟩
    iapply (bar_signal m (d := true) ho (Fin.ext (dev2_eq c hC) : (⟨k0_dev2 c, k0_dev2_lt c hC⟩ : Dev nD) = nb true c) rfl (O := oTot c 0 0) rfl (W := W)) $$ [HO Hb Hl]
    · isplitr; · iexact HR
      isplitl [HO]; · iexact HO
      isplitl [Hb]; · iexact Hb
      iexact Hl
    iintro HO
    iapply h₃
    isplitr; · iexact HR
    isplitl [Hst Hp Hcr]
    · isplitl [Hst]; · iexact Hst
      iapply (recv_ready m hi)
      isplitl [Hp] <;> iassumption
    isplitl [Hs Htok Hc Hr]
    · isplitr [Hr]; rotate_left
      · iexact Hr
      unfold sendMid; rw [if_pos ho]
      isplitl [Hs]; · iexact Hs
      isplitl [Htok] <;> iassumption
    isplitl [HO]; · iexists W; iexact HO
    iexact Hat
  by_cases hb : hasOut false c ∧ hasOut true c
  · obtain ⟨h₁, h₂⟩ := hb
    rw [dif_pos ((cond3_iff c).mpr ⟨h₁, h₂⟩), show sendMid (F := F) false c = _ from if_pos h₁, show sendMid (F := F) true c = _ from if_pos h₂]
    iintro ⟨#HR, ⟨⟨Hs, Htok, Hc⟩, Hr⟩, ⟨⟨Hs', Htok', Hc'⟩, Hr'⟩, ⟨%W, HO⟩, Hat⟩
    iapply (bar_wait_first m h₁ h₂ rfl (W := W)) $$ [Hc HO Hat]
    · isplitr; · iexact HR
      isplitl [Hc]; · iexact Hc
      isplitl [HO] <;> iassumption
    iintro ⟨⟨%W, HO⟩, %S, Hat, Hp⟩
    iapply (bar_wait_second m h₁ h₂ rfl (W := W) (S := S)) $$ [Hc' HO Hat Hp]
    · isplitr; · iexact HR
      isplitl [Hc']; · iexact Hc'
      isplitl [HO]; · iexact HO
      isplitl [Hat] <;> iassumption
    iintro ⟨HO, Hat, Hp, Hp'⟩
    rw [wp_ret]; imodintro
    iexists _, _, _, _, _
    isplitr; · ipureintro; rfl
    isplitl [Hs Htok Hp Hr]
    · isplitr [Hr]; rotate_left
      · iexact Hr
      iapply (send_ready m h₁)
      isplitr; · iexact HR
      isplitl [Hs]; · iexact Hs
      isplitl [Htok] <;> iassumption
    isplitl [Hs' Htok' Hp' Hr']
    · isplitr [Hr']; rotate_left
      · iexact Hr'
      iapply (send_ready m h₂)
      isplitr; · iexact HR
      isplitl [Hs']; · iexact Hs'
      isplitl [Htok'] <;> iassumption
    isplitl [HO] <;> iassumption
  · rw [dif_neg (fun h => hb ((cond3_iff c).mp h))]
    rcases one_out c with h₁ | h₁
    · have h₂ : ¬hasOut true c := fun h => hb ⟨h₁, h⟩
      rw [show sendMid (F := F) false c = _ from if_pos h₁]
      iintro ⟨#HR, ⟨⟨Hs, Htok, Hc⟩, Hr⟩, ⟨Hs', Hr'⟩, ⟨%W, HO⟩, Hat⟩
      iapply (bar_wait_end m (d := false) h₁ h₂ rfl (W := W)) $$ [Hc HO Hat]
      · isplitr; · iexact HR
        isplitl [Hc]; · iexact Hc
        isplitl [HO] <;> iassumption
      iintro ⟨HO, Hat, Hp⟩
      rw [wp_ret]; imodintro
      iexists _, _, _, _, _
      isplitr; · ipureintro; rfl
      isplitl [Hs Htok Hp Hr]
      · isplitr [Hr]; rotate_left
        · iexact Hr
        iapply (send_ready m h₁)
        isplitr; · iexact HR
        isplitl [Hs]; · iexact Hs
        isplitl [Htok] <;> iassumption
      isplitl [Hs' Hr']
      · isplitr [Hr']; rotate_left
        · iexact Hr'
        iapply (send_ready' h₂) $$ Hs'
      isplitl [HO] <;> iassumption
    · have h₂ : ¬hasOut false c := fun h => hb ⟨h, h₁⟩
      rw [show sendMid (F := F) true c = _ from if_pos h₁]
      iintro ⟨#HR, ⟨Hs', Hr'⟩, ⟨⟨Hs, Htok, Hc⟩, Hr⟩, ⟨%W, HO⟩, Hat⟩
      iapply (bar_wait_end m (d := true) h₁ h₂ rfl (W := W)) $$ [Hc HO Hat]
      · isplitr; · iexact HR
        isplitl [Hc]; · iexact Hc
        isplitl [HO] <;> iassumption
      iintro ⟨HO, Hat, Hp⟩
      rw [wp_ret]; imodintro
      iexists _, _, _, _, _
      isplitr; · ipureintro; rfl
      isplitl [Hs' Hr']
      · isplitr [Hr']; rotate_left
        · iexact Hr'
        iapply (send_ready' h₂) $$ Hs'
      isplitl [Hs Htok Hp Hr]
      · isplitr [Hr]; rotate_left
        · iexact Hr
        iapply (send_ready m h₁)
        isplitr; · iexact HR
        isplitl [Hs]; · iexact Hs
        isplitl [Htok] <;> iassumption
      isplitl [HO] <;> iassumption

end Cert.KernelIdeal.Tab
-- ==== Proof.KI.TripA.lean ====
/- The first part of a trip. -/
module

public import proofs.«01_k».proof.Proof.KI.State

@[expose] public section

set_option maxRecDepth 20000

noncomputable section

namespace Cert.KernelIdeal.Tab

open Cert.KernelIdeal Cert.KernelIdeal.Gen Cert.Proof.Kit
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ) (c : Dev nD)

/-! ## What a skipped block leaves -/

variable {m c}

theorem recvAt_skip {d : Dir} {t l r : ℕ} (h : ¬(hasIn d c ∧ rk d c ≤ t ∧ t < rk d c + 32)) : recvAt m c d t l r = recvAt m c d (t + 1) l r := by
  unfold recvAt
  by_cases hi : hasIn d c
  · rw [show min (t + 1 - rk d c) 32 = min (t - rk d c) 32 by
      rcases Nat.lt_or_ge t (rk d c) with h' | h'
      · omega
      · have := fun h'' => h ⟨hi, h', h''⟩; omega]
  · exact crecv_idle m c hi _ _ _ _ _ _
theorem sendAt_skip {d : Dir} {t v : ℕ} (h : ¬(hasOut d c ∧ rk d c ≤ t ∧ t < rk d c + 32)) : sendAt (F := F) c d t v = sendAt c d (t + 1) v := by
  unfold sendAt
  by_cases ho : hasOut d c
  · have h₂ : t < rk d c ∨ rk d c + 32 ≤ t := by
      rcases Nat.lt_or_ge t (rk d c) with h' | h'
      · exact .inl h'
      · exact .inr (Nat.le_of_not_lt fun h'' => h ⟨ho, h', h''⟩)
    rw [show min (t + 1 - rk d c) 32 = min (t - rk d c) 32 by omega, show min (t + 1 - rk d c - 2) 30 = min (t - rk d c - 2) 30 by omega]
  · exact csend_idle c ho _ _ _ _ _ _
theorem sendAt_room_skip {d e : Dir} (he : e = !d) {i t : ℕ} (h : ¬(hasIn e c ∧ rk e c ≤ t ∧ t < rk e c + 32)) : sendAt (F := F) c d i t = sendAt c d i (t + 1) := by
  subst he
  unfold sendAt
  by_cases ho : hasOut d c
  · have h₂ : t < rk (!d) c ∨ rk (!d) c + 32 ≤ t := by
      rcases Nat.lt_or_ge t (rk (!d) c) with h' | h'
      · exact .inl h'
      · exact .inr (Nat.le_of_not_lt fun h'' => h ⟨(hasIn_not d c).mpr ho, h', h''⟩)
    have := rk_le (!d) c
    rw [show max 6 (min (t + 1 + 1) 32) = max 6 (min (t + 1) 32) by omega]
  · exact csend_idle c ho _ _ _ _ _ _
theorem recvAt_back_skip {d e : Dir} (he : e = !d) {i l t : ℕ} (h : ¬(hasOut e c ∧ rk e c ≤ t ∧ t < rk e c + 32)) : recvAt m c d i l t = recvAt m c d i l (t + 1) := by
  subst he
  unfold recvAt
  by_cases hi : hasIn d c
  · have h₂ : t < rk (!d) c ∨ rk (!d) c + 32 ≤ t := by
      rcases Nat.lt_or_ge t (rk (!d) c) with h' | h'
      · exact .inl h'
      · exact .inr (Nat.le_of_not_lt fun h'' => h ⟨(hasOut_not d c).mpr hi, h', h''⟩)
    have := rk_le (!d) c
    rw [show min (t + 1 - 4) 26 = min (t - 4) 26 by omega]
  · exact crecv_idle m c hi _ _ _ _ _ _
theorem oSend_skip {d : Dir} {t : ℕ} (h : ¬(hasOut d c ∧ rk d c ≤ t ∧ t < rk d c + 32)) : oSend d c (min (t - rk d c) 32) = oSend d c (min (t + 1 - rk d c) 32) := by
  by_cases ho : hasOut d c
  · have h₂ : t < rk d c ∨ rk d c + 32 ≤ t := by
      rcases Nat.lt_or_ge t (rk d c) with h' | h'
      · exact .inl h'
      · exact .inr (Nat.le_of_not_lt fun h'' => h ⟨ho, h', h''⟩)
    rw [show min (t + 1 - rk d c) 32 = min (t - rk d c) 32 by omega]
  · rw [oSend_idle c ho, oSend_idle c ho]
theorem owesAt_skip {t j : ℕ} (h : ¬(hasOut false c ∧ rk false c ≤ t ∧ t < rk false c + 32)) : owesAt (F := F) c t j = owesAt c (t + 1) j := by
  unfold owesAt oTot; rw [oSend_skip h]
theorem owesAt_skip' {t j : ℕ} (h : ¬(hasOut true c ∧ rk true c ≤ t ∧ t < rk true c + 32)) : owesAt (F := F) c j t = owesAt c j (t + 1) := by
  unfold owesAt oTot; rw [oSend_skip h]

variable (m c)

/-- The state inside trip `t`: which parts have been through which block. -/
def St (t i j x s v r b s' v' r' b' o o' : ℕ) : sProp 𝕄 :=
  iprop(Recs m ∗ lxAt m c i j t ∗ rxAt m c x t t ∗ (sendAt c false s v ∗ recvAt m c false r t b) ∗ (sendAt c true s' v' ∗ recvAt m c true r' t b') ∗ owesAt c o o')

variable {c}

/-! ## The first part of a trip: copies, arrivals, the transfer upwards -/

theorem part4_spec (t : Trip) (v2 v5 v8 v12 v14 z o : BitVec 32) :
    St m c t.val t.val t.val t.val t.val t.val t.val t.val t.val t.val t.val t.val t.val t.val
      ⊢ wp frame (wpE (defs₀ (F := F)) 𝒱₀ (c : Thread nD τ) none) Set.univ
          (k0_part4 (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v2 v5 v8 (bit false c) (bit true c) v12 v14 z o t)
          (fun _ => St m c t.val (t.val+1) (t.val+1) (t.val+1) (t.val+1) (t.val+1) (t.val+1) t.val t.val (t.val+1) (t.val+1) (t.val+1) (t.val+1) t.val) := by
  have ht : t.val < 35 := lt_of_lt_of_eq t.isLt trips_eq
  rw [k0_part4_eq_skeleton]
  unfold k0_part4_skel
  simp only [Prog.lift, Prog.bind_op, Prog.bind_ret, Prog.pure_eq_ret, Prog.bind_assoc]
  refine wp_skip (St m c t.val (t.val+1) t.val t.val t.val t.val t.val t.val t.val t.val t.val t.val t.val t.val) ?_ ?_ ?_
  · intro hn
    have hn' : ¬(t.val + 1 < 32) := fun h => hn ((cond4_iff t).mpr h)
    unfold St lxAt
    rw [show min (t.val + 1 + 1) 32 = min (t.val + 1) 32 by omega]
  · intro hC h₃
    have hC' := (cond4_iff t).mp hC
    unfold St
    iintro ⟨#HR, Hx, HZ⟩
    iapply (cin_start (n := 6) (src := xC) (dst := sl6 lxM) (sm := loadS) (V := xV m c) (a := min (t.val + 1) 32) (b := min t.val 32) (h := min (t.val - 3) 32)
      N_lx (by omega) (by omega) (by omega) ((xC_of (off5_eq t hC)).trans (by rw [show min (t.val + 1) 32 = t.val + 1 by omega])) ((sl6_of (M := lxM) (off4_eq t)).trans (sl6_congr lxM (by omega)))
      ((s6_of (A := cc0_scratch7) (off3_eq t)).trans (sem6_congr cc0_scratch7 (by omega)))) $$ Hx
    iintro Hx
    iapply h₃
    unfold St
    isplitr; · iexact HR
    isplitl [Hx]
    · unfold lxAt; rw [show min (t.val + 1 + 1) 32 = min (t.val + 1) 32 + 1 by omega]; iexact Hx
    iexact HZ
  refine wp_skip (St m c t.val (t.val+1) t.val (t.val+1) t.val t.val t.val t.val t.val t.val t.val t.val t.val t.val) ?_ ?_ ?_
  · intro hn
    have hn' := fun h => hn ((cond5_iff t).mpr h)
    have h₂ : t.val < 2 ∨ 34 ≤ t.val := by
      rcases Nat.lt_or_ge t.val 2 with h | h
      · exact .inl h
      · exact .inr (Nat.le_of_not_lt fun h' => hn' ⟨h, h'⟩)
    unfold St rxAt
    rw [show min (t.val + 1 - 2) 32 = min (t.val - 2) 32 by omega]
  · intro hC h₃
    have hC' := (cond5_iff t).mp hC
    unfold St
    iintro ⟨#HR, Hx, Hrx, HZ⟩
    iapply (cin_start (n := 2) (src := rC) (dst := sl2 rxM) (sm := residS) (V := rV m c) (a := min (t.val - 2) 32) (b := min (t.val - 3) 32) (h := min (t.val - 3) 32)
      N_rx (by omega) (by omega) (by omega) ((rC_of (off8_eq t hC)).trans (by rw [show min (t.val - 2) 32 = t.val - 2 by omega])) ((sl2_of (M := rxM) (off7_eq t hC)).trans (sl2_congr rxM (by omega)))
      ((s2_of (A := cc0_scratch8) (off6_eq t hC)).trans (sem2_congr cc0_scratch8 (by omega)))) $$ Hrx
    iintro Hrx
    iapply h₃
    unfold St
    isplitr; · iexact HR
    isplitl [Hx]; · iexact Hx
    isplitl [Hrx]
    · unfold rxAt; rw [show min (t.val + 1 - 2) 32 = min (t.val - 2) 32 + 1 by omega]; iexact Hrx
    iexact HZ
  refine wp_skip (St m c t.val (t.val+1) (t.val+1) (t.val+1) t.val t.val t.val t.val t.val t.val t.val t.val t.val t.val) ?_ ?_ ?_
  · intro hn
    have hn' : ¬(t.val < 32) := fun h => hn ((cond6_iff t).mpr h)
    unfold St lxAt
    rw [show min (t.val + 1) 32 = 32 by omega, show min t.val 32 = 32 by omega]
  · intro hC h₃
    have hC' := (cond6_iff t).mp hC
    unfold St owesAt
    iintro ⟨#HR, Hx, Hrx, Hf, Ht, ⟨%W, HO⟩⟩
    iapply (cin_wait (n := 6) (src := xC) (dst := sl6 lxM) (sm := loadS) (V := xV m c) (a := min (t.val + 1 + 1) 32) (b := min t.val 32) (h := min (t.val - 3) 32)
      N_lx (by omega) (by omega) Nw_lx ((s6_of (A := cc0_scratch7) (off9_eq t)).trans (sem6_congr cc0_scratch7 (by omega))) (W := W)) $$ [Hx HO]
    · isplitl [Hx]; · iexact Hx
      isplitl [HO]; · iexact HO
      iapply (may_local m c _ _ _) $$ HR
    iintro ⟨Hx, HO⟩
    iapply h₃
    unfold St
    isplitr; · iexact HR
    isplitl [Hx]
    · unfold lxAt; rw [show min (t.val + 1) 32 = min t.val 32 + 1 by omega]; iexact Hx
    isplitl [Hrx]; · iexact Hrx
    isplitl [Hf]; · iexact Hf
    isplitl [Ht]; · iexact Ht
    iexact HO
  refine wp_skip (St m c t.val (t.val+1) (t.val+1) (t.val+1) t.val t.val (t.val+1) t.val t.val (t.val+1) t.val t.val t.val t.val) ?_ ?_ ?_
  · intro hn
    have hn' := fun h => hn ((cond7_iff c t).mpr h)
    unfold St
    rw [recvAt_skip hn', sendAt_room_skip (d := true) (e := false) rfl hn']
  · intro hC h₃
    obtain ⟨hi, hlo, hhi⟩ := (cond7_iff c t).mp hC
    have hr' := rk_le false c
    have hre := rk_not false c
    have hre' : rk true c = 3 - rk false c := hre
    unfold St sendAt recvAt
    iintro ⟨#HR, Hx, Hrx, ⟨Hsf, Hr⟩, ⟨Hs, Hrt⟩, ⟨%W, HO⟩⟩
    iapply (crecv_wait m (n := min (t.val - rk false c) 32) (h := min (t.val - 3) 32) (r := min (t.val - 4) 26) hi (by omega) (by omega) (Nw_land false)
      (eq := (s6_of (A := recvA false) (off12_eq c t hC)).trans (sem6_congr (recvA false) (by omega))) (W := W)) $$ [Hr HO]
    · isplitr; · iexact HR
      isplitl [Hr]; · iexact Hr
      isplitl [HO]; · iexact HO
      iapply ((recs_lev m).trans (mayWait_tot c (.dma (recvS false (min (t.val - rk false c) 32))) (min (t.val - rk false c) 32 + rk false c + 1)
        (min (t.val - rk false c) 32) (min (t.val - rk true c) 32) (by omega) (fun _ _ => by omega) (fun _ _ => by omega))) $$ HR
    iintro ⟨Hr, Hb, HO⟩
    ihave Hb' := (show back false (nb (!false) c) (min (t.val - rk false c) 32 + rk false c - 1) ⊢ back (F := F) (!true) (nb true c) (t.val - 1) from
      Entails.of_eq (by rw [show min (t.val - rk false c) 32 + rk false c - 1 = t.val - 1 by omega]; rfl)) $$ Hb
    ihave Hs := (csend_room (F := F) (d := true) (c := c) (n := min (t.val - rk true c) 32) (w := min (t.val - rk true c - 2) 30) (t := t.val) (by omega) (by omega)) $$ [Hs Hb']
    · isplitl [Hs]; · iexact Hs
      iexact Hb'
    iapply h₃
    unfold St
    isplitr; · iexact HR
    isplitl [Hx]; · iexact Hx
    isplitl [Hrx]; · iexact Hrx
    isplitl [Hsf Hr]
    · isplitl [Hsf]; · iexact Hsf
      unfold recvAt; rw [show min (t.val + 1 - rk false c) 32 = min (t.val - rk false c) 32 + 1 by omega]; iexact Hr
    isplitr [HO]; rotate_left
    · iexact HO
    isplitl [Hs]; · iexact Hs
    iexact Hrt
  refine wp_skip (St m c t.val (t.val+1) (t.val+1) (t.val+1) (t.val+1) t.val (t.val+1) t.val t.val (t.val+1) t.val (t.val+1) (t.val+1) t.val) ?_ ?_ ?_
  · intro hn
    have hn' := fun h => hn ((cond8_iff c t).mpr h)
    unfold St
    rw [sendAt_skip hn', recvAt_back_skip (d := true) (e := false) rfl hn', owesAt_skip hn']
  · intro hC h₃
    obtain ⟨ho, hlo, hhi⟩ := (cond8_iff c t).mp hC
    have hiE : hasIn true c := (hasIn_not false c).mpr ho
    unfold St
    iintro ⟨#HR, Hx, Hrx, ⟨Hs, Hr⟩, ⟨Hst, Hrt⟩, HO⟩
    iapply (wp_block 𝒱₀ (c : Thread nD τ) none (part1_spec m t _ _ _ _ hC)) $$ [Hs Hx Hr HO]
    · isplitr; · iexact HR
      isplitl [Hs]; · iexact Hs
      isplitl [Hx]; · iexact Hx
      isplitl [Hr]; · iexact Hr
      iexact HO
    iintro %_ ⟨⟨Hs, Hrest⟩, Hx, Hr, HO⟩
    ihave Hrt := (crecv_back m (d := true) (c := c) (n := (min (t.val - rk true c) 32)) (t := t.val) hiE) $$ Hrt
    icases Hrt with ⟨Hrt, Hb⟩
    ihave Hb := (show back (!true) c t.val ⊢ back (F := F) false c (t.val - rk false c + rk false c) from
      Entails.of_eq (by rw [Nat.sub_add_cancel hlo]; rfl)) $$ Hb
    unfold owesAt
    icases HO with ⟨%W, HO⟩
    rw [show min (t.val - rk false c) 32 = t.val - rk false c by omega]
    iapply (csend_start m (n := t.val - rk false c) (w := min (t.val + 1 - rk false c - 2) 30) (v := max 6 (min (t.val + 1) 32)) ho (by omega) (by omega) (by omega)
      (he := Fin.ext (dev3_eq c ho)) (sl2_of (M := sendM false) (off23_eq c t hC)) (sl6_of (M := landM false) (off22_eq c t hC))
      (s2_of (A := sendA false) (off20_eq c t hC)) (s6_of (A := recvA false) (off21_eq c t hC)) (hO := show oTot c (t.val - rk false c) (min (t.val - rk true c) 32) = oTot c (t.val - rk false c + 1) (min (t.val - rk true c) 32) + tallyAt (recvCell false (nb false c) (t.val - rk false c)) (t.val - rk false c + rk false c + 2) N by unfold oTot; rw [oSend_step false c _ ho (by omega)]; exact add_right_comm _ _ _) (W := W)) $$ [Hs Hrest Hb HO]
    · isplitr; · iexact HR
      isplitl [Hs]; · iexact Hs
      isplitl [Hrest]; · iexact Hrest
      isplitl [Hb]; · iexact Hb
      iexact HO
    iintro ⟨Hs, HO⟩
    iapply h₃
    unfold St
    isplitr; · iexact HR
    isplitl [Hx]; · iexact Hx
    isplitl [Hrx]; · iexact Hrx
    isplitl [Hs Hr]
    · isplitl [Hs]
      · unfold sendAt
        rw [show min (t.val + 1 - rk false c) 32 = t.val - rk false c + 1 by omega]; iexact Hs
      iexact Hr
    isplitr [HO]; rotate_left
    · unfold owesAt
      rw [show min (t.val + 1 - rk false c) 32 = t.val - rk false c + 1 by omega]; iexact HO
    isplitl [Hst]; · iexact Hst
    iexact Hrt
  refine wp_skip (St m c t.val (t.val+1) (t.val+1) (t.val+1) (t.val+1) (t.val+1) (t.val+1) t.val t.val (t.val+1) (t.val+1) (t.val+1) (t.val+1) t.val) ?_ ?_ ?_
  · intro hn
    have hn' := fun h => hn ((cond10_iff c t).mpr h)
    unfold St
    rw [recvAt_skip hn', sendAt_room_skip (d := false) (e := true) rfl hn']
  · intro hC h₃
    obtain ⟨hi, hlo, hhi⟩ := (cond10_iff c t).mp hC
    have hr' := rk_le true c
    have hre := rk_not true c
    have hre' : rk false c = 3 - rk true c := hre
    unfold St sendAt recvAt
    iintro ⟨#HR, Hx, Hrx, ⟨Hs, Hrf⟩, ⟨Hst, Hr⟩, ⟨%W, HO⟩⟩
    iapply (crecv_wait m (n := min (t.val - rk true c) 32) (h := min (t.val - 3) 32) (r := min ((t.val + 1) - 4) 26) hi (by omega) (by omega) (Nw_land true)
      (eq := (s6_of (A := recvA true) (off24_eq c t hC)).trans (sem6_congr (recvA true) (by omega))) (W := W)) $$ [Hr HO]
    · isplitr; · iexact HR
      isplitl [Hr]; · iexact Hr
      isplitl [HO]; · iexact HO
      iapply ((recs_lev m).trans (mayWait_tot c (.dma (recvS true (min (t.val - rk true c) 32))) (min (t.val - rk true c) 32 + rk true c + 1)
        (min ((t.val + 1) - rk false c) 32) (min (t.val - rk true c) 32) (by omega) (fun _ _ => by omega) (fun _ _ => by omega))) $$ HR
    iintro ⟨Hr, Hb, HO⟩
    ihave Hb' := (show back true (nb (!true) c) (min (t.val - rk true c) 32 + rk true c - 1) ⊢ back (F := F) (!false) (nb false c) (t.val - 1) from
      Entails.of_eq (by rw [show min (t.val - rk true c) 32 + rk true c - 1 = t.val - 1 by omega]; rfl)) $$ Hb
    ihave Hs := (csend_room (F := F) (d := false) (c := c) (n := min ((t.val + 1) - rk false c) 32) (w := min ((t.val + 1) - rk false c - 2) 30) (t := t.val) (by omega) (by omega)) $$ [Hs Hb']
    · isplitl [Hs]; · iexact Hs
      iexact Hb'
    iapply h₃
    unfold St
    isplitr; · iexact HR
    isplitl [Hx]; · iexact Hx
    isplitl [Hrx]; · iexact Hrx
    isplitl [Hs Hrf]
    · isplitl [Hs]; · iexact Hs
      iexact Hrf
    isplitr [HO]; rotate_left
    · iexact HO
    isplitl [Hst]; · iexact Hst
    unfold recvAt; rw [show min (t.val + 1 - rk true c) 32 = min (t.val - rk true c) 32 + 1 by omega]; iexact Hr
  · rw [wp_ret]
    iintro H
    imodintro
    iexact H

end Cert.KernelIdeal.Tab
-- ==== Proof.KI.TripB.lean ====
/- A trip of the loop. -/
module

public import proofs.«01_k».proof.Proof.KI.TripA

@[expose] public section

set_option maxRecDepth 20000

noncomputable section

namespace Cert.KernelIdeal.Tab

open Cert.KernelIdeal Cert.KernelIdeal.Gen Cert.Proof.Kit
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ) (c : Dev nD)

variable {c}

/-! ## Sequences, and the scale's load -/

theorem wp_seq {α β : Type} {Q : α → sProp 𝕄} {p : Prog (TpuEff nD τ sig (Elt F) Λ₀ .tc) β} {k : β → Prog (TpuEff nD τ sig (Elt F) Λ₀ .tc) α} {P X : sProp 𝕄} (R : β → sProp 𝕄)
    (h : P ⊢ wp frame (wpE (defs₀ (F := F)) 𝒱₀ (c : Thread nD τ) none) Set.univ p R) (h' : ∀ b, iprop(R b ∗ X) ⊢ wp frame (wpE (defs₀ (F := F)) 𝒱₀ (c : Thread nD τ) none) Set.univ (k b) Q) :
    iprop(P ∗ X) ⊢ wp frame (wpE (defs₀ (F := F)) 𝒱₀ (c : Thread nD τ) none) Set.univ (p >>= k) Q := by
  iintro ⟨HP, HX⟩
  iapply (wp_block 𝒱₀ (c : Thread nD τ) none h) $$ HP
  iintro %b HR
  iapply (h' b)
  isplitl [HR] <;> iassumption

theorem wp_load_scale {α : Type} {Q : α → sProp 𝕄} {inb : ∀ a, (![0] : Fin 1 → ℕ) a + S2048.size a ≤ S2048.size a}
    {hl : (Memref.whole cc0_stg0_0).view.LoadsAt (Rect.unit (s := S2048) ![0] S2048.size inb).toLoadRect}
    {k : Vec F S2048 .f32 → Prog (TpuEff nD τ sig (Elt F) Λ₀ .tc) α} :
    gamAt m c ⊢ iprop((gamAt m c -∗ wp frame (wpE (defs₀ (F := F)) 𝒱₀ (c : Thread nD τ) none) Set.univ (k (gV m c)) Q)
      -∗ wp frame (wpE (defs₀ (F := F)) 𝒱₀ (c : Thread nD τ) none) Set.univ (.op (.load (Memref.whole cc0_stg0_0) (Rect.unit (s := S2048) ![0] S2048.size inb).toLoadRect hl) k) Q) := by
  unfold gamAt owns
  iintro ⟨%f, %hf, H⟩ Hk
  iapply (wp_load 𝒱₀ (c : Thread nD τ) none Set.univ (m := Memref.whole cc0_stg0_0) (r := (Rect.unit (s := S2048) ![0] S2048.size inb).toLoadRect)
    (S := (Memref.whole cc0_stg0_0).view.set) (q := fullShare) (f := f) (View.setOn_subset_set _ _)) $$ H
  iintro H
  have hy : (Memref.whole cc0_stg0_0).view.readAt (Elt F) (Rect.unit (s := S2048) ![0] S2048.size inb).toLoadRect f = gV m c := by
    rw [← hf]
    funext y
    exact congrArg ((Memref.whole cc0_stg0_0).view.read (Elt F) f) (funext fun a => Fin.ext (by
      show (![0] : Fin 1 → ℕ) a + 1 * (y a).val = (y a).val
      fin_cases a; show 0 + 1 * _ = _; omega))
  rw [hy]
  iapply Hk
  iexists f
  isplitr; · ipureintro; exact hf
  iexact H

/-! ## The sum of a chunk -/

/-- What the sum's block passes on, from the arrivals `Y` and `Y'` it reads. -/
abbrev sumOf (k : ℕ) (Y Y' : Vec F S256x2048 .f32) : Σ' (_ : FVec F S256x2048 .f32) (_ : FVec F S256x1 .f32), F .f32 :=
  ⟨k0_pay4 (bit false c) (bit true c) (shapeCast S1x256x2048 (xV m c k) shapeCasts_S256x2048_S1x256x2048) (shapeCast S1x256x2048 (rV m c k) shapeCasts_S256x2048_S1x256x2048) (shapeCast S1x256x2048 Y shapeCasts_S256x2048_S1x256x2048) (shapeCast S1x256x2048 Y' shapeCasts_S256x2048_S1x256x2048),
    k0_pay5 (bit false c) (bit true c) (shapeCast S1x256x2048 (xV m c k) shapeCasts_S256x2048_S1x256x2048) (shapeCast S1x256x2048 (rV m c k) shapeCasts_S256x2048_S1x256x2048) (shapeCast S1x256x2048 Y shapeCasts_S256x2048_S1x256x2048) (shapeCast S1x256x2048 Y' shapeCasts_S256x2048_S1x256x2048), Scalar.ofBits .f32 0x358637BD#32⟩

theorem part3_spec (t : Trip) (v89 : BitVec 32) (hC : k0_cond13 t = 1#1) :
    iprop(Recs m ∗ iprop(lxAt m c (t.val + 1) (t.val + 1) t.val ∗ rxAt m c (t.val + 1) t.val t.val ∗ recvAt m c false (t.val + 1) t.val (t.val + 1) ∗ recvAt m c true (t.val + 1) t.val (t.val + 1) ∗ owesAt c (t.val + 1) (t.val + 1)))
      ⊢ wp frame (wpE (defs₀ (F := F)) 𝒱₀ (c : Thread nD τ) none) Set.univ (k0_part3 (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 (bit false c) (bit true c) t v89 hC)
          (fun v => iprop(∃ Y Y' : Vec F S256x2048 .f32, ⌜(hasIn false c → Y = arr m false c (t.val - 3)) ∧ (hasIn true c → Y' = arr m true c (t.val - 3)) ∧ v = sumOf m (c := c) (t.val - 3) Y Y'⌝
            ∗ iprop(lxAt m c (t.val + 1) (t.val + 1) t.val ∗ rxAt m c (t.val + 1) (t.val + 1) t.val ∗ recvAt m c false (t.val + 1) t.val (t.val + 1) ∗ recvAt m c true (t.val + 1) t.val (t.val + 1) ∗ owesAt c (t.val + 1) (t.val + 1)))) := by
  have hlo : 3 ≤ t.val := (cond13_iff t).mp hC
  have ht : t.val < 35 := lt_of_lt_of_eq t.isLt trips_eq
  have hr' := rk_le false c
  have hr'' := rk_le true c
  rw [k0_part3_eq_skeleton]
  unfold k0_part3_skel
  simp only [Prog.lift, Prog.bind_op, Prog.bind_ret, Prog.pure_eq_ret]
  unfold rxAt owesAt
  iintro ⟨#HR, Hx, Hrx, Hf, Ht, ⟨%W, HO⟩⟩
  iapply (cin_wait (n := 2) (src := rC) (dst := sl2 rxM) (sm := residS) (V := rV m c) (a := min (t.val + 1 - 2) 32) (b := min (t.val - 3) 32) (h := min (t.val - 3) 32)
      N_rx (by omega) (by omega) Nw_rx ((s2_of (A := cc0_scratch8) (off36_eq t hC)).trans (sem2_congr cc0_scratch8 (by omega))) (W := W)) $$ [Hrx HO]
  · isplitl [Hrx]; · iexact Hrx
    isplitl [HO]; · iexact HO
    iapply (may_local m c _ _ _) $$ HR
  iintro ⟨Hrx, HO⟩
  ihave H := (cin_acc (k := t.val - 3) (by omega) (by omega)) $$ Hx
  icases H with ⟨Hx, Hxb⟩
  ihave H := (cin_acc (k := t.val - 3) (by omega) (by omega)) $$ Hrx
  icases H with ⟨Hrx, Hrxb⟩
  ihave H := (crecv_acc m (k := t.val - 3) (fun _ => by omega) (fun _ => by omega)) $$ Hf
  icases H with ⟨%Y, %hY, Hf, Hfb⟩
  ihave H := (crecv_acc m (k := t.val - 3) (fun _ => by omega) (fun _ => by omega)) $$ Ht
  icases H with ⟨%Y', %hY', Ht, Htb⟩
  iapply (wp_load_slot 𝒱₀ (c : Thread nD τ) none (inb6 (t.val - 3)) (off39_eq t hC) (fun _ => rfl) squeezes_S1x256x2048_S256x2048 shapeCasts_S256x2048_S1x256x2048) $$ Hx
  iintro Hx
  iapply (wp_load_slot 𝒱₀ (c : Thread nD τ) none (inb2 (t.val - 3)) (off40_eq t hC) (fun _ => rfl) squeezes_S1x256x2048_S256x2048 shapeCasts_S256x2048_S1x256x2048) $$ Hrx
  iintro Hrx
  iapply (wp_load_slot 𝒱₀ (c : Thread nD τ) none (inb6 (t.val - 3)) (off39_eq t hC) (fun _ => rfl) squeezes_S1x256x2048_S256x2048 shapeCasts_S256x2048_S1x256x2048) $$ Hf
  iintro Hf
  iapply (wp_load_slot 𝒱₀ (c : Thread nD τ) none (inb6 (t.val - 3)) (off39_eq t hC) (fun _ => rfl) squeezes_S1x256x2048_S256x2048 shapeCasts_S256x2048_S1x256x2048) $$ Ht
  iintro Ht
  rw [wp_ret]; imodintro
  iexists Y, Y'
  isplitr; · ipureintro; exact ⟨hY, hY', rfl⟩
  isplitl [Hx Hxb]
  · iapply Hxb; iexact Hx
  isplitl [Hrx Hrxb]
  · rw [show min (t.val + 1 - 3) 32 = min (t.val - 3) 32 + 1 by omega]
    iapply Hrxb; iexact Hrx
  isplitl [Hf Hfb]
  · iapply Hfb; iexact Hf
  isplitl [Ht Htb]
  · iapply Htb; iexact Ht
  iexact HO

/-! ## A trip -/

set_option maxHeartbeats 2000000 in
theorem trip_spec (t : Trip) (v2 v5 v8 v12 v14 : BitVec 32) :
    iprop(Recs m ∗ Inv m c t.val)
      ⊢ wp frame (wpE (defs₀ (F := F)) 𝒱₀ (c : Thread nD τ) none) Set.univ
          (k0_t1_body (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v2 v5 v8 (bit false c) (bit true c) v12 v14 t ())
          (fun _ => Inv m c (t.val + 1)) := by
  have ht : t.val < 35 := lt_of_lt_of_eq t.isLt trips_eq
  have h₀ : iprop(Recs m ∗ Inv m c t.val) ⊢ iprop(St m c t.val t.val t.val t.val t.val t.val t.val t.val t.val t.val t.val t.val t.val t.val ∗ (outAt m c t.val t.val ∗ gamAt m c)) := by
    unfold Inv St
    iintro ⟨#HR, Hx, Hrx, Ho, Hf, Ht, HO, Hg⟩
    isplitr [Ho Hg]; rotate_left
    · isplitl [Ho] <;> iassumption
    isplitr; · iexact HR
    isplitl [Hx]; · iexact Hx
    isplitl [Hrx]; · iexact Hrx
    isplitl [Hf]; · iexact Hf
    isplitl [Ht] <;> iassumption
  unfold k0_t1_body
  refine h₀.trans ?_
  refine wp_seq (fun _ => St m c t.val (t.val+1) (t.val+1) (t.val+1) (t.val+1) (t.val+1) (t.val+1) t.val t.val (t.val+1) (t.val+1) (t.val+1) (t.val+1) t.val) (part4_spec m t v2 v5 v8 v12 v14 0#32 1#32) ?_
  rintro ⟨a18, v79, v87, c0⟩
  simp only [Prog.lift, Prog.bind_op, Prog.bind_ret, Prog.pure_eq_ret, Prog.bind_assoc]
  refine wp_skip iprop(St m c t.val (t.val+1) (t.val+1) (t.val+1) (t.val+1) (t.val+1) (t.val+1) (t.val+1) (t.val+1) (t.val+1) (t.val+1) (t.val+1) (t.val+1) (t.val+1) ∗ (outAt m c t.val t.val ∗ gamAt m c)) ?_ ?_ ?_
  · intro hn
    have hn' := fun h => hn ((cond11_iff c t).mpr h)
    unfold St
    rw [sendAt_skip hn', recvAt_back_skip (d := false) (e := true) rfl hn', owesAt_skip' hn']
  · intro hC h₃
    obtain ⟨ho, hlo, hhi⟩ := (cond11_iff c t).mp hC
    have hiE : hasIn false c := (hasIn_not true c).mpr ho
    unfold St
    iintro ⟨⟨#HR, Hx, Hrx, ⟨Hsf, Hrt⟩, ⟨Hs, Hr⟩, HO⟩, HZ⟩
    iapply (wp_block 𝒱₀ (c : Thread nD τ) none (part2_spec m t _ _ _ _ hC)) $$ [Hs Hx Hr HO]
    · isplitr; · iexact HR
      isplitl [Hs]; · iexact Hs
      isplitl [Hx]; · iexact Hx
      isplitl [Hr]; · iexact Hr
      iexact HO
    iintro %_ ⟨⟨Hs, Hrest⟩, Hx, Hr, HO⟩
    ihave Hrt := (crecv_back m (d := false) (c := c) (n := (min (t.val + 1 - rk false c) 32)) (t := t.val) hiE) $$ Hrt
    icases Hrt with ⟨Hrt, Hb⟩
    ihave Hb := (show back (!false) c t.val ⊢ back (F := F) true c (t.val - rk true c + rk true c) from
      Entails.of_eq (by rw [Nat.sub_add_cancel hlo]; rfl)) $$ Hb
    unfold owesAt
    icases HO with ⟨%W, HO⟩
    rw [show min (t.val - rk true c) 32 = t.val - rk true c by omega]
    iapply (csend_start m (n := t.val - rk true c) (w := min (t.val + 1 - rk true c - 2) 30) (v := max 6 (min ((t.val + 1) + 1) 32)) ho (by omega) (by omega) (by omega)
      (he := (Fin.ext (dev4_eq c ho) : (⟨k0_dev4 c, k0_dev4_lt c t hC⟩ : Dev nD) = nb true c)) (sl2_of (M := sendM true) (off35_eq c t hC)) (sl6_of (M := landM true) (off34_eq c t hC))
      (s2_of (A := sendA true) (off32_eq c t hC)) (s6_of (A := recvA true) (off33_eq c t hC)) (hO := show oTot c (min (t.val + 1 - rk false c) 32) (t.val - rk true c) = oTot c (min (t.val + 1 - rk false c) 32) (t.val - rk true c + 1) + tallyAt (recvCell true (nb true c) (t.val - rk true c)) (t.val - rk true c + rk true c + 2) N by unfold oTot; rw [oSend_step true c _ ho (by omega)]; exact (add_assoc _ _ _).symm) (W := W)) $$ [Hs Hrest Hb HO]
    · isplitr; · iexact HR
      isplitl [Hs]; · iexact Hs
      isplitl [Hrest]; · iexact Hrest
      isplitl [Hb]; · iexact Hb
      iexact HO
    iintro ⟨Hs, HO⟩
    iapply h₃
    isplitr [HZ]; rotate_left
    · iexact HZ
    unfold St
    isplitr; · iexact HR
    isplitl [Hx]; · iexact Hx
    isplitl [Hrx]; · iexact Hrx
    isplitl [Hsf Hrt]
    · isplitl [Hsf]; · iexact Hsf
      iexact Hrt
    isplitr [HO]; rotate_left
    · unfold owesAt
      rw [show min (t.val + 1 - rk true c) 32 = t.val - rk true c + 1 by omega]; iexact HO
    isplitl [Hs]
    · unfold sendAt
      rw [show min (t.val + 1 - rk true c) 32 = t.val - rk true c + 1 by omega]; iexact Hs
    iexact Hr
  refine wp_skip (Inv m c (t.val + 1)) ?_ ?_ ?_
  · intro hn
    have hn' : ¬(3 ≤ t.val) := fun h => hn ((cond13_iff t).mpr h)
    unfold Inv St lxAt rxAt recvAt outAt
    rw [show min (t.val + 1 - 3) 32 = min (t.val - 3) 32 by omega, show min (t.val + 1 - 5) 30 = min (t.val - 5) 30 by omega]
    iintro ⟨⟨-, Hx, Hrx, Hf, Ht, HO⟩, Ho, Hg⟩
    isplitl [Hx]; · iexact Hx
    isplitl [Hrx]; · iexact Hrx
    isplitl [Ho]; · iexact Ho
    isplitl [Hf]; · iexact Hf
    isplitl [Ht]; · iexact Ht
    isplitl [HO] <;> iassumption
  · intro hC h₃
    have hlo : 3 ≤ t.val := (cond13_iff t).mp hC
    have hr' := rk_le false c
    have hr'' := rk_le true c
    have h₁ : iprop(St m c t.val (t.val+1) (t.val+1) (t.val+1) (t.val+1) (t.val+1) (t.val+1) (t.val+1) (t.val+1) (t.val+1) (t.val+1) (t.val+1) (t.val+1) (t.val+1) ∗ (outAt m c t.val t.val ∗ gamAt m c)) ⊢ iprop((Recs m ∗ iprop(lxAt m c (t.val + 1) (t.val + 1) t.val ∗ rxAt m c (t.val + 1) t.val t.val ∗ recvAt m c false (t.val + 1) t.val (t.val + 1) ∗ recvAt m c true (t.val + 1) t.val (t.val + 1) ∗ owesAt c (t.val + 1) (t.val + 1))) ∗ (Recs m ∗ sendAt c false (t.val + 1) (t.val + 1) ∗ sendAt c true (t.val + 1) (t.val + 1) ∗ outAt m c t.val t.val ∗ gamAt m c)) := by
      unfold St
      iintro ⟨⟨#HR, Hx, Hrx, ⟨Hsf, Hrf⟩, ⟨Hst, Hrt⟩, HO⟩, Ho, Hg⟩
      isplitl [Hx Hrx Hrf Hrt HO]
      · isplitr; · iexact HR
        isplitl [Hx]; · iexact Hx
        isplitl [Hrx]; · iexact Hrx
        isplitl [Hrf]; · iexact Hrf
        isplitl [Hrt] <;> iassumption
      isplitr; · iexact HR
      isplitl [Hsf]; · iexact Hsf
      isplitl [Hst]; · iexact Hst
      isplitl [Ho] <;> iassumption
    refine h₁.trans ?_
    refine wp_seq _ (part3_spec m t _ hC) ?_
    rintro ⟨v125, v130, cst⟩
    refine wp_skip iprop((∃ Y Y' : Vec F S256x2048 .f32, ⌜(hasIn false c → Y = arr m false c (t.val - 3)) ∧ (hasIn true c → Y' = arr m true c (t.val - 3)) ∧ (⟨v125, v130, cst⟩ : Σ' (_ : FVec F S256x2048 .f32) (_ : FVec F S256x1 .f32), F .f32) = sumOf m (c := c) (t.val - 3) Y Y'⌝
            ∗ iprop(lxAt m c (t.val + 1) (t.val + 1) t.val ∗ rxAt m c (t.val + 1) (t.val + 1) t.val ∗ recvAt m c false (t.val + 1) t.val (t.val + 1) ∗ recvAt m c true (t.val + 1) t.val (t.val + 1) ∗ owesAt c (t.val + 1) (t.val + 1))) ∗ (Recs m ∗ sendAt c false (t.val + 1) (t.val + 1) ∗ sendAt c true (t.val + 1) (t.val + 1) ∗ outAt m c t.val (t.val + 1) ∗ gamAt m c)) ?_ ?_ ?_
    · intro hn
      have hn' : ¬(5 ≤ t.val) := fun h => hn ((cond14_iff t hC).mpr h)
      unfold outAt
      rw [show min (t.val + 1 - 5) 30 = min (t.val - 5) 30 by omega]
    · intro hD h₄
      have hlo' : 5 ≤ t.val := (cond14_iff t hC).mp hD
      unfold outAt owesAt
      iintro ⟨⟨%Y, %Y', %hv, Hx, Hrx, Hrf, Hrt, ⟨%W, HO⟩⟩, #HR, Hsf, Hst, Ho, Hg⟩
      iapply (cout_wait (m := m) (c := c) (a := min (t.val - 3) 32) (b := min (t.val - 5) 30) (by omega) (by omega) Nw_out
        ((s2_of (A := cc0_scratch9) (off41_eq t hC hD)).trans (sem2_congr cc0_scratch9 (by omega))) (W := W)) $$ [Ho HO]
      · isplitl [Ho]; · iexact Ho
        isplitl [HO]; · iexact HO
        iapply (may_local m c _ _ _) $$ HR
      iintro ⟨Ho, HO⟩
      iapply h₄
      isplitr [Hsf Hst Ho Hg]; rotate_left
      · isplitr; · iexact HR
        isplitl [Hsf]; · iexact Hsf
        isplitl [Hst]; · iexact Hst
        isplitl [Ho]
        · unfold outAt; rw [show min (t.val + 1 - 5) 30 = min (t.val - 5) 30 + 1 by omega]; iexact Ho
        iexact Hg
      iexists Y, Y'
      isplitr; · ipureintro; exact hv
      isplitl [Hx]; · iexact Hx
      isplitl [Hrx]; · iexact Hrx
      isplitl [Hrf]; · iexact Hrf
      isplitl [Hrt]; · iexact Hrt
      iexact HO
    · unfold outAt
      iintro ⟨⟨%Y, %Y', %hv, Hx, Hrx, Hrf, Hrt, HO⟩, #HR, Hsf, Hst, Ho, Hg⟩
      obtain ⟨hY, hY', hv⟩ := hv
      obtain rfl : v125 = (sumOf m (c := c) (t.val - 3) Y Y').1 := congrArg (fun p => p.1) hv
      obtain rfl : v130 = (sumOf m (c := c) (t.val - 3) Y Y').2.1 := congrArg (fun p => p.2.1) hv
      obtain rfl : cst = (sumOf m (c := c) (t.val - 3) Y Y').2.2 := congrArg (fun p => p.2.2) hv
      iapply (wp_load_scale m) $$ Hg
      iintro Hg
      ihave H := (cout_take (m := m) (c := c) (a := min (t.val - 3) 32) (b := min (t.val + 1 - 5) 30) (by omega)) $$ Ho
      icases H with ⟨Hs, Hrest⟩
      rw [show min (t.val - 3) 32 = t.val - 3 by omega]
      ihave Hs := (show some2 (F := F) c oxM (t.val - 3) ⊢ iprop(∃ X : Vec F S256x2048 .f32, owns (c : Thread nD τ) (sl2 oxM (t.val - 3)) fullShare X) from .rfl) $$ Hs
      icases Hs with ⟨%Z, Hs⟩
      iapply (wp_load_slot 𝒱₀ (c : Thread nD τ) none (inb2 (t.val - 3)) (off40_eq t hC) (fun _ => rfl) squeezes_S1x256x2048_S256x2048 shapeCasts_S256x2048_S1x256x2048) $$ Hs
      iintro Hs
      iapply (wp_store_slot 𝒱₀ (c : Thread nD τ) none (inb2 (t.val - 3)) (off40_eq t hC) (fun _ => rfl) squeezes_S1x256x2048_S256x2048 shapeCasts_S1x256x2048_S256x2048) $$ Hs
      iintro Hs
      iapply (cout_start (m := m) (c := c) (a := t.val - 3) (b := min (t.val + 1 - 5) 30) (by omega) (by omega)
        (sl2_of (M := oxM) (off37_eq t hC)) (oC_of (off38_eq t hC)) (s2_of (A := cc0_scratch9) (off36_eq t hC))) $$ [Hs Hrest]
      · isplitl [Hs]
        · rw [← out_res m c (t.val - 3) Y Y' hY hY']
          iexact Hs
        iexact Hrest
      iintro Ho
      iapply h₃
      unfold Inv lxAt rxAt recvAt outAt
      rw [show min (t.val + 1 - 3) 32 = min (t.val - 3) 32 + 1 by omega]
      isplitl [Hx]
      · iapply (cin_drop (n := 6) (sm := loadS) (a := min (t.val + 1 + 1) 32) (b := min (t.val + 1) 32) (h := min (t.val - 3) 32) (fun k => sl6_congr lxM (by omega)) (fun k => sem6_congr cc0_scratch7 (by omega)) (by omega) (by omega))
        iexact Hx
      isplitl [Hrx]
      · iapply (cin_drop (n := 2) (sm := residS) (a := min (t.val + 1 - 2) 32) (b := min (t.val - 3) 32 + 1) (h := min (t.val - 3) 32) (fun k => sl2_congr rxM (by omega)) (fun k => sem2_congr cc0_scratch8 (by omega)) (by omega) (by omega))
        iexact Hrx
      isplitl [Ho]; · rw [show min (t.val - 3) 32 = t.val - 3 by omega]; iexact Ho
      isplitl [Hsf Hrf]
      · isplitl [Hsf]; · iexact Hsf
        iapply (crecv_drop m (d := false) (n := min (t.val + 1 - rk false c) 32) (h := min (t.val - 3) 32) (r := min (t.val + 1 - 4) 26) (fun _ => by omega) (fun _ => by omega)) $$ Hrf
      isplitl [Hst Hrt]
      · isplitl [Hst]; · iexact Hst
        iapply (crecv_drop m (d := true) (n := min (t.val + 1 - rk true c) 32) (h := min (t.val - 3) 32) (r := min (t.val + 1 - 4) 26) (fun _ => by omega) (fun _ => by omega)) $$ Hrt
      isplitl [HO] <;> iassumption
  · rw [wp_ret]
    iintro H
    imodintro
    iexact H

end Cert.KernelIdeal.Tab
-- ==== Proof.KI.Body.lean ====
/- The whole body of the kernel: opening, trips, closing waits. -/
module

public import proofs.«01_k».proof.Proof.KI.Opening
public import proofs.«01_k».proof.Proof.KI.TripB

@[expose] public section

set_option maxRecDepth 20000

noncomputable section

namespace Cert.KernelIdeal.Tab

open Cert.KernelIdeal Cert.KernelIdeal.Gen Cert.Proof.Kit
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ) (c : Dev nD)

variable {c}

/-! ## The closing waits -/

theorem may_end (m : (ℓ : Loc nD τ sig) → Buf (Elt F) ℓ) (c : Dev nD) (sm : SemLoc sig) : (Recs (F := F) m) ⊢ MayWait (c : Thread nD τ) sm 0 0 := by
  have h := may_local (F := F) m c sm 32 32
  rwa [show oTot c 32 32 = 0 by unfold oTot; rw [oSend_end false c 32 (le_refl 32), oSend_end true c 32 (le_refl 32), add_zero]] at h

theorem pure_first {φ : Prop} {P Q : sProp 𝕄} (h : P ⊢ iprop(⌜φ⌝)) (h' : φ → P ⊢ Q) : P ⊢ Q := by
  refine (show P ⊢ iprop(⌜φ⌝ ∧ P) from and_intro h .rfl).trans ?_
  iintro ⟨%hφ, HP⟩
  iapply (h' hφ) $$ HP

theorem first_load {s : Memref sig .tc .hbm S256x2048 .f32} {d : Memref sig .tc .vmem S256x2048 .f32} {q : DmaSem sig}
    (es : s = xC 0) (ed : d = sl6 lxM 0) (eq : q = loadS 0)
    {hsrc : s.view.WordExact} {hdst : d.view.WordExact} {hsem : DmaTarget.Typed .hbm (.dma q) (.here d : DmaTarget nD τ sig .tc .vmem S256x2048 .f32)}
    {α : Type} {Q : α → sProp 𝕄} {k : PUnit → Prog (TpuEff nD τ sig (Elt F) Λ₀ .tc) α} {X : sProp 𝕄}
    (h : iprop(Cin 6 xC (sl6 lxM) loadS (xV m c) c (0 + 1) 0 0 ∗ X) ⊢ wp frame (wpE (defs₀ (F := F)) 𝒱₀ (c : Thread nD τ) none) Set.univ (k ⟨⟩) Q) :
    iprop(Cin 6 xC (sl6 lxM) loadS (xV m c) c 0 0 0 ∗ X) ⊢ wp frame (wpE (defs₀ (F := F)) 𝒱₀ (c : Thread nD τ) none) Set.univ (.op (.enqueueDma s (.here d) (.dma q) hsrc hdst hsem) k) Q := by
  iintro ⟨Hl, HX⟩
  iapply (cin_start (c := c) (n := 6) (src := xC) (dst := sl6 lxM) (sm := loadS) (V := xV m c) (a := 0) (b := 0) (h := 0)
      N_lx (by decide) (by decide) (by decide) es ed eq) $$ Hl
  iintro Hl
  iapply h
  isplitl [Hl] <;> iassumption

theorem out_step {b : ℕ} (hb : b < 32) (hb' : 32 ≤ b + 2) {sw : Memref sig .tc .vmem S256x2048 .f32} {dw : Memref sig .tc .hbm S256x2048 .f32} {q : DmaSem sig}
    (hdw : dw.view.dmaCredit = N) (eq : q = outS b)
    {hsrc : sw.view.WordExact} {hdst : dw.view.WordExact}
    {α : Type} {Q : α → sProp 𝕄} {k : PUnit → Prog (TpuEff nD τ sig (Elt F) Λ₀ .tc) α} {A B X : sProp 𝕄}
    (h : iprop(Recs m ∗ A ∗ B ∗ Cout m c 32 (b + 1) ∗ (∃ W, owes (c : Thread nD τ) 0 W) ∗ X) ⊢ wp frame (wpE (defs₀ (F := F)) 𝒱₀ (c : Thread nD τ) none) Set.univ (k ⟨⟩) Q) :
    iprop(Recs m ∗ A ∗ B ∗ Cout m c 32 b ∗ (∃ W, owes (c : Thread nD τ) 0 W) ∗ X) ⊢ wp frame (wpE (defs₀ (F := F)) 𝒱₀ (c : Thread nD τ) none) Set.univ (.op (.waitDma2 q sw dw hsrc hdst) k) Q := by
  iintro ⟨#HR, Hs, Ht, Ho, ⟨%W, HO⟩, HX⟩
  iapply (cout_wait (m := m) (c := c) (a := 32) (b := b) hb hb' hdw eq (W := W) (O := 0)) $$ [Ho HO]
  · isplitl [Ho]; · iexact Ho
    isplitl [HO]; · iexact HO
    iapply (may_end m c _) $$ HR
  iintro ⟨Ho, HO⟩
  iapply h
  isplitr; · iexact HR
  isplitl [Hs]; · iexact Hs
  isplitl [Ht]; · iexact Ht
  isplitl [Ho]; · iexact Ho
  isplitl [HO] <;> iassumption

theorem loop_seq {α : Type} {Q : α → sProp 𝕄} {f : Trip → Unit → Prog (TpuEff nD τ sig (Elt F) Λ₀ .tc) Unit} {k : Unit → Prog (TpuEff nD τ sig (Elt F) Λ₀ .tc) α} {X : sProp 𝕄} {I : ℕ → Unit → sProp 𝕄}
    (hb : ∀ (j : Trip) (acc : Unit), I j.val acc ⊢ wp frame (wpE (defs₀ (F := F)) 𝒱₀ (c : Thread nD τ) none) Set.univ (f j acc) (I (j.val + 1)))
    (h : ∀ acc, iprop(I k0_t1_loop.trips acc ∗ X) ⊢ wp frame (wpE (defs₀ (F := F)) 𝒱₀ (c : Thread nD τ) none) Set.univ (k acc) Q) :
    iprop(I 0 () ∗ X) ⊢ wp frame (wpE (defs₀ (F := F)) 𝒱₀ (c : Thread nD τ) none) Set.univ (Scf.Loop.for k0_t1_loop k0_t1_ok () f >>= k) Q := by
  iintro ⟨HI, HX⟩
  iapply (Scf.wp_for_bind frame (wpE (defs₀ (F := F)) 𝒱₀ (c : Thread nD τ) none) Set.univ k0_t1_loop.lb k0_t1_loop.ub k0_t1_loop.st k0_t1_ok () f I hb) $$ HI
  iintro %acc HI
  iapply (h acc)
  isplitl [HI] <;> iassumption

/-! ## The whole body -/

/-- What a device's body starts from. -/
def Start (c : Dev nD) : sProp 𝕄 :=
  iprop(Cin 6 xC (sl6 lxM) loadS (xV m c) c 0 0 0 ∗ Cin 2 rC (sl2 rxM) residS (rV m c) c 0 0 0 ∗ Cout m c 0 0
    ∗ (sendPre false c ∗ recvPre false c) ∗ (sendPre true c ∗ recvPre true c)
    ∗ atPos ER (barCell c) 0 ∅ 0 ∗ (∃ W, owes (c : Thread nD τ) (oTot c 0 0 + oBar true c + oBar false c) W) ∗ gamAt m c)
/-- What it ends with. -/
def Finish (c : Dev nD) : sProp 𝕄 :=
  iprop(Cin 6 xC (sl6 lxM) loadS (xV m c) c 32 32 32 ∗ Cin 2 rC (sl2 rxM) residS (rV m c) c 32 32 32 ∗ Cout m c 32 32
    ∗ (Csend false c 32 32 32 ∗ Crecv m false c 32 32 26) ∗ (Csend true c 32 32 32 ∗ Crecv m true c 32 32 26)
    ∗ atPos ER (barCell c) 1 ∅ 0 ∗ (∃ W, owes (c : Thread nD τ) 0 W) ∗ gamAt m c)

/-- What the closing waits leave alone. -/
abbrev Kept (c : Dev nD) : sProp 𝕄 :=
  iprop(Cin 6 xC (sl6 lxM) loadS (xV m c) c 32 32 32 ∗ Cin 2 rC (sl2 rxM) residS (rV m c) c 32 32 32
    ∗ Crecv m false c 32 32 26 ∗ Crecv m true c 32 32 26 ∗ gamAt m c ∗ atPos ER (barCell c) 1 ∅ 0)

theorem inv_first : iprop((Cin 6 xC (sl6 lxM) loadS (xV m c) c (0 + 1) 0 0 ∗ Cin 2 rC (sl2 rxM) residS (rV m c) c 0 0 0 ∗ Cout m c 0 0 ∗ gamAt m c)
      ∗ (Csend false c 0 0 6 ∗ Crecv m false c 0 0 0) ∗ (Csend true c 0 0 6 ∗ Crecv m true c 0 0 0) ∗ ∃ W, owes (c : Thread nD τ) (oTot c 0 0) W) ⊢ Inv m c 0 := by
  unfold Inv lxAt rxAt outAt sendAt recvAt owesAt
  rw [show min (0 + 1) 32 = 0 + 1 from rfl, show min (0 - 2) 32 = 0 from rfl, show min (0 - 5) 30 = 0 from rfl,
    show min (0 - 4) 26 = 0 from rfl,
    show max 6 (0 + 1) = 6 from rfl, show min (0 - rk false c) 32 = 0 by omega, show min (0 - rk true c) 32 = 0 by omega, show min (0 - rk false c - 2) 30 = 0 by omega, show min (0 - rk true c - 2) 30 = 0 by omega]
  iintro ⟨⟨Hl, Hr, Ho, Hg⟩, Hf, Ht, HO⟩
  isplitl [Hl]; · iexact Hl
  isplitl [Hr]; · iexact Hr
  isplitl [Ho]; · iexact Ho
  isplitl [Hf]; · iexact Hf
  isplitl [Ht]; · iexact Ht
  isplitl [HO] <;> iassumption

theorem inv_last : iprop(Recs m ∗ Inv m c 35 ∗ atPos ER (barCell c) 1 ∅ 0) ⊢ iprop(Recs m ∗ Csend false c 32 30 32 ∗ Csend true c 32 30 32 ∗ Cout m c 32 30 ∗ (∃ W, owes (c : Thread nD τ) 0 W) ∗ Kept m c) := by
  have h0 := rk_le false c
  have h1 := rk_le true c
  unfold Inv Kept lxAt rxAt outAt sendAt recvAt owesAt
  rw [show min (35 + 1) 32 = 32 from rfl, show min (35 - 2) 32 = 32 from rfl, show min 35 32 = 32 from rfl, show min (35 - 3) 32 = 32 from rfl, show min (35 - 5) 30 = 30 from rfl,
    show min (35 - 4) 26 = 26 from rfl,
    show max 6 32 = 32 from rfl, show min (35 - rk false c) 32 = 32 by omega, show min (35 - rk true c) 32 = 32 by omega, show min (35 - rk false c - 2) 30 = 30 by omega, show min (35 - rk true c - 2) 30 = 30 by omega,
    show oTot c 32 32 = 0 by unfold oTot; rw [oSend_end false c 32 (le_refl 32), oSend_end true c 32 (le_refl 32), add_zero]]
  iintro ⟨HR, ⟨Hl, Hr, Ho, ⟨Hsf, Hrf⟩, ⟨Hst, Hrt⟩, HO, Hg⟩, Hat⟩
  isplitl [HR]; · iexact HR
  isplitl [Hsf]; · iexact Hsf
  isplitl [Hst]; · iexact Hst
  isplitl [Ho]; · iexact Ho
  isplitl [HO]; · iexact HO
  isplitl [Hl]; · iexact Hl
  isplitl [Hr]; · iexact Hr
  isplitl [Hrf]; · iexact Hrf
  isplitl [Hrt]; · iexact Hrt
  isplitl [Hg] <;> iassumption

set_option maxHeartbeats 4000000 in
theorem body_spec :
    iprop(Recs m ∗ Start m c) ⊢ wp frame (wpE (defs₀ (F := F)) 𝒱₀ (c : Thread nD τ) none) Set.univ (cc0_body (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13) (fun _ => Finish m c) := by
  rw [cc0_body_eq_skeleton]
  unfold cc0_body_skel
  have h₀ : iprop(Recs m ∗ Start m c) ⊢ iprop((Recs m ∗ (sendPre false c ∗ recvPre false c) ∗ (sendPre true c ∗ recvPre true c) ∗ (∃ W, owes (c : Thread nD τ) (oTot c 0 0 + oBar true c + oBar false c) W) ∗ atPos ER (barCell c) 0 ∅ 0)
      ∗ (Recs m ∗ Cin 6 xC (sl6 lxM) loadS (xV m c) c 0 0 0 ∗ Cin 2 rC (sl2 rxM) residS (rV m c) c 0 0 0 ∗ Cout m c 0 0 ∗ gamAt m c)) := by
    unfold Start
    iintro ⟨#HR, Hl, Hr, Ho, Hf, Ht, Hat, HO, Hg⟩
    isplitl [Hf Ht Hat HO]
    · isplitr; · iexact HR
      isplitl [Hf]; · iexact Hf
      isplitl [Ht]; · iexact Ht
      isplitl [HO] <;> iassumption
    isplitr; · iexact HR
    isplitl [Hl]; · iexact Hl
    isplitl [Hr]; · iexact Hr
    isplitl [Ho] <;> iassumption
  refine h₀.trans ?_
  refine wp_seq _ (part5_spec m) ?_
  rintro ⟨v0, v2, v5, v8, v9, v10, v12, v14⟩
  simp only [Prog.lift, Prog.bind_op, Prog.bind_ret, Prog.pure_eq_ret, Prog.bind_assoc]
  refine pure_first (φ := v0 = c ∧ v9 = bit false c ∧ v10 = bit true c) ?_ ?_
  · iintro ⟨⟨%w2, %w5, %w8, %w12, %w14, %hv, Hf, Ht, HO, Hat⟩, #HR, Hl, Hr, Ho, Hg⟩
    ipureintro
    exact ⟨congrArg (fun p => p.1) hv, congrArg (fun p => p.2.2.2.2.1) hv, congrArg (fun p => p.2.2.2.2.2.1) hv⟩
  rintro ⟨rfl, rfl, rfl⟩
  have h₁ : iprop((∃ w2 w5 w8 w12 w14, ⌜(⟨v0, v2, v5, v8, bit false v0, bit true v0, v12, v14⟩ : Σ' (d0 : Dev nD) (v2 : BitVec 32) (v5 : BitVec 32) (v8 : BitVec 32) (v9 : BitVec 1) (v10 : BitVec 1) (v12 : BitVec 32), BitVec 32)
        = ⟨v0, w2, w5, w8, bit false v0, bit true v0, w12, w14⟩⌝ ∗ Ready m v0)
      ∗ (Recs m ∗ Cin 6 xC (sl6 lxM) loadS (xV m v0) v0 0 0 0 ∗ Cin 2 rC (sl2 rxM) residS (rV m v0) v0 0 0 0 ∗ Cout m v0 0 0 ∗ gamAt m v0))
      ⊢ iprop(Cin 6 xC (sl6 lxM) loadS (xV m v0) v0 0 0 0 ∗ (Recs m ∗ Ready m v0 ∗ Cin 2 rC (sl2 rxM) residS (rV m v0) v0 0 0 0 ∗ Cout m v0 0 0 ∗ gamAt m v0)) := by
    iintro ⟨⟨%w2, %w5, %w8, %w12, %w14, -, HE⟩, #HR, Hl, Hr, Ho, Hg⟩
    isplitl [Hl]; · iexact Hl
    isplitr; · iexact HR
    isplitl [HE]; · iexact HE
    isplitl [Hr]; · iexact Hr
    isplitl [Ho] <;> iassumption
  refine h₁.trans (first_load m (xC_of (k := 0) rfl) (sl6_of (M := lxM) off2_eq) (s6_of (A := cc0_scratch7) off1_eq) ?_)
  have h₂ : iprop(Cin 6 xC (sl6 lxM) loadS (xV m v0) v0 (0 + 1) 0 0 ∗ (Recs m ∗ Ready m v0 ∗ Cin 2 rC (sl2 rxM) residS (rV m v0) v0 0 0 0 ∗ Cout m v0 0 0 ∗ gamAt m v0))
      ⊢ iprop((Recs m ∗ Inv m v0 0) ∗ atPos ER (barCell v0) 1 ∅ 0) := by
    iintro ⟨Hl, #HR, ⟨Hf, Ht, HO, Hat⟩, Hr, Ho, Hg⟩
    isplitr [Hat]; rotate_left
    · iexact Hat
    isplitr; · iexact HR
    iapply (inv_first m (c := v0))
    isplitl [Hl Hr Ho Hg]
    · isplitl [Hl]; · iexact Hl
      isplitl [Hr]; · iexact Hr
      isplitl [Ho] <;> iassumption
    isplitl [Hf]; · iexact Hf
    isplitl [Ht] <;> iassumption
  refine h₂.trans ?_
  refine loop_seq (I := fun k _ => iprop(Recs m ∗ Inv m v0 k)) (fun k acc => ?_) (fun acc => ?_)
  · refine (show iprop(Recs m ∗ Inv m v0 k.val) ⊢ iprop(Recs m ∗ (Recs m ∗ Inv m v0 k.val)) from ?_).trans
      ((sep_mono .rfl (trip_spec m (c := v0) k v2 v5 v8 v12 v14)).trans (wp_frame_l _ _ _))
    iintro ⟨#HR, HI⟩
    isplitr; · iexact HR
    isplitr; · iexact HR
    iexact HI
  simp only [trips_eq]
  have h₃ : iprop((Recs m ∗ Inv m v0 35) ∗ atPos ER (barCell v0) 1 ∅ 0) ⊢ iprop(Recs m ∗ Csend false v0 32 30 32 ∗ Csend true v0 32 30 32 ∗ Cout m v0 32 30 ∗ (∃ W, owes (v0 : Thread nD τ) 0 W) ∗ Kept m v0) := by
    refine (show _ ⊢ iprop(Recs m ∗ Inv m v0 35 ∗ atPos ER (barCell v0) 1 ∅ 0) from ?_).trans (inv_last m (c := v0))
    iintro ⟨⟨#HR, HI⟩, Hat⟩
    isplitr; · iexact HR
    isplitl [HI] <;> iassumption
  refine h₃.trans ?_
  refine wp_skip iprop(Recs m ∗ Csend false v0 32 31 32 ∗ Csend true v0 32 30 32 ∗ Cout m v0 32 30 ∗ (∃ W, owes (v0 : Thread nD τ) 0 W) ∗ Kept m v0) ?_ ?_ ?_
  · intro hn
    have hn' : ¬hasOut false v0 := fun h => hn ((cond15_iff v0).mpr h)
    rw [csend_idle v0 hn' 32 30 32 32 31 32]
  · intro hC h₃
    have ho : hasOut false v0 := (cond15_iff v0).mp hC
    iintro ⟨#HR, Hs, Ht, Ho, ⟨%W, HO⟩, HX⟩
    iapply (csend_wait m (d := false) (n := 32) (w := 30) (v := 32) ho (by decide) (by decide) (by decide) (Nw_send false)
      (eq := s2_of (A := sendA false) off44_eq) (W := W) (O := 0)) $$ [Hs HO]
    · isplitr; · iexact HR
      isplitl [Hs]; · iexact Hs
      isplitl [HO]; · iexact HO
      iapply (may_end m v0 _) $$ HR
    iintro ⟨Hs, HO⟩
    iapply h₃
    isplitr; · iexact HR
    isplitl [Hs]; · iexact Hs
    isplitl [Ht]; · iexact Ht
    isplitl [Ho]; · iexact Ho
    isplitl [HO] <;> iassumption
  refine wp_skip iprop(Recs m ∗ Csend false v0 32 31 32 ∗ Csend true v0 32 31 32 ∗ Cout m v0 32 30 ∗ (∃ W, owes (v0 : Thread nD τ) 0 W) ∗ Kept m v0) ?_ ?_ ?_
  · intro hn
    have hn' : ¬hasOut true v0 := fun h => hn ((cond16_iff v0).mpr h)
    rw [csend_idle v0 hn' 32 30 32 32 31 32]
  · intro hC h₃
    have ho : hasOut true v0 := (cond16_iff v0).mp hC
    iintro ⟨#HR, Hs, Ht, Ho, ⟨%W, HO⟩, HX⟩
    iapply (csend_wait m (d := true) (n := 32) (w := 30) (v := 32) ho (by decide) (by decide) (by decide) (Nw_send true)
      (eq := s2_of (A := sendA true) off47_eq) (W := W) (O := 0)) $$ [Ht HO]
    · isplitr; · iexact HR
      isplitl [Ht]; · iexact Ht
      isplitl [HO]; · iexact HO
      iapply (may_end m v0 _) $$ HR
    iintro ⟨Ht, HO⟩
    iapply h₃
    isplitr; · iexact HR
    isplitl [Hs]; · iexact Hs
    isplitl [Ht]; · iexact Ht
    isplitl [Ho]; · iexact Ho
    isplitl [HO] <;> iassumption
  refine out_step m (b := 30) (by decide) (by decide) Nw_out (s2_of (A := cc0_scratch9) off50_eq30) ?_
  refine wp_skip iprop(Recs m ∗ Csend false v0 32 32 32 ∗ Csend true v0 32 31 32 ∗ Cout m v0 32 31 ∗ (∃ W, owes (v0 : Thread nD τ) 0 W) ∗ Kept m v0) ?_ ?_ ?_
  · intro hn
    have hn' : ¬hasOut false v0 := fun h => hn ((cond17_iff v0).mpr h)
    rw [csend_idle v0 hn' 32 31 32 32 32 32]
  · intro hC h₃
    have ho : hasOut false v0 := (cond17_iff v0).mp hC
    iintro ⟨#HR, Hs, Ht, Ho, ⟨%W, HO⟩, HX⟩
    iapply (csend_wait m (d := false) (n := 32) (w := 31) (v := 32) ho (by decide) (by decide) (by decide) (Nw_send false)
      (eq := s2_of (A := sendA false) off52_eq) (W := W) (O := 0)) $$ [Hs HO]
    · isplitr; · iexact HR
      isplitl [Hs]; · iexact Hs
      isplitl [HO]; · iexact HO
      iapply (may_end m v0 _) $$ HR
    iintro ⟨Hs, HO⟩
    iapply h₃
    isplitr; · iexact HR
    isplitl [Hs]; · iexact Hs
    isplitl [Ht]; · iexact Ht
    isplitl [Ho]; · iexact Ho
    isplitl [HO] <;> iassumption
  refine wp_skip iprop(Recs m ∗ Csend false v0 32 32 32 ∗ Csend true v0 32 32 32 ∗ Cout m v0 32 31 ∗ (∃ W, owes (v0 : Thread nD τ) 0 W) ∗ Kept m v0) ?_ ?_ ?_
  · intro hn
    have hn' : ¬hasOut true v0 := fun h => hn ((cond18_iff v0).mpr h)
    rw [csend_idle v0 hn' 32 31 32 32 32 32]
  · intro hC h₃
    have ho : hasOut true v0 := (cond18_iff v0).mp hC
    iintro ⟨#HR, Hs, Ht, Ho, ⟨%W, HO⟩, HX⟩
    iapply (csend_wait m (d := true) (n := 32) (w := 31) (v := 32) ho (by decide) (by decide) (by decide) (Nw_send true)
      (eq := s2_of (A := sendA true) off55_eq) (W := W) (O := 0)) $$ [Ht HO]
    · isplitr; · iexact HR
      isplitl [Ht]; · iexact Ht
      isplitl [HO]; · iexact HO
      iapply (may_end m v0 _) $$ HR
    iintro ⟨Ht, HO⟩
    iapply h₃
    isplitr; · iexact HR
    isplitl [Hs]; · iexact Hs
    isplitl [Ht]; · iexact Ht
    isplitl [Ho]; · iexact Ho
    isplitl [HO] <;> iassumption
  refine out_step m (b := 31) (by decide) (by decide) Nw_out (s2_of (A := cc0_scratch9) off50_eq31) ?_
  iintro ⟨-, Hs, Ht, Ho, HO, ⟨Hl, Hr, Hrf, Hrt, Hg, Hat⟩⟩
  rw [wp_ret]; imodintro
  unfold Finish
  isplitl [Hl]; · iexact Hl
  isplitl [Hr]; · iexact Hr
  isplitl [Ho]; · iexact Ho
  isplitl [Hs Hrf]; · isplitl [Hs] <;> iassumption
  isplitl [Ht Hrt]; · isplitl [Ht] <;> iassumption
  isplitl [Hat]; · iexact Hat
  isplitl [HO] <;> iassumption

end Cert.KernelIdeal.Tab
-- ==== Proof.KI.Ends.lean ====
/- What the kernel starts from and ends with: whole arrays, whole scratch buffers, semaphores at rest. -/
module

public import proofs.«01_k».proof.Proof.KI.Body
public import proofs.«01_k».proof.Proof.Slots
public import Idealize.ShloMosaic.Lib.Ring

@[expose] public section

set_option maxRecDepth 20000

noncomputable section

namespace Cert.KernelIdeal.Tab

open Cert.KernelIdeal Cert.KernelIdeal.Gen Cert.Proof.Kit
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ) (c : Dev nD)

/-! ## Slots and chunks -/

abbrev r6 (t : Fin 6) : Rect S6x256x2048 := Rect.unit (s := S6x256x2048) ![t.val % 6, 0, 0] S1x256x2048.size (inb6 t.val)
abbrev r2 (t : Fin 2) : Rect S2x256x2048 := Rect.unit (s := S2x256x2048) ![t.val % 2, 0, 0] S1x256x2048.size (inb2 t.val)
abbrev rX (t : Fin 32) : Rect S1x8192x2048 := Rect.unit (s := S1x8192x2048) ![0, 256 * (t.val % 32), 0] S1x256x2048.size (inbX t.val)
abbrev rR (t : Fin 32) : Rect S8192x2048 := Rect.unit (s := S8192x2048) ![256 * (t.val % 32), 0] S256x2048.size (inbR t.val)

theorem r6_disj : ∀ t t' : Fin 6, t ≠ t' → Disjoint (r6 t).set (r6 t').set :=
  Ring.lead_disjoint (s := S6x256x2048) (0 : Fin 3) 1 (fun t : Fin 6 => ![t.val % 6, 0, 0]) S1x256x2048.size (fun t => inb6 t.val)
    (fun t => by have := t.isLt; show t.val % 6 = _; omega) rfl
theorem r6_cover : (Finset.univ : Finset (Fin 6)).biUnion (fun t => (r6 t).set) = Finset.univ :=
  Ring.lead_cover (s := S6x256x2048) (0 : Fin 3) 1 (fun t : Fin 6 => ![t.val % 6, 0, 0]) S1x256x2048.size (fun t => inb6 t.val)
    (fun t => by have := t.isLt; show t.val % 6 = _; omega) (fun t a ha => by fin_cases a <;> first | exact absurd rfl ha | rfl) rfl
    (fun a ha => by fin_cases a <;> first | exact absurd rfl ha | rfl) rfl
theorem r2_disj : ∀ t t' : Fin 2, t ≠ t' → Disjoint (r2 t).set (r2 t').set :=
  Ring.lead_disjoint (s := S2x256x2048) (0 : Fin 3) 1 (fun t : Fin 2 => ![t.val % 2, 0, 0]) S1x256x2048.size (fun t => inb2 t.val)
    (fun t => by have := t.isLt; show t.val % 2 = _; omega) rfl
theorem r2_cover : (Finset.univ : Finset (Fin 2)).biUnion (fun t => (r2 t).set) = Finset.univ :=
  Ring.lead_cover (s := S2x256x2048) (0 : Fin 3) 1 (fun t : Fin 2 => ![t.val % 2, 0, 0]) S1x256x2048.size (fun t => inb2 t.val)
    (fun t => by have := t.isLt; show t.val % 2 = _; omega) (fun t a ha => by fin_cases a <;> first | exact absurd rfl ha | rfl) rfl
    (fun a ha => by fin_cases a <;> first | exact absurd rfl ha | rfl) rfl
theorem rX_disj : ∀ t t' : Fin 32, t ≠ t' → Disjoint (rX t).set (rX t').set :=
  Ring.lead_disjoint (s := S1x8192x2048) (1 : Fin 3) 256 (fun t : Fin 32 => ![0, 256 * (t.val % 32), 0]) S1x256x2048.size (fun t => inbX t.val)
    (fun t => by have := t.isLt; show 256 * (t.val % 32) = _; omega) rfl
theorem rX_cover : (Finset.univ : Finset (Fin 32)).biUnion (fun t => (rX t).set) = Finset.univ :=
  Ring.lead_cover (s := S1x8192x2048) (1 : Fin 3) 256 (fun t : Fin 32 => ![0, 256 * (t.val % 32), 0]) S1x256x2048.size (fun t => inbX t.val)
    (fun t => by have := t.isLt; show 256 * (t.val % 32) = _; omega) (fun t a ha => by fin_cases a <;> first | exact absurd rfl ha | rfl) rfl
    (fun a ha => by fin_cases a <;> first | exact absurd rfl ha | rfl) rfl
theorem rR_disj : ∀ t t' : Fin 32, t ≠ t' → Disjoint (rR t).set (rR t').set :=
  Ring.lead_disjoint (s := S8192x2048) (0 : Fin 2) 256 (fun t : Fin 32 => ![256 * (t.val % 32), 0]) S256x2048.size (fun t => inbR t.val)
    (fun t => by have := t.isLt; show 256 * (t.val % 32) = _; omega) rfl
theorem rR_cover : (Finset.univ : Finset (Fin 32)).biUnion (fun t => (rR t).set) = Finset.univ :=
  Ring.lead_cover (s := S8192x2048) (0 : Fin 2) 256 (fun t : Fin 32 => ![256 * (t.val % 32), 0]) S256x2048.size (fun t => inbR t.val)
    (fun t => by have := t.isLt; show 256 * (t.val % 32) = _; omega) (fun t a ha => by fin_cases a <;> first | exact absurd rfl ha | rfl) rfl
    (fun a ha => by fin_cases a <;> first | exact absurd rfl ha | rfl) rfl

theorem some_intro {α : Type} (Φ : α → sProp 𝕄) (a : α) : Φ a ⊢ iprop(∃ a, Φ a) := by
  iintro H; iexists a; iexact H

theorem slots6_split (M : Memref sig .tc .vmem S6x256x2048 .f32) (X : Vec F S6x256x2048 .f32) :
    (owns (c : Thread nD τ) M fullShare X : sProp 𝕄) ⊢ Seg 0 6 (some6 c M) := by
  rw [seg_fin]
  refine (owns_split (Ix := ℕ) (Name := ℕ) (U := UU) (Lvl := ℕ) (Val := Elt F) (c : Thread nD τ) M fullShare r6 (fun _ _ => rfl) r6_disj r6_cover (fun _ => squeezes_S1x256x2048_S256x2048) X).trans (bigSep_mono fun t _ => some_intro _ _)
theorem slots6_join (M : Memref sig .tc .vmem S6x256x2048 .f32) :
    Seg 0 6 (some6 c M) ⊢ (iprop(∃ X : Vec F S6x256x2048 .f32, owns (c : Thread nD τ) M fullShare X) : sProp 𝕄) := by
  rw [seg_fin]
  exact owns_join_some (Ix := ℕ) (Name := ℕ) (U := UU) (Lvl := ℕ) (Val := Elt F) (c : Thread nD τ) M fullShare r6 (fun _ _ => rfl) r6_disj r6_cover (fun _ => squeezes_S1x256x2048_S256x2048)
theorem slots2_split (M : Memref sig .tc .vmem S2x256x2048 .f32) (X : Vec F S2x256x2048 .f32) :
    (owns (c : Thread nD τ) M fullShare X : sProp 𝕄) ⊢ Seg 0 2 (some2 c M) := by
  rw [seg_fin]
  refine (owns_split (Ix := ℕ) (Name := ℕ) (U := UU) (Lvl := ℕ) (Val := Elt F) (c : Thread nD τ) M fullShare r2 (fun _ _ => rfl) r2_disj r2_cover (fun _ => squeezes_S1x256x2048_S256x2048) X).trans (bigSep_mono fun t _ => some_intro _ _)
theorem slots2_join (M : Memref sig .tc .vmem S2x256x2048 .f32) :
    Seg 0 2 (some2 c M) ⊢ (iprop(∃ X : Vec F S2x256x2048 .f32, owns (c : Thread nD τ) M fullShare X) : sProp 𝕄) := by
  rw [seg_fin]
  exact owns_join_some (Ix := ℕ) (Name := ℕ) (U := UU) (Lvl := ℕ) (Val := Elt F) (c : Thread nD τ) M fullShare r2 (fun _ _ => rfl) r2_disj r2_cover (fun _ => squeezes_S1x256x2048_S256x2048)

abbrev xAt : sProp 𝕄 := ((c : Thread nD τ).loc main_arg0) ↦{fullShare} m ((c : Thread nD τ).loc main_arg0)
abbrev rAt : sProp 𝕄 := ((c : Thread nD τ).loc main_arg1) ↦{fullShare} m ((c : Thread nD τ).loc main_arg1)

theorem x_split : xAt m c ⊢ Seg 0 32 (srcOwn xC (xV m c) c) := by
  unfold xAt
  rw [seg_fin, ← owns_whole (c : Thread nD τ) main_arg0 fullShare]
  exact owns_split (Ix := ℕ) (Name := ℕ) (U := UU) (Lvl := ℕ) (Val := Elt F) (c : Thread nD τ) (Memref.whole main_arg0) fullShare rX (fun _ _ => rfl) rX_disj rX_cover (fun _ => squeezes_S1x256x2048_S256x2048) _
theorem x_join : Seg 0 32 (srcOwn xC (xV m c) c) ⊢ xAt m c := by
  unfold xAt
  rw [seg_fin, ← owns_whole (c : Thread nD τ) main_arg0 fullShare]
  exact owns_join (Ix := ℕ) (Name := ℕ) (U := UU) (Lvl := ℕ) (Val := Elt F) (c : Thread nD τ) (Memref.whole main_arg0) fullShare rX (fun _ _ => rfl) rX_disj rX_cover (fun _ => squeezes_S1x256x2048_S256x2048) _
theorem r_split : rAt m c ⊢ Seg 0 32 (srcOwn rC (rV m c) c) := by
  unfold rAt
  rw [seg_fin, ← owns_whole (c : Thread nD τ) main_arg1 fullShare]
  exact owns_rects (c : Thread nD τ) (Memref.whole main_arg1) fullShare rR (fun _ _ => rfl) rR_disj rR_cover _
theorem r_join : Seg 0 32 (srcOwn rC (rV m c) c) ⊢ rAt m c := by
  unfold rAt
  rw [seg_fin, ← owns_whole (c : Thread nD τ) main_arg1 fullShare]
  exact owns_of_rects (c : Thread nD τ) (Memref.whole main_arg1) fullShare rR (fun _ _ => rfl) rR_disj rR_cover _
theorem o_split (f : Buf (Elt F) ((c : Thread nD τ).loc main_v1)) : (((c : Thread nD τ).loc main_v1) ↦{fullShare} f : sProp 𝕄) ⊢ Seg 0 32 (outTodo c) := by
  rw [seg_fin, ← owns_whole (c : Thread nD τ) main_v1 fullShare]
  refine (owns_rects (c : Thread nD τ) (Memref.whole main_v1) fullShare rR (fun _ _ => rfl) rR_disj rR_cover _).trans (bigSep_mono fun t _ => some_intro _ _)

/-- The result array holds the chunks of the result. -/
def Filled (f : Buf (Elt F) ((c : Thread nD τ).loc main_v1)) : Prop := ∀ k, k < 32 → (oC k).view.read (Elt F) f = res m c k
abbrev oAt : sProp 𝕄 := iprop(∃ f : Buf (Elt F) ((c : Thread nD τ).loc main_v1), ⌜Filled m c f⌝ ∗ ((c : Thread nD τ).loc main_v1) ↦{fullShare} f)

theorem o_join : Seg 0 32 (outDone m c) ⊢ oAt m c := by
  rw [seg_fin]
  refine (owns_fill (Ix := ℕ) (Name := ℕ) (U := UU) (Lvl := ℕ) (Val := Elt F) (c : Thread nD τ) (Memref.whole main_v1) fullShare rR (fun _ _ => rfl) rR_disj rR_cover (fun t => res m c t.val)).trans ?_
  unfold oAt
  iintro ⟨%X, %hX, H⟩
  iexists X
  isplitr
  · ipureintro
    intro k hk
    funext j
    exact hX ⟨k, hk⟩ j
  · ihave H' := (Entails.of_eq (owns_whole (Ix := ℕ) (Name := ℕ) (U := UU) (Lvl := ℕ) (Val := Elt F) (c : Thread nD τ) main_v1 fullShare X)) $$ H
    iexact H'

/-! ## The semaphores, row by row -/

/-- The semaphores of the kernel's own copies. -/
abbrev osem : Fin 26 → SemLoc sig := fun i => .dma ⟨1 + i.val, by have := i.isLt; show 1 + i.val < 27; omega⟩

section RowsOf
variable {M : Type*} [URA M] (Φ : GSem nD τ sig → sProp M)

theorem own_rows : bigSep Finset.univ (fun i : Fin 26 => Φ ((c : Thread nD τ), osem i))
    = iprop(Seg 0 6 (fun k => Φ ((c : Thread nD τ), .dma (loadS k))) ∗ Seg 0 2 (fun k => Φ ((c : Thread nD τ), .dma (residS k))) ∗ Seg 0 2 (fun k => Φ ((c : Thread nD τ), .dma (outS k)))
        ∗ Seg 0 2 (fun k => Φ (sendCell false c k)) ∗ Seg 0 6 (fun k => Φ (recvCell false c k)) ∗ Seg 0 2 (fun k => Φ (sendCell true c k)) ∗ Seg 0 6 (fun k => Φ (recvCell true c k))) := by
  have e : bigSep Finset.univ (fun i : Fin 26 => Φ ((c : Thread nD τ), osem i))
      = Seg 0 26 (fun k => if h : k < 26 then Φ ((c : Thread nD τ), osem ⟨k, h⟩) else iprop(emp)) := by
    rw [seg_fin]; exact bigSep_congr fun i _ => by rw [dif_pos i.isLt]
  have hrow (o n : ℕ) (S : ℕ → DmaSem sig) (hon : o + n ≤ 26) (hS : ∀ k, k < n → (S k).val = 1 + (k + o)) :
      Seg (0 + o) (n + o) (fun k => if h : k < 26 then Φ ((c : Thread nD τ), osem ⟨k, h⟩) else iprop(emp)) = Seg 0 n (fun k => Φ ((c : Thread nD τ), .dma (S k))) := by
    rw [seg_shift]
    refine seg_congr fun k _ hk => ?_
    rw [dif_pos (by omega)]
    exact congrArg (fun q => Φ ((c : Thread nD τ), SemLoc.dma q)) (Fin.ext (hS k hk).symm)
  rw [e, seg_split (a := 0) (k := 6) (b := 26) (by omega) (by omega), seg_split (a := 6) (k := 8) (b := 26) (by omega) (by omega),
    seg_split (a := 8) (k := 10) (b := 26) (by omega) (by omega), seg_split (a := 10) (k := 12) (b := 26) (by omega) (by omega),
    seg_split (a := 12) (k := 18) (b := 26) (by omega) (by omega), seg_split (a := 18) (k := 20) (b := 26) (by omega) (by omega)]
  rw [show Seg 0 6 _ = _ from hrow 0 6 loadS (by omega) (fun k hk => by rw [loadS_val]; omega),
    show Seg 6 8 _ = _ from hrow 6 2 residS (by omega) (fun k hk => by rw [residS_val]; omega),
    show Seg 8 10 _ = _ from hrow 8 2 outS (by omega) (fun k hk => by rw [outS_val]; omega),
    show Seg 10 12 _ = _ from hrow 10 2 (sendS false) (by omega) (fun k hk => by rw [sendS_val, if_neg (by decide)]; omega),
    show Seg 12 18 _ = _ from hrow 12 6 (recvS false) (by omega) (fun k hk => by rw [recvS_val, if_neg (by decide)]; omega),
    show Seg 18 20 _ = _ from hrow 18 2 (sendS true) (by omega) (fun k hk => by rw [sendS_val, if_pos rfl]; omega),
    show Seg 20 26 _ = _ from hrow 20 6 (recvS true) (by omega) (fun k hk => by rw [recvS_val, if_pos rfl]; omega)]

theorem cell_rows : bigSep Finset.univ (fun i : Fin 17 => Φ (rcell (c, i)))
    = iprop(Φ (barCell c) ∗ Seg 0 2 (fun k => Φ (sendCell false c k)) ∗ Seg 0 6 (fun k => Φ (recvCell false c k)) ∗ Seg 0 2 (fun k => Φ (sendCell true c k)) ∗ Seg 0 6 (fun k => Φ (recvCell true c k))) := by
  have e : bigSep Finset.univ (fun i : Fin 17 => Φ (rcell (c, i)))
      = Seg 0 17 (fun k => if h : k < 17 then Φ (rcell (c, ⟨k, h⟩)) else iprop(emp)) := by
    rw [seg_fin]; exact bigSep_congr fun i _ => by rw [dif_pos i.isLt]
  have hrow (o n : ℕ) (S : ℕ → DmaSem sig) (ho : 0 < o) (hon : o + n ≤ 17) (hS : ∀ k, k < n → (S k).val = 10 + (k + o)) :
      Seg (0 + o) (n + o) (fun k => if h : k < 17 then Φ (rcell (c, ⟨k, h⟩)) else iprop(emp)) = Seg 0 n (fun k => Φ ((c : Thread nD τ), .dma (S k))) := by
    rw [seg_shift]
    refine seg_congr fun k _ hk => ?_
    rw [dif_pos (by omega)]
    unfold rcell osemR
    dsimp only
    rw [dif_neg (by omega)]
    exact congrArg (fun q => Φ ((c : Thread nD τ), SemLoc.dma q)) (Fin.ext (hS k hk).symm)
  rw [e, seg_head (by omega), seg_split (a := 0 + 1) (k := 3) (b := 17) (by omega) (by omega),
    seg_split (a := 3) (k := 9) (b := 17) (by omega) (by omega), seg_split (a := 9) (k := 11) (b := 17) (by omega) (by omega)]
  rw [show Seg (0 + 1) 3 _ = _ from hrow 1 2 (sendS false) (by omega) (by omega) (fun k hk => by rw [sendS_val, if_neg (by decide)]; omega),
    show Seg 3 9 _ = _ from hrow 3 6 (recvS false) (by omega) (by omega) (fun k hk => by rw [recvS_val, if_neg (by decide)]; omega),
    show Seg 9 11 _ = _ from hrow 9 2 (sendS true) (by omega) (by omega) (fun k hk => by rw [sendS_val, if_pos rfl]; omega),
    show Seg 11 17 _ = _ from hrow 11 6 (recvS true) (by omega) (by omega) (fun k hk => by rw [recvS_val, if_pos rfl]; omega),
    dif_pos (by omega)]
  rfl

end RowsOf

end Cert.KernelIdeal.Tab

end
-- ==== Proof.KI.Close.lean ====
/- From what a device holds at the launch to the kernel's first state, and from its last state to what is given back. -/
module

public import proofs.«01_k».proof.Proof.KI.Ends

@[expose] public section

set_option maxRecDepth 20000

noncomputable section

namespace Cert.KernelIdeal.Tab

open Cert.KernelIdeal Cert.KernelIdeal.Gen Cert.Proof.Kit
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ) (c : Dev nD)

/-! ## The first state -/

def barCred (d : Dir) (c : Dev nD) : sProp 𝕄 := if hasOut d c then cred (tallyAt (barCell c) 1 1) else iprop(emp)
def recvCreds (d : Dir) (c : Dev nD) : sProp 𝕄 := if hasIn d c then Seg 0 32 (recvCred d c) else iprop(emp)

/-- What a device holds of direction `d` at the launch. -/
def dirHeld (d : Dir) (c : Dev nD) : sProp 𝕄 :=
  iprop((Seg 0 2 (fun k => atPos ER (sendCell d c k) 0 ∅ 0) ∗ Seg 0 6 (fun k => atPos ER (recvCell d c k) 0 ∅ 0))
    ∗ (Seg 0 32 (sendTok d c) ∗ dutyTok ER (barCell (nb d c)) 0 (!d)) ∗ barCred d c ∗ recvCreds d c)

theorem send_start (d : Dir) : iprop(Seg 0 2 (some2 c (sendM d)) ∗ Seg 0 2 (fun k => atPos ER (sendCell d c k) 0 ∅ 0)) ⊢ (Seg 0 2 (sendIdle d c) : sProp 𝕄) := by
  have e : (Seg 0 2 (sendIdle d c) : sProp 𝕄) = iprop(Seg 0 2 (some2 c (sendM d)) ∗ Seg 0 2 (fun k => atPos ER (sendCell d c k) 0 ∅ 0)) := by
    rw [← seg_sep]
    exact seg_congr fun k _ hk => by unfold sendIdle; rw [show k / 2 = 0 by omega]
  rw [e]
theorem recv_start (d : Dir) : (Seg 0 6 (fun k => atPos ER (recvCell d c k) 0 ∅ 0)) ⊢ (Seg 0 6 (recvPos d c) : sProp 𝕄) := by
  rw [show (Seg 0 6 (recvPos d c) : sProp 𝕄) = Seg 0 6 (fun k => atPos ER (recvCell d c k) 0 ∅ 0) from
    seg_congr fun k _ hk => by unfold recvPos; rw [show k / 6 = 0 by omega]]

theorem dir_start (d : Dir) : iprop(dirHeld d c ∗ Seg 0 2 (some2 c (sendM d)) ∗ Seg 0 6 (some6 c (landM d))) ⊢ (iprop(sendPre d c ∗ recvPre d c) : sProp 𝕄) := by
  unfold dirHeld sendPre recvPre barCred recvCreds
  by_cases ho : hasOut d c <;> by_cases hi : hasIn d c
  · rw [if_pos ho, if_pos hi, if_pos ho, if_pos hi]
    iintro ⟨⟨⟨Hs, Hr⟩, ⟨Ht, Hb⟩, Hc, Hcs⟩, H2, H6⟩
    isplitl [Hs Ht Hb Hc H2]
    · isplitl [Hs H2]
      · iapply (send_start c d); isplitl [H2] <;> iassumption
      isplitl [Ht]; · iexact Ht
      isplitl [Hb] <;> iassumption
    isplitl [Hr]
    · iapply (recv_start c d); iexact Hr
    isplitl [H6] <;> iassumption
  · rw [if_pos ho, if_neg hi, if_pos ho, if_neg hi]
    iintro ⟨⟨⟨Hs, Hr⟩, ⟨Ht, Hb⟩, Hc, Hcs⟩, H2, H6⟩
    isplitl [Hs Ht Hb Hc H2]
    · isplitl [Hs H2]
      · iapply (send_start c d); isplitl [H2] <;> iassumption
      isplitl [Ht]; · iexact Ht
      isplitl [Hb] <;> iassumption
    isplitl [Hr]
    · iapply (recv_start c d); iexact Hr
    iexact H6
  · rw [if_neg ho, if_pos hi, if_neg ho, if_pos hi]
    iintro ⟨⟨⟨Hs, Hr⟩, -, -, Hcs⟩, H2, H6⟩
    isplitl [Hs H2]
    · iapply (send_start c d); isplitl [H2] <;> iassumption
    isplitl [Hr]
    · iapply (recv_start c d); iexact Hr
    isplitl [H6] <;> iassumption
  · rw [if_neg ho, if_neg hi, if_neg ho, if_neg hi]
    iintro ⟨⟨⟨Hs, Hr⟩, -, -, -⟩, H2, H6⟩
    isplitl [Hs H2]
    · iapply (send_start c d); isplitl [H2] <;> iassumption
    isplitl [Hr]
    · iapply (recv_start c d); iexact Hr
    iexact H6

abbrev semRow (n : ℕ) (S : ℕ → DmaSem sig) : sProp 𝕄 := Seg 0 n (fun k => semVal ((c : Thread nD τ), SemLoc.dma (S k)) 0)

theorem in6_start : iprop(xAt m c ∗ Seg 0 6 (some6 c lxM) ∗ semRow c 6 loadS) ⊢ Cin 6 xC (sl6 lxM) loadS (xV m c) c 0 0 0 := by
  have e : iprop(Seg 0 6 (some6 c lxM) ∗ semRow c 6 loadS) ⊢ (Seg 0 (0 + 6) (slotFree (sl6 lxM) loadS c) : sProp 𝕄) := by
    rw [Nat.zero_add]; unfold semRow; rw [← seg_sep]; exact seg_mono fun k _ _ => .rfl
  unfold Cin
  rw [seg_nil (le_refl 0), seg_nil (le_refl 0), seg_nil (le_refl 0)]
  iintro ⟨Hx, Hs, Hv⟩
  isplitl [Hx]; · iapply (x_split m c); iexact Hx
  isplitl []; · iempintro
  isplitl [Hs Hv]
  · iapply e; isplitl [Hs] <;> iassumption
  isplitl []; · iempintro
  iempintro
theorem in2_start : iprop(rAt m c ∗ Seg 0 2 (some2 c rxM) ∗ semRow c 2 residS) ⊢ Cin 2 rC (sl2 rxM) residS (rV m c) c 0 0 0 := by
  have e : iprop(Seg 0 2 (some2 c rxM) ∗ semRow c 2 residS) ⊢ (Seg 0 (0 + 2) (slotFree (sl2 rxM) residS c) : sProp 𝕄) := by
    rw [Nat.zero_add]; unfold semRow; rw [← seg_sep]; exact seg_mono fun k _ _ => .rfl
  unfold Cin
  rw [seg_nil (le_refl 0), seg_nil (le_refl 0), seg_nil (le_refl 0)]
  iintro ⟨Hx, Hs, Hv⟩
  isplitl [Hx]; · iapply (r_split m c); iexact Hx
  isplitl []; · iempintro
  isplitl [Hs Hv]
  · iapply e; isplitl [Hs] <;> iassumption
  isplitl []; · iempintro
  iempintro
theorem out_start (f : Buf (Elt F) ((c : Thread nD τ).loc main_v1)) :
    iprop((((c : Thread nD τ).loc main_v1) ↦{fullShare} f) ∗ Seg 0 2 (some2 c oxM) ∗ semRow c 2 outS) ⊢ Cout m c 0 0 := by
  have e : iprop(Seg 0 2 (some2 c oxM) ∗ semRow c 2 outS) ⊢ (Seg 0 (0 + 2) (outFree c) : sProp 𝕄) := by
    rw [Nat.zero_add]; unfold semRow; rw [← seg_sep]
  unfold Cout
  rw [seg_nil (le_refl 0), seg_nil (le_refl 0)]
  iintro ⟨Hx, Hs, Hv⟩
  isplitl [Hx]; · iapply (o_split c f); iexact Hx
  isplitl []; · iempintro
  isplitl [Hs Hv]
  · iapply e; isplitl [Hs] <;> iassumption
  iempintro

/-! ## The last state -/

theorem in6_end : Cin 6 xC (sl6 lxM) loadS (xV m c) c 32 32 32 ⊢ iprop(xAt m c ∗ Seg 0 6 (some6 c lxM) ∗ semRow c 6 loadS) := by
  have e : (Seg 32 (32 + 6) (slotFree (sl6 lxM) loadS c) : sProp 𝕄) = iprop(Seg 0 6 (some6 c lxM) ∗ semRow c 6 loadS) := by
    rw [seg_turn 6 32 (by decide) (fun k => by unfold slotFree loadS; rw [sl6_mod, sem6_congr (k' := k) _ (Nat.mod_mod k 6)])]
    unfold semRow; rw [← seg_sep]; exact seg_congr fun k _ _ => rfl
  unfold Cin
  rw [e]
  iintro ⟨-, Hx, ⟨Hs, Hv⟩, -, -⟩
  isplitl [Hx]; · iapply (x_join m c); iexact Hx
  isplitl [Hs] <;> iassumption
theorem in2_end : Cin 2 rC (sl2 rxM) residS (rV m c) c 32 32 32 ⊢ iprop(rAt m c ∗ Seg 0 2 (some2 c rxM) ∗ semRow c 2 residS) := by
  have e : (Seg 32 (32 + 2) (slotFree (sl2 rxM) residS c) : sProp 𝕄) = iprop(Seg 0 2 (some2 c rxM) ∗ semRow c 2 residS) := by
    rw [seg_turn 2 32 (by decide) (fun k => by unfold slotFree residS; rw [sl2_mod, sem2_congr (k' := k) _ (Nat.mod_mod k 2)])]
    unfold semRow; rw [← seg_sep]; exact seg_congr fun k _ _ => rfl
  unfold Cin
  rw [e]
  iintro ⟨-, Hx, ⟨Hs, Hv⟩, -, -⟩
  isplitl [Hx]; · iapply (r_join m c); iexact Hx
  isplitl [Hs] <;> iassumption
theorem out_end : Cout m c 32 32 ⊢ iprop(oAt m c ∗ Seg 0 2 (some2 c oxM) ∗ semRow c 2 outS) := by
  have e : (Seg 32 (32 + 2) (outFree c) : sProp 𝕄) = iprop(Seg 0 2 (some2 c oxM) ∗ semRow c 2 outS) := by
    rw [seg_turn 2 32 (by decide) (fun k => by unfold outFree outS some2; rw [sl2_mod, sem2_congr (k' := k) _ (Nat.mod_mod k 2)])]
    unfold semRow; rw [← seg_sep]
  unfold Cout
  rw [e]
  iintro ⟨-, Hx, ⟨Hs, Hv⟩, -⟩
  isplitl [Hx]; · iapply (o_join m c); iexact Hx
  isplitl [Hs] <;> iassumption

/-- Along a row, with something that can be repeated. -/
theorem seg_update {R : sProp 𝕄} [BI.Persistent R] {a b : ℕ} {Φ Ψ : ℕ → sProp 𝕄} (h : ∀ k, a ≤ k → k < b → iprop(R ∗ Φ k) ⊢ |={Set.univ}=> Ψ k) :
    iprop(R ∗ Seg a b Φ) ⊢ |={Set.univ}=> Seg a b Ψ := by
  unfold Seg
  refine (sep_mono_left (BI.bigSep_of_persistent (Finset.Ico a b) R)).trans ?_
  rw [← bigSep_sep']
  exact (bigSep_mono fun k hk => h k (Finset.mem_Ico.mp hk).1 (Finset.mem_Ico.mp hk).2).trans (bigSep_fupd _ _)

/-- A cell with no round left gives its semaphore back, at rest. -/
theorem close_cell (g : GSem nD τ sig) (hg : Recs (F := F) m ⊢ iprop(∃ κ, cellInv ER (Rd m) κ g)) (R : ℕ) (hR : ∀ r, R ≤ r → (Rd (F := F) m).duties g r = ∅) :
    iprop(Recs m ∗ atPos ER g R ∅ 0) ⊢ |={Set.univ}=> (semVal g 0 : sProp 𝕄) := by
  iintro ⟨#HR, Hat⟩
  ihave HI := hg $$ HR
  icases HI with ⟨%κ, #HI⟩
  iapply (Rounds.cell_close ER (Rd m) (Set.mem_univ κ) (fun h => h) (R := R) hR)
  isplitr; · iexact HI
  iexact Hat

abbrev sendVal (d : Dir) (k : ℕ) : sProp 𝕄 := semVal (sendCell d c k) 0
abbrev recvVal (d : Dir) (k : ℕ) : sProp 𝕄 := semVal (recvCell d c k) 0

theorem send_close (d : Dir) (k : ℕ) (h : ¬hasOut d c ∨ 32 ≤ k) : iprop(Recs m ∗ sendIdle d c k) ⊢ |={Set.univ}=> iprop(some2 c (sendM d) k ∗ sendVal c d k) := by
  iintro ⟨#HR, Hs, Hat⟩
  imod (close_cell m (sendCell d c k) (recs_send m d c k) (k / 2) (fun r hr => duties_send_end m d c k h r hr)) $$ [Hat] with Hv
  · isplitr; · iexact HR
    iexact Hat
  imodintro
  isplitl [Hs] <;> iassumption

theorem send_end (d : Dir) : iprop(Recs m ∗ Csend d c 32 32 32) ⊢ |={Set.univ}=> iprop(Seg 0 2 (some2 c (sendM d)) ∗ Seg 0 2 (sendVal c d)) := by
  unfold Csend
  by_cases ho : hasOut d c
  · rw [if_pos ho]
    have e : (Seg 32 (32 + 2) (fun k => iprop(some2 c (sendM d) k ∗ sendVal c d k)) : sProp 𝕄) = iprop(Seg 0 2 (some2 c (sendM d)) ∗ Seg 0 2 (sendVal c d)) := by
      rw [seg_turn 2 32 (by decide) (fun k => by unfold sendVal sendCell sendS some2; rw [sl2_mod, sem2_congr (k' := k) _ (Nat.mod_mod k 2)]), seg_sep]
    rw [← e]
    iintro ⟨#HR, -, Hf, -, -⟩
    iapply (seg_update (R := Recs (F := F) m) (Φ := sendIdle d c) (fun k hk _ => send_close m c d k (.inr hk)))
    isplitr; · iexact HR
    iapply (seg_mono (Φ := sendFree d c) (Ψ := sendIdle d c) (fun k _ _ => by
      unfold sendFree sendIdle
      iintro ⟨Hs, Hat, -⟩
      isplitl [Hs] <;> iassumption))
    iexact Hf
  · rw [if_neg ho, ← seg_sep]
    exact seg_update (fun k _ _ => send_close m c d k (.inl ho))

theorem recv_close (d : Dir) (k : ℕ) (h : ¬hasIn d c ∨ 32 ≤ k) : iprop(Recs m ∗ recvPos d c k) ⊢ |={Set.univ}=> (recvVal c d k : sProp 𝕄) :=
  close_cell m (recvCell d c k) (recs_recv m d c k) (k / 6) (fun r hr => duties_recv_end m d c k h r hr)

theorem recv_end (d : Dir) : iprop(Recs m ∗ Crecv m d c 32 32 26) ⊢ |={Set.univ}=> iprop(Seg 0 6 (some6 c (landM d)) ∗ Seg 0 6 (recvVal c d)) := by
  unfold Crecv
  by_cases hi : hasIn d c
  · rw [if_pos hi]
    have e : (Seg 32 (32 + 6) (recvVal c d) : sProp 𝕄) = Seg 0 6 (recvVal c d) :=
      seg_turn 6 32 (by decide) (fun k => by unfold recvVal recvCell recvS; rw [sem6_congr (k' := k) _ (Nat.mod_mod k 6)])
    have e' : (Seg 26 32 (some6 c (landM d)) : sProp 𝕄) = Seg 0 6 (some6 c (landM d)) :=
      seg_turn 6 26 (by decide) (fun k => by unfold some6; rw [sl6_mod])
    rw [← e, ← e']
    iintro ⟨#HR, Hp, -, -, Hf⟩
    imod (seg_update (R := Recs (F := F) m) (Φ := recvPos d c) (Ψ := recvVal c d) (fun k hk _ => recv_close m c d k (.inr hk))) $$ [Hp] with Hv
    · isplitr; · iexact HR
      iexact Hp
    imodintro
    isplitl [Hf]
    · iapply (seg_mono (Φ := freed d c) (Ψ := some6 c (landM d)) (fun k _ _ => by
        unfold freed
        iintro ⟨Hs, -⟩
        iexact Hs))
      iexact Hf
    iexact Hv
  · rw [if_neg hi]
    iintro ⟨#HR, Hp, Hf⟩
    imod (seg_update (R := Recs (F := F) m) (Φ := recvPos d c) (Ψ := recvVal c d) (fun k hk _ => recv_close m c d k (.inl hi))) $$ [Hp] with Hv
    · isplitr; · iexact HR
      iexact Hp
    imodintro
    isplitl [Hf] <;> iassumption

theorem bar_close : iprop(Recs m ∗ atPos ER (barCell c) 1 ∅ 0) ⊢ |={Set.univ}=> (semVal (barCell c) 0 : sProp 𝕄) :=
  close_cell m (barCell c) (recs_bar m c) 1 (fun r hr => duties_bar_end m c r hr)

end Cert.KernelIdeal.Tab

end
-- ==== Proof.KI.Deal.lean ====
/- What the launch deals: the cells that run in rounds, the duties each device pays, the credits it is owed. -/
module

public import proofs.«01_k».proof.Proof.KI.Close

@[expose] public section

set_option maxRecDepth 20000

noncomputable section

namespace Cert.KernelIdeal.Tab

open Cert.KernelIdeal Cert.KernelIdeal.Gen Cert.Proof.Kit
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ) (c : Dev nD)

/-! ## The cells -/

theorem osemR_injective : Function.Injective osemR := by
  have h : ∀ i j : Fin 17, osemR i = osemR j → i = j := by decide +kernel
  exact fun i j => h i j

theorem rcell_injective : Function.Injective rcell := by
  rintro ⟨c, i⟩ ⟨c', i'⟩ h
  have h1 : c = c' := congrArg (fun g : GSem nD τ sig => g.1.1) h
  have h2 : i = i' := osemR_injective (congrArg Prod.snd h)
  rw [h1, h2]

def ringCells : Finset (GSem nD τ sig) := Finset.univ.map ⟨rcell, rcell_injective⟩

/-! ## The duties -/

/-- A duty is named by its device, its kind, its direction and its transfer. -/
abbrev TokIx : Type := Fin 3 × Bool × Fin 32

/-- The barrier's duties, those of the sends, and those of the receives. -/
def tokOf (x : Dev nD × TokIx) : GSem nD τ sig × ℕ × Bool :=
  match x.2.1 with
  | 0 => (barCell x.1, x.2.2.2.val, x.2.2.1)
  | 1 => (sendCell x.2.2.1 x.1 x.2.2.2.val, x.2.2.2.val / 2, false)
  | 2 => (recvCell x.2.2.1 x.1 x.2.2.2.val, x.2.2.2.val / 6, false)

/-- A number by which the semaphores differ. -/
def semNo (s : SemLoc sig) : ℕ := match s with | .reg _ => 0 | .dma q => q.val

theorem semNo_send (d : Dir) (k : ℕ) : semNo (.dma (sendS d k)) = (if d then 19 else 11) + k % 2 := sendS_val d k
theorem semNo_recv (d : Dir) (k : ℕ) : semNo (.dma (recvS d k)) = (if d then 21 else 13) + k % 6 := recvS_val d k

theorem tokOf_injective : Function.Injective tokOf := by
  rintro ⟨c, j, d, k⟩ ⟨c', j', d', k'⟩ h
  have h1 : c = c' := by
    have := congrArg (fun x : GSem nD τ sig × ℕ × Bool => x.1.1.1) h
    fin_cases j <;> fin_cases j' <;> exact this
  subst h1
  have h2 := congrArg (fun x : GSem nD τ sig × ℕ × Bool => semNo x.1.2) h
  have h3 := congrArg (fun x : GSem nD τ sig × ℕ × Bool => x.2.1) h
  have h4 := congrArg (fun x : GSem nD τ sig × ℕ × Bool => x.2.2) h
  have l2 := Nat.mod_lt k.val (show 0 < 2 by decide)
  have l2' := Nat.mod_lt k'.val (show 0 < 2 by decide)
  have l6 := Nat.mod_lt k.val (show 0 < 6 by decide)
  have l6' := Nat.mod_lt k'.val (show 0 < 6 by decide)
  fin_cases j <;> fin_cases j' <;> simp only [tokOf, semNo_send, semNo_recv] at h2 h3 h4
  · rw [Fin.ext h3, h4]
  · exfalso; change 0 = _ at h2; cases d' <;> simp at h2 <;> omega
  · exfalso; change 0 = _ at h2; cases d' <;> simp at h2 <;> omega
  · exfalso; change _ = 0 at h2; cases d <;> simp at h2 <;> omega
  · cases d <;> cases d' <;> simp at h2 <;> first
      | (exfalso; omega)
      | (have : k = k' := Fin.ext (by omega)
         rw [this])
  · exfalso; cases d <;> cases d' <;> simp at h2 <;> omega
  · exfalso; change _ = 0 at h2; cases d <;> simp at h2 <;> omega
  · exfalso; cases d <;> cases d' <;> simp at h2 <;> omega
  · cases d <;> cases d' <;> simp at h2 <;> first
      | (exfalso; omega)
      | (have : k = k' := Fin.ext (by omega)
         rw [this])

def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks, 1)

abbrev sendDuty (d : Dir) (c : Dev nD) (k : ℕ) : sProp 𝕄 := dutyTok ER (sendCell d c k) (k / 2) false
abbrev recvDuty (d : Dir) (c : Dev nD) (k : ℕ) : sProp 𝕄 := dutyTok ER (recvCell d c k) (k / 6) false

/-- The duties owed to a device's own cells. -/
def toks (c : Dev nD) : sProp 𝕄 :=
  iprop((dutyTok ER (barCell c) 0 false ∗ dutyTok ER (barCell c) 0 true)
    ∗ (Seg 0 32 (sendDuty false c) ∗ Seg 0 32 (sendDuty true c)) ∗ (Seg 0 32 (recvDuty false c) ∗ Seg 0 32 (recvDuty true c)))

theorem tok_rows (Φ : TokIx → sProp 𝕄) : bigSep Finset.univ Φ
    = iprop(((bigSep Finset.univ fun k : Fin 32 => Φ (0, false, k)) ∗ (bigSep Finset.univ fun k : Fin 32 => Φ (0, true, k)))
      ∗ ((bigSep Finset.univ fun k : Fin 32 => Φ (1, false, k)) ∗ (bigSep Finset.univ fun k : Fin 32 => Φ (1, true, k)))
      ∗ ((bigSep Finset.univ fun k : Fin 32 => Φ (2, false, k)) ∗ (bigSep Finset.univ fun k : Fin 32 => Φ (2, true, k)))) := by
  have e (j : Fin 3) : (bigSep Finset.univ fun x : Bool × Fin 32 => Φ (j, x))
      = iprop((bigSep Finset.univ fun k : Fin 32 => Φ (j, false, k)) ∗ (bigSep Finset.univ fun k : Fin 32 => Φ (j, true, k))) := by
    rw [bigSep_univ_prod, bigSep_univ_eq_bigSepL [false, true] (by decide) (by decide)]; rfl
  rw [bigSep_univ_prod, bigSep_univ_eq_bigSepL [0, 1, 2] (by decide) (by decide)]
  show iprop((bigSep Finset.univ fun x : Bool × Fin 32 => Φ (0, x)) ∗ (bigSep Finset.univ fun x : Bool × Fin 32 => Φ (1, x)) ∗ (bigSep Finset.univ fun x : Bool × Fin 32 => Φ (2, x))) = _
  rw [e, e, e]

theorem toks_intro : (bigSep Finset.univ fun x : TokIx => (dutyTok ER (tokOf (c, x)).1 (tokOf (c, x)).2.1 (tokOf (c, x)).2.2 : sProp 𝕄)) ⊢ toks c := by
  unfold toks
  rw [tok_rows, seg_fin, seg_fin, seg_fin, seg_fin]
  exact BI.sep_mono_l (BI.sep_mono
    (bigSep_elim (Φ := fun k : Fin 32 => (dutyTok ER (barCell c) k.val false : sProp 𝕄)) (Finset.mem_univ 0))
    (bigSep_elim (Φ := fun k : Fin 32 => (dutyTok ER (barCell c) k.val true : sProp 𝕄)) (Finset.mem_univ 0)))

/-- The duties a device pays. -/
def payToks (c : Dev nD) : sProp 𝕄 :=
  iprop((Seg 0 32 (sendTok false c) ∗ dutyTok ER (barCell (nb false c)) 0 true) ∗ (Seg 0 32 (sendTok true c) ∗ dutyTok ER (barCell (nb true c)) 0 false))

theorem toks_around : (bigSep Finset.univ fun c : Dev nD => (toks c : sProp 𝕄)) ⊢ bigSep Finset.univ fun c : Dev nD => payToks c := by
  have e (c : Dev nD) : (payToks c : sProp 𝕄) = iprop(((Seg 0 32 (sendDuty false c) ∗ Seg 0 32 (recvDuty false (nb false c))) ∗ dutyTok ER (barCell (nb false c)) 0 true)
      ∗ ((Seg 0 32 (sendDuty true c) ∗ Seg 0 32 (recvDuty true (nb true c))) ∗ dutyTok ER (barCell (nb true c)) 0 false)) := by
    unfold payToks; rw [← seg_sep, ← seg_sep]
  rw [bigSep_congr (Ψ := fun c : Dev nD => iprop(((Seg 0 32 (sendDuty false c) ∗ Seg 0 32 (recvDuty false (nb false c))) ∗ dutyTok ER (barCell (nb false c)) 0 true)
      ∗ ((Seg 0 32 (sendDuty true c) ∗ Seg 0 32 (recvDuty true (nb true c))) ∗ dutyTok ER (barCell (nb true c)) 0 false))) fun c _ => e c]
  unfold toks
  rw [bigSep_sep', bigSep_sep', bigSep_sep', bigSep_sep', bigSep_sep', bigSep_sep', bigSep_sep', bigSep_sep', bigSep_sep', bigSep_sep',
    bigSep_univ_equiv (nbEquiv true) (fun c : Dev nD => (dutyTok ER (barCell c) 0 false : sProp 𝕄)),
    bigSep_univ_equiv (nbEquiv false) (fun c : Dev nD => (dutyTok ER (barCell c) 0 true : sProp 𝕄)),
    bigSep_univ_equiv (nbEquiv false) (fun c : Dev nD => (Seg 0 32 (recvDuty false c) : sProp 𝕄)),
    bigSep_univ_equiv (nbEquiv true) (fun c : Dev nD => (Seg 0 32 (recvDuty true c) : sProp 𝕄))]
  iintro ⟨⟨Hbf, Hbt⟩, ⟨Hsf, Hst⟩, Hrf, Hrt⟩
  isplitl [Hbt Hsf Hrf]
  · isplitl [Hsf Hrf]
    · isplitl [Hsf]; · iexact Hsf
      iexact Hrf
    iexact Hbt
  isplitl [Hst Hrt]
  · isplitl [Hst]; · iexact Hst
    iexact Hrt
  iexact Hbf

/-! ## The global step -/

/-- The semaphores of the device's own copies, at rest. -/
def locals (c : Dev nD) : sProp 𝕄 := iprop(semRow c 6 loadS ∗ semRow c 2 residS ∗ semRow c 2 outS)

/-- A device's positions in its cells. -/
def posn (c : Dev nD) : sProp 𝕄 := bigSep Finset.univ fun k : Fin 17 => atPos ER (rcell (c, k)) 0 ∅ 0

/-- What the launch's share for the rounds is to a device. -/
def G (c : Dev nD) : sProp 𝕄 :=
  iprop((bigSep Finset.univ fun k : Fin 17 => roundState ER (Rd m) (rcell (c, k)) 0)
    ∗ (posn c ∗ bigSep Finset.univ fun k : Fin 17 => reached ER (rcell (c, k)) 0) ∗ toks c)

/-- The records without the order of the waits. -/
def Recs₀ : sProp 𝕄 :=
  iprop(∃ K : Dev nD × Fin 17 → ℕ, (bigSep Finset.univ fun ck : Dev nD × Fin 17 => cellInv ER (Rd m) (K ck) (rcell ck))
    ∗ (bigSep Finset.univ fun ck : Dev nD × Fin 17 => reached ER (rcell ck) 0))

instance Recs₀_persistent : BI.Persistent (Recs₀ (F := F) m) := by unfold Recs₀; infer_instance

def linear (c : Dev nD) : sProp 𝕄 := iprop(posn c ∗ payToks c ∗ locals c)
def G' (c : Dev nD) : sProp 𝕄 := iprop(Recs₀ m ∗ linear c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 17 => Φ (rcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    exact bigSep_mono fun c _ => toks_intro c
  have hG : iprop((bigSep Finset.univ fun c : Dev nD => bigSep Finset.univ fun k : Fin 17 => roundState ER (Rd m) (rcell (c, k)) 0)
      ∗ ((bigSep Finset.univ fun c : Dev nD => posn c) ∗ bigSep Finset.univ fun c : Dev nD => bigSep Finset.univ fun k : Fin 17 => reached ER (rcell (c, k)) 0)
      ∗ bigSep Finset.univ fun c : Dev nD => toks c) ⊢ (bigSep Finset.univ (G m) : sProp 𝕄) := by
    unfold G; rw [bigSep_sep', bigSep_sep', bigSep_sep']
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  iapply hG
  isplitl [Hst']; · iexact Hst'
  isplitl [Hat' Hr']
  · isplitl [Hat']; · iexact Hat'
    iexact Hr'
  iexact Htok'

theorem ownU_three (a : UR sig nD τ) (b : UB) : (ownU ((a, b, 1) : UU) : sProp 𝕄) ⊢ iprop(BI.own (EP a) ∗ BI.own (ER b)) :=
  BI.own_op_elim ((uEmb (nD := nD) (sig := sig) (Ix := ℕ) (Val := Elt F) (Name := ℕ) (U := UU) (Lvl := ℕ)).toEmb.op_of_mem
    (Prod.mk_mem_op (URA.mem_op_one a) (URA.mem_one_op (b, (1 : Counters)))))

theorem bar_unscoped : (unscopedSems0 c : sProp 𝕄) = semVal (barCell c) 0 := by
  unfold unscopedSems0; rw [bigSep_eq_bigSepL_of_eq [SemLoc.reg barS] (by decide) (by decide)]; rfl

theorem own_eq : (Pipeline.ownSems0 (Ix := ℕ) (Name := ℕ) (U := UU) (Lvl := ℕ) (Val := Elt F) (τ := τ) osem c : sProp 𝕄)
    = iprop(semRow c 6 loadS ∗ semRow c 2 residS ∗ semRow c 2 outS
        ∗ Seg 0 2 (sendVal c false) ∗ Seg 0 6 (recvVal c false) ∗ Seg 0 2 (sendVal c true) ∗ Seg 0 6 (recvVal c true)) :=
  own_rows c (fun g => semVal g 0)

theorem sems_split : iprop(Pipeline.ownSems0 (Ix := ℕ) (Name := ℕ) (U := UU) (Lvl := ℕ) (Val := Elt F) (τ := τ) osem c ∗ unscopedSems0 c)
      ⊢ (iprop((bigSep Finset.univ fun k : Fin 17 => semVal (rcell (c, k)) 0) ∗ locals c) : sProp 𝕄) := by
  unfold locals
  rw [own_eq, bar_unscoped, cell_rows c (fun g => semVal g 0)]
  iintro ⟨⟨Hl, Hr, Ho, Hsf, Hrf, Hst, Hrt⟩, Hb⟩
  isplitl [Hsf Hrf Hst Hrt Hb]
  · isplitl [Hb]; · iexact Hb
    isplitl [Hsf]; · iexact Hsf
    isplitl [Hrf]; · iexact Hrf
    isplitl [Hst] <;> iassumption
  isplitl [Hl]; · iexact Hl
  isplitl [Hr] <;> iassumption

/-- A device's cells, each with its invariant. -/
theorem core_alloc : iprop(Pipeline.ownSems0 (Ix := ℕ) (Name := ℕ) (U := UU) (Lvl := ℕ) (Val := Elt F) (τ := τ) osem c ∗ unscopedSems0 c ∗ G m c)
      ⊢ |={Set.univ}=> (iprop((bigSep Finset.univ fun k : Fin 17 => iprop(∃ κ : ℕ, cellInv ER (Rd m) κ (rcell (c, k))))
          ∗ (bigSep Finset.univ fun k : Fin 17 => reached ER (rcell (c, k)) 0) ∗ (posn c ∗ locals c) ∗ toks c) : sProp 𝕄) := by
  have e : iprop((bigSep Finset.univ fun k : Fin 17 => semVal (rcell (c, k)) 0) ∗ bigSep Finset.univ fun k : Fin 17 => roundState ER (Rd m) (rcell (c, k)) 0)
      ⊢ (|={Set.univ}=> bigSep Finset.univ fun k : Fin 17 => iprop(∃ κ : ℕ, cellInv ER (Rd m) κ (rcell (c, k))) : sProp 𝕄) := by
    rw [← bigSep_sep']
    exact (bigSep_mono fun k _ => (Rounds.body_intro ER (Rd m) (rcell (c, k))).trans inv_alloc).trans (bigSep_fupd _ _)
  unfold G
  iintro ⟨Hos, Hus, Hst, ⟨Hat, Hr⟩, Htok⟩
  ihave Hv := (sems_split (F := F) c) $$ [Hos Hus]
  · isplitl [Hos] <;> iassumption
  icases Hv with ⟨Hv, Hl⟩
  imod e $$ [Hv Hst] with Hinv
  · isplitl [Hv] <;> iassumption
  imodintro
  isplitl [Hinv]; · iexact Hinv
  isplitl [Hr]; · iexact Hr
  isplitl [Hat Hl]
  · isplitl [Hat] <;> iassumption
  iexact Htok

theorem regroup :
    (bigSep Finset.univ fun c : Dev nD => (iprop((bigSep Finset.univ fun k : Fin 17 => iprop(∃ κ : ℕ, cellInv ER (Rd m) κ (rcell (c, k))))
          ∗ (bigSep Finset.univ fun k : Fin 17 => reached ER (rcell (c, k)) 0) ∗ (posn c ∗ locals c) ∗ toks c) : sProp 𝕄))
      ⊢ bigSep Finset.univ (G' m) := by
  have hlin : iprop((bigSep Finset.univ fun c : Dev nD => (iprop(posn c ∗ locals c) : sProp 𝕄)) ∗ bigSep Finset.univ fun c : Dev nD => payToks c) ⊢ bigSep Finset.univ fun c : Dev nD => (linear c : sProp 𝕄) := by
    have e (c : Dev nD) : iprop((posn c ∗ locals c) ∗ payToks c) ⊢ (linear c : sProp 𝕄) := by
      unfold linear
      iintro ⟨⟨Hp, Hl⟩, Ht⟩
      isplitl [Hp]; · iexact Hp
      isplitl [Ht] <;> iassumption
    rw [← bigSep_sep']
    exact bigSep_mono fun c _ => e c
  have hall : iprop(Recs₀ m ∗ bigSep Finset.univ fun c : Dev nD => (linear c : sProp 𝕄)) ⊢ bigSep Finset.univ (G' m) :=
    (sep_mono_left (BI.bigSep_of_persistent (Finset.univ : Finset (Dev nD)) (Recs₀ (F := F) m))).trans (by rw [← bigSep_sep']; exact .rfl)
  rw [bigSep_sep', bigSep_sep', bigSep_sep', ← bigSep_univ_prod (fun ck : Dev nD × Fin 17 => iprop(∃ κ : ℕ, cellInv ER (Rd (F := F) m) κ (rcell ck))),
    ← bigSep_univ_prod (fun ck : Dev nD × Fin 17 => (reached ER (rcell ck) 0 : sProp 𝕄))]
  iintro ⟨HI, #HR, Hlin, Htok⟩
  ihave HK := (BI.bigSep_exists_pi Finset.univ (fun (ck : Dev nD × Fin 17) (κ : ℕ) => (cellInv ER (Rd (F := F) m) κ (rcell ck) : sProp 𝕄))) $$ HI
  icases HK with ⟨%K, #HI⟩
  ihave Htk := (toks_around (F := F)) $$ Htok
  iapply hall
  isplitr
  · unfold Recs₀
    iexists K
    isplitr; · iexact HI
    iexact HR
  iapply hlin
  isplitl [Hlin] <;> iassumption

theorem glob : (bigSep Finset.univ fun c => (iprop(Pipeline.ownSems0 (Ix := ℕ) (Name := ℕ) (U := UU) (Lvl := ℕ) (Val := Elt F) (τ := τ) osem c ∗ unscopedSems0 c ∗ G m c) : sProp 𝕄))
    ⊢ |={Set.univ}=> bigSep Finset.univ (G' m) :=
  ((bigSep_mono fun c _ => core_alloc m c).trans (bigSep_fupd _ _)).trans (BI.fupd_mono (regroup m))

/-! ## The credits -/

/-- What a device owes at the launch: its transfers, and a signal to each neighbour it sends to. -/
def O₀ (c : Dev nD) : CellTallies nD τ sig ℕ := oTot c 0 0 + oBar true c + oBar false c

/-- Where everyone that sends owes its neighbour on one semaphore, everyone that receives is owed. -/
theorem cred_nb (d : Dir) (S : SemLoc sig) (u : Dev nD → ℕ) (n : ℕ) (c : Dev nD) :
    (Pipeline.launchCred (fun e => if hasOut d e then tallyAt (((nb d e : Dev nD) : Thread nD τ), S) (u e) n else 0) c : sProp 𝕄)
      = cred (if hasIn d c then tallyAt ((c : Thread nD τ), S) (u (nb (!d) c)) n else 0) := by
  refine Pipeline.launchCred_of_sum _ (fun c => if hasIn d c then tallyAt ((c : Thread nD τ), S) (u (nb (!d) c)) n else 0) ?_ ?_ c
  · refine Fintype.sum_equiv (nbEquiv d) _ _ fun e => ?_
    show _ = if hasIn d (nb d e) then tallyAt (((nb d e : Dev nD) : Thread nD τ), S) (u (nb (!d) (nb d e))) n else 0
    rw [nb_nb]
    by_cases h : hasOut d e
    · rw [if_pos h, if_pos ((hasIn_nb d e).mpr h)]
    · rw [if_neg h, if_neg (fun h' => h ((hasIn_nb d e).mp h'))]
  · intro e g hg
    by_contra hne
    refine hg ?_
    show (if hasIn d e then tallyAt ((e : Thread nD τ), S) (u (nb (!d) e)) n else 0 : CellTallies nD τ sig ℕ) g = 0
    by_cases h : hasIn d e
    · rw [if_pos h]; exact tallyAt_ne_cell (fun hg' => hne (by rw [hg'])) _ _
    · rw [if_neg h]; rfl

theorem cred_bar (d : Dir) : (Pipeline.launchCred (oBar d) c : sProp 𝕄) ⊢ barCred (!d) c := by
  unfold barCred
  have h := cred_nb (F := F) d (.reg barrier0) (fun _ => 1) 1 c
  refine (Entails.of_eq h).trans ?_
  by_cases hi : hasIn d c
  · rw [if_pos hi, if_pos ((hasOut_not d c).mpr hi)]
  · rw [if_neg (fun h' => hi ((hasOut_not d c).mp h'))]; exact Laws.affine

theorem cred_recv (d : Dir) : (Pipeline.launchCred (fun e => oSend d e 0) c : sProp 𝕄) ⊢ recvCreds d c := by
  have e : (fun e : Dev nD => oSend d e 0)
      = fun e => ∑ k ∈ Finset.Ico 0 32, if hasOut d e then tallyAt (((nb d e : Dev nD) : Thread nD τ), SemLoc.dma (recvS d k)) (k + rk d e + 2) N else 0 := by
    funext e
    unfold oSend
    by_cases h : hasOut d e
    · rw [if_pos h]; exact Finset.sum_congr rfl fun k _ => (if_pos h).symm
    · rw [if_neg h]; exact (Finset.sum_eq_zero fun k _ => if_neg h).symm
  rw [e, Pipeline.launchCred_sum]
  unfold recvCreds
  by_cases hi : hasIn d c
  · rw [if_pos hi]
    refine bigSep_mono fun k _ => ?_
    refine (Entails.of_eq (cred_nb (F := F) d (.dma (recvS d k)) (fun e => k + rk d e + 2) N c)).trans ?_
    rw [if_pos hi]
    unfold recvCred
    rw [show k + rk d (nb (!d) c) + 2 = k + rk d c + 1 by have := rk_src d c hi; omega]
  · rw [if_neg hi]; exact Laws.affine

theorem creds : (Pipeline.launchCred O₀ c : sProp 𝕄)
    ⊢ iprop((barCred false c ∗ recvCreds false c) ∗ (barCred true c ∗ recvCreds true c)) := by
  have e : (Pipeline.launchCred O₀ c : sProp 𝕄)
      = iprop(((Pipeline.launchCred (fun e => oSend false e 0) c ∗ Pipeline.launchCred (fun e => oSend true e 0) c) ∗ Pipeline.launchCred (oBar true) c) ∗ Pipeline.launchCred (oBar false) c) := by
    rw [← Pipeline.launchCred_add, ← Pipeline.launchCred_add, ← Pipeline.launchCred_add]; rfl
  rw [e]
  iintro ⟨⟨⟨Hf, Ht⟩, Hbt⟩, Hbf⟩
  isplitl [Hbt Hf]
  · isplitl [Hbt]
    · iapply (cred_bar c true); iexact Hbt
    iapply (cred_recv c false); iexact Hf
  isplitl [Hbf]
  · iapply (cred_bar c false); iexact Hbf
  iapply (cred_recv c true); iexact Ht

end Cert.KernelIdeal.Tab

end
-- ==== Proof.KI.Run.lean ====
/- The kernel on one device, from what the launch deals it to what it gives back. -/
module

public import proofs.«01_k».proof.Proof.KI.Deal

@[expose] public section

set_option maxRecDepth 20000

noncomputable section

namespace Cert.KernelIdeal.Tab

open Cert.KernelIdeal Cert.KernelIdeal.Gen Cert.Proof.Kit
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ) (c : Dev nD)

/-! ## The run on one device, with the launch's resources on either side -/

/-- What a device starts the kernel with, apart from what it owes and the scale. -/
def Held (c : Dev nD) : sProp 𝕄 :=
  iprop((xAt m c ∗ rAt m c ∗ ((c : Thread nD τ).loc main_v1) ↦{fullShare} m ((c : Thread nD τ).loc main_v1))
    ∗ locals c ∗ posn c ∗ payToks c ∗ (barCred false c ∗ recvCreds false c) ∗ (barCred true c ∗ recvCreds true c))

abbrev rest0 (c : Dev nD) : sProp 𝕄 := Pipeline.scopedRest (Ix := ℕ) (Name := ℕ) (U := UU) (Lvl := ℕ) (Val := Elt F) spec0 c
abbrev own0 (c : Dev nD) : sProp 𝕄 := Pipeline.ownSems0 (Ix := ℕ) (Name := ℕ) (U := UU) (Lvl := ℕ) (Val := Elt F) (τ := τ) osem c

def Φ₀ (c : Dev nD) : sProp 𝕄 := iprop(Recs m ∗ Held m c ∗ rest0 c)
def Φ₁ (c : Dev nD) : sProp 𝕄 := iprop((xAt m c ∗ rAt m c ∗ oAt m c) ∗ semVal (barCell c) 0 ∗ own0 c ∗ rest0 c)

theorem take6 (M : Memref sig .tc .vmem S6x256x2048 .f32) {P : sProp 𝕄} (h : P ⊢ iprop(∃ X, owns (c : Thread nD τ) M fullShare X)) : P ⊢ Seg 0 6 (some6 c M) := by
  refine h.trans ?_
  iintro ⟨%X, H⟩
  iapply (slots6_split c M X); iexact H
theorem take2 (M : Memref sig .tc .vmem S2x256x2048 .f32) {P : sProp 𝕄} (h : P ⊢ iprop(∃ X, owns (c : Thread nD τ) M fullShare X)) : P ⊢ Seg 0 2 (some2 c M) := by
  refine h.trans ?_
  iintro ⟨%X, H⟩
  iapply (slots2_split c M X); iexact H

/-- The kernel's seven scratch buffers are their slots. -/
theorem rest_open : (rest0 c : sProp 𝕄) ⊢ iprop(Seg 0 6 (some6 c lxM) ∗ Seg 0 6 (some6 c (landM false)) ∗ Seg 0 6 (some6 c (landM true))
    ∗ Seg 0 2 (some2 c (sendM false)) ∗ Seg 0 2 (some2 c (sendM true)) ∗ Seg 0 2 (some2 c oxM) ∗ Seg 0 2 (some2 c rxM)) := by
  unfold rest0
  rw [scopedRest0_eq]
  iintro ⟨H0, H1, H2, H3, H4, H5, H6⟩
  isplitl [H0]; · iapply (take6 c lxM (by simp only [lxM, owns_whole]; exact .rfl)); iexact H0
  isplitl [H1]; · iapply (take6 c (landM false) (by simp only [landM, owns_whole]; exact .rfl)); iexact H1
  isplitl [H2]; · iapply (take6 c (landM true) (by simp only [landM, owns_whole]; exact .rfl)); iexact H2
  isplitl [H3]; · iapply (take2 c (sendM false) (by simp only [sendM, owns_whole]; exact .rfl)); iexact H3
  isplitl [H4]; · iapply (take2 c (sendM true) (by simp only [sendM, owns_whole]; exact .rfl)); iexact H4
  isplitl [H5]; · iapply (take2 c oxM (by simp only [oxM, owns_whole]; exact .rfl)); iexact H5
  iapply (take2 c rxM (by simp only [rxM, owns_whole]; exact .rfl)); iexact H6

theorem rest_shut : iprop(Seg 0 6 (some6 c lxM) ∗ Seg 0 6 (some6 c (landM false)) ∗ Seg 0 6 (some6 c (landM true))
    ∗ Seg 0 2 (some2 c (sendM false)) ∗ Seg 0 2 (some2 c (sendM true)) ∗ Seg 0 2 (some2 c oxM) ∗ Seg 0 2 (some2 c rxM)) ⊢ (rest0 c : sProp 𝕄) := by
  unfold rest0
  rw [scopedRest0_eq]
  iintro ⟨H0, H1, H2, H3, H4, H5, H6⟩
  isplitl [H0]; · iapply ((slots6_join c lxM).trans (by simp only [lxM, owns_whole]; exact .rfl)); iexact H0
  isplitl [H1]; · iapply ((slots6_join c (landM false)).trans (by simp only [landM, owns_whole]; exact .rfl)); iexact H1
  isplitl [H2]; · iapply ((slots6_join c (landM true)).trans (by simp only [landM, owns_whole]; exact .rfl)); iexact H2
  isplitl [H3]; · iapply ((slots2_join c (sendM false)).trans (by simp only [sendM, owns_whole]; exact .rfl)); iexact H3
  isplitl [H4]; · iapply ((slots2_join c (sendM true)).trans (by simp only [sendM, owns_whole]; exact .rfl)); iexact H4
  isplitl [H5]; · iapply ((slots2_join c oxM).trans (by simp only [oxM, owns_whole]; exact .rfl)); iexact H5
  iapply ((slots2_join c rxM).trans (by simp only [rxM, owns_whole]; exact .rfl)); iexact H6

theorem start_of : iprop(Held m c ∗ rest0 c ∗ (∃ W, owes (c : Thread nD τ) (O₀ c) W) ∗ gamAt m c) ⊢ Start m c := by
  unfold Held Start locals posn payToks O₀
  rw [cell_rows c (fun g => (atPos ER g 0 ∅ 0 : sProp 𝕄))]
  iintro ⟨⟨⟨Hx, Hr, Ho⟩, ⟨Sl, Sr, So⟩, ⟨Pb, Pfs, Pfr, Pts, Ptr⟩, ⟨Tf, Tt⟩, ⟨Bf, Cf⟩, ⟨Bt, Ct⟩⟩, Hrest, HO, Hg⟩
  ihave Hs := (rest_open c) $$ Hrest
  icases Hs with ⟨H0, H1, H2, H3, H4, H5, H6⟩
  isplitl [Hx H0 Sl]
  · iapply (in6_start m c)
    isplitl [Hx]; · iexact Hx
    isplitl [H0] <;> iassumption
  isplitl [Hr H6 Sr]
  · iapply (in2_start m c)
    isplitl [Hr]; · iexact Hr
    isplitl [H6] <;> iassumption
  isplitl [Ho H5 So]
  · iapply (out_start m c _)
    isplitl [Ho]; · iexact Ho
    isplitl [H5] <;> iassumption
  isplitl [Pfs Pfr Tf Bf Cf H3 H1]
  · iapply (dir_start c false)
    unfold dirHeld
    isplitl [Pfs Pfr Tf Bf Cf]
    · isplitl [Pfs Pfr]
      · isplitl [Pfs] <;> iassumption
      isplitl [Tf]; · iexact Tf
      isplitl [Bf] <;> iassumption
    isplitl [H3] <;> iassumption
  isplitl [Pts Ptr Tt Bt Ct H4 H2]
  · iapply (dir_start c true)
    unfold dirHeld
    isplitl [Pts Ptr Tt Bt Ct]
    · isplitl [Pts Ptr]
      · isplitl [Pts] <;> iassumption
      isplitl [Tt]; · iexact Tt
      isplitl [Bt] <;> iassumption
    isplitl [H4] <;> iassumption
  isplitl [Pb]; · iexact Pb
  isplitl [HO] <;> iassumption

theorem finish_to : iprop(Recs m ∗ Finish m c) ⊢ |={Set.univ}=> iprop(Φ₁ m c ∗ (∃ W, owes (c : Thread nD τ) 0 W) ∗ gamAt m c) := by
  unfold Finish Φ₁ own0
  rw [own_eq]
  iintro ⟨#HR, Hl, Hr, Ho, ⟨Sf, Rf⟩, ⟨St, Rt⟩, Hb, HO, Hg⟩
  ihave Hl := (in6_end m c) $$ Hl
  icases Hl with ⟨Hx, H0, Vl⟩
  ihave Hr := (in2_end m c) $$ Hr
  icases Hr with ⟨Hr, H6, Vr⟩
  ihave Ho := (out_end m c) $$ Ho
  icases Ho with ⟨Ho, H5, Vo⟩
  imod (send_end m c false) $$ [Sf] with ⟨H3, Vsf⟩
  · isplitr; · iexact HR
    iexact Sf
  imod (send_end m c true) $$ [St] with ⟨H4, Vst⟩
  · isplitr; · iexact HR
    iexact St
  imod (recv_end m c false) $$ [Rf] with ⟨H1, Vrf⟩
  · isplitr; · iexact HR
    iexact Rf
  imod (recv_end m c true) $$ [Rt] with ⟨H2, Vrt⟩
  · isplitr; · iexact HR
    iexact Rt
  imod (bar_close m c) $$ [Hb] with Vb
  · isplitr; · iexact HR
    iexact Hb
  imodintro
  isplitr [HO Hg]
  · isplitl [Hx Hr Ho]
    · isplitl [Hx]; · iexact Hx
      isplitl [Hr] <;> iassumption
    isplitl [Vb]; · iexact Vb
    isplitl [Vl Vr Vo Vsf Vrf Vst Vrt]
    · isplitl [Vl]; · iexact Vl
      isplitl [Vr]; · iexact Vr
      isplitl [Vo]; · iexact Vo
      isplitl [Vsf]; · iexact Vsf
      isplitl [Vrf]; · iexact Vrf
      isplitl [Vst] <;> iassumption
    iapply (rest_shut c)
    isplitl [H0]; · iexact H0
    isplitl [H1]; · iexact H1
    isplitl [H2]; · iexact H2
    isplitl [H3]; · iexact H3
    isplitl [H4]; · iexact H4
    isplitl [H5] <;> iassumption
  isplitl [HO] <;> iassumption

/-- The kernel's program on the buffers it is called with. -/
abbrev prog0 : Prog (TpuEff nD τ sig (Elt F) Λ₀ .tc) PUnit :=
  cc0_body (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13

/-- A program that takes the first state to the last takes what the launch deals to what is given back. -/
theorem run_of {p : Prog (TpuEff nD τ sig (Elt F) Λ₀ .tc) PUnit}
    (hp : iprop(Recs m ∗ Start m c) ⊢ wp frame (wpE (defs₀ (F := F)) 𝒱₀ (c : Thread nD τ) none) Set.univ p (fun _ => Finish m c)) :
    iprop(Φ₀ m c ∗ (∃ W, owes (c : Thread nD τ) (O₀ c) W) ∗ gamAt m c)
      ⊢ wp frame (wpE (defs₀ (F := F)) 𝒱₀ (c : Thread nD τ) none) Set.univ p (fun _ => iprop(Φ₁ m c ∗ (∃ W, owes (c : Thread nD τ) 0 W) ∗ gamAt m c)) := by
  have h : iprop(Φ₀ m c ∗ (∃ W, owes (c : Thread nD τ) (O₀ c) W) ∗ gamAt m c) ⊢ iprop(Recs m ∗ Recs m ∗ Start m c) := by
    unfold Φ₀
    iintro ⟨⟨#HR, Hh, Hs⟩, HO, Hg⟩
    isplitr; · iexact HR
    isplitr; · iexact HR
    iapply (start_of m c)
    isplitl [Hh]; · iexact Hh
    isplitl [Hs]; · iexact Hs
    isplitl [HO] <;> iassumption
  exact h.trans ((BI.sep_mono_r hp).trans ((wp_frame_l _ _ _).trans ((wp_mono _ _ _ (fun _ => finish_to m c)).trans (wp_fupd _ _ _ _ _))))

theorem prog_spec : iprop(Φ₀ m c ∗ (∃ W, owes (c : Thread nD τ) (O₀ c) W) ∗ gamAt m c)
    ⊢ wp frame (wpE (defs₀ (F := F)) 𝒱₀ (c : Thread nD τ) none) Set.univ prog0 (fun _ => iprop(Φ₁ m c ∗ (∃ W, owes (c : Thread nD τ) 0 W) ∗ gamAt m c)) :=
  run_of m c (body_spec m)

end Cert.KernelIdeal.Tab

end
-- ==== Proof.KI.Launch.lean ====
/- The launch: the kernel on every device at once, from any memory to what it leaves there. -/
module

public import proofs.«01_k».proof.Proof.KI.Run
public import proofs.«01_k».proof.Proof.Gen.KernelIdeal.Frame
public import Idealize.ShloMosaic.Lib.Pipeline.CollectiveSegs

@[expose] public section

set_option maxRecDepth 20000

noncomputable section

namespace Cert.KernelIdeal.Tab

open Cert.KernelIdeal Cert.KernelIdeal.Gen Cert.Proof.Kit
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ) (c : Dev nD)

open Idealize.ShloMosaic.Pipeline (Dat BodyObligation)

variable (ρ : Dev nD → PrngReg)

/-! ## The region's data -/

def dats (_ : Fin 1) (c : Dev nD) : Dat τ (Elt F) ℕ ℕ UU ℕ cfg0 c where
  A w := m ((cfg0.win w).arr.view.loc (c : Thread nD τ))
  after w _ := match w with
    | ⟨0, _⟩ => gV m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The scale's staging buffer holds the scale when the kernel starts. -/
theorem before_gam (d) : (dats m 0 c).before (0 : Fin cfg0.W) t0_0 d = gV m c :=
  ((dats m 0 c).before_in_eq_fetched 0 rfl (fun _ => rfl) (fun _ _ _ => rfl) (fun t => by rw [fin_N0 t]; rfl) t0_0 d).trans rfl

abbrev stgAt (X : Vec F S2048 .f32) : sProp 𝕄 := owns (c : Thread nD τ) (Memref.whole cc0_stg0_0) fullShare X

def bodyPre : sProp 𝕄 :=
  iprop(Φ₀ m c ∗ (dats m 0 c).owesAt (0 : ℕ) t0_0.castSucc ∗ (∃ d, stgAt c ((dats m 0 c).before (0 : Fin cfg0.W) t0_0 d)))
def bodyPost : sProp 𝕄 :=
  iprop(Φ₁ m c ∗ (dats m 0 c).owesAt (0 : ℕ) t0_0.succ ∗ stgAt c (gV m c))

theorem body_of {p : Prog (TpuEff nD τ sig (Elt F) Λ₀ .tc) PUnit}
    (hp : iprop(Φ₀ m c ∗ (∃ W, owes (c : Thread nD τ) (O₀ c) W) ∗ gamAt m c)
      ⊢ wp frame (wpE (defs₀ (F := F)) 𝒱₀ (c : Thread nD τ) none) Set.univ p (fun _ => iprop(Φ₁ m c ∗ (∃ W, owes (c : Thread nD τ) 0 W) ∗ gamAt m c))) :
    bodyPre m c ⊢ wp frame (wpE (defs₀ (F := F)) 𝒱₀ (c : Thread nD τ) none) Set.univ p (fun _ => bodyPost m c) := by
  have h₀ : bodyPre m c ⊢ iprop(Φ₀ m c ∗ (∃ W, owes (c : Thread nD τ) (O₀ c) W) ∗ gamAt m c) := by
    unfold bodyPre Dat.owesAt Pipeline.owesWithin
    iintro ⟨HΦ, ⟨%W, %hW, HO⟩, ⟨%d, Hg⟩⟩
    rw [before_gam m c d]
    isplitl [HΦ]; · iexact HΦ
    isplitl [HO]
    · iexists W; iexact HO
    iexact Hg
  have h₁ : iprop(Φ₁ m c ∗ (∃ W, owes (c : Thread nD τ) 0 W) ∗ gamAt m c) ⊢ bodyPost m c := by
    unfold bodyPost Dat.owesAt Pipeline.owesWithin
    iintro ⟨HΦ, ⟨%W, HO⟩, Hg⟩
    isplitl [HΦ]; · iexact HΦ
    isplitl [HO]
    · iexists W
      isplitr; · ipureintro; exact fun _ _ => Or.inl trivial
      iexact HO
    iexact Hg
  exact h₀.trans (hp.trans (wp_mono _ _ _ (fun _ => h₁)))

theorem body_run : bodyPre m c ⊢ wp frame (wpE (defs₀ (F := F)) 𝒱₀ (c : Thread nD τ) none) Set.univ prog0 (fun _ => bodyPost m c) :=
  body_of m c (prog_spec m c)

theorem body_obligation (c : Dev nD) : BodyObligation (dats (F := F) m 0 c) (defs₀ (F := F)) 𝒱₀ (0 : ℕ) Set.univ := fun t => by
  rw [fin_N0 t, bigSep_W0, bigSep_W0]
  exact body_run m c

/-! ## The launch's side conditions -/

theorem ownSemFacts : Pipeline.OwnSemFacts cfg0.spec osem := by decide +kernel
theorem share_eq (c : Dev nD) (w : Fin cfg0.W) : (dats m 0 c).share w = fullShare := by unfold Dat.share; split <;> rfl
theorem L_other (g : GSem nD τ sig) (h : g.1.2 ≠ .tc) : L g = ∅ := if_neg h

theorem O₀_pos {c : Dev nD} {g : GSem nD τ sig} {u : ℕ} (h : 0 < O₀ c g u) : g.1.2 = .tc ∧ 0 < u ∧ u < 64 := by
  have hs : 0 < oSend false c 0 g u ∨ 0 < oSend true c 0 g u ∨ 0 < oBar true c g u ∨ 0 < oBar false c g u := by
    have h' : 0 < (oSend false c 0 + oSend true c 0 + oBar true c + oBar false c) g u := h
    rw [Pi.add_apply, Finsupp.add_apply, Pi.add_apply, Finsupp.add_apply, Pi.add_apply, Finsupp.add_apply] at h'; omega
  rcases hs with hs | hs | hs | hs
  · obtain ⟨h1, _, h3, h4⟩ := oSend_pos hs; exact ⟨h1, by omega, h4⟩
  · obtain ⟨h1, _, h3, h4⟩ := oSend_pos hs; exact ⟨h1, by omega, h4⟩
  · obtain ⟨h1, h2⟩ := oBar_pos hs; exact ⟨h1, by omega, by omega⟩
  · obtain ⟨h1, h2⟩ := oBar_pos hs; exact ⟨h1, by omega, by omega⟩

theorem waits (c : Dev nD) : (levAts L lv : sProp 𝕄) ⊢ Pipeline.cellsWaits cfgs (dats m) (0 : ℕ) 0 c :=
  Pipeline.cellsWaits_intro cfgs (dats m) (0 : ℕ) 0 c fun w s t => by
    refine mayWait_of c _ 0 (by decide) _ fun g v hg => ?_
    rcases t with ⟨_ | n, ht⟩
    · exact O₀_pos hg
    · exact absurd hg (Nat.lt_irrefl 0)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((Recs m ∗ Held m c) ∗ emp) := by
  have e : iprop(Recs₀ m ∗ levAts L lv) ⊢ Recs m := by
    unfold Recs₀ Recs
    iintro ⟨⟨%K, HI, HR⟩, HL⟩
    iexists K
    isplitl [HI]; · iexact HI
    isplitl [HR] <;> iassumption
  rw [Pipeline.unscopedRestP_none]
  iintro ⟨Hu, Hlev, Hcr, -, HG⟩
  ihave Hu := (Entails.of_eq (unscopedRest0_eq (Ix := ℕ) (Name := ℕ) (U := UU) (Lvl := ℕ) c (fun b => m ((c : Thread nD τ).loc b)))) $$ Hu
  ihave Hc := (creds (F := F) c) $$ Hcr
  unfold G' linear Held
  icases Hu with ⟨Hx, Hr, Ho⟩
  icases HG with ⟨HR, Hp, Ht, Hl⟩
  icases Hc with ⟨Hcf, Hct⟩
  imodintro
  isplitl
  · isplitl [HR Hlev]
    · iapply e; isplitl [HR] <;> iassumption
    isplitl [Hx Hr Ho]
    · isplitl [Hx]; · iexact Hx
      isplitl [Hr] <;> iassumption
    isplitl [Hl]; · iexact Hl
    isplitl [Hp]; · iexact Hp
    isplitl [Ht]; · iexact Ht
    isplitl [Hcf] <;> iassumption
  · iempintro

theorem phi0_intro (c : Dev nD) :
    iprop((Recs m ∗ Held m c) ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨⟨HR, Hh⟩, -, Hr⟩
  isplitl [HR]; · iexact HR
  isplitl [Hh] <;> iassumption

/-- What a device keeps past the kernel. -/
def AtEnd (c : Dev nD) : sProp 𝕄 := iprop((xAt m c ∗ rAt m c ∗ oAt m c) ∗ unscopedSems0 c)

theorem phi1_exit (c : Dev nD) :
    (dats m 0 c).Φ (Fin.last cfg0.N) ⊢ iprop(AtEnd m c ∗ Pipeline.ownSems0 osem c ∗ Pipeline.scopedRest cfg0.spec c) := by
  rw [show (dats m 0 c).Φ (Fin.last cfg0.N) = Φ₁ m c from rfl]
  unfold Φ₁ AtEnd
  rw [bar_unscoped]
  iintro ⟨Ha, Hb, Hs, Hr⟩
  isplitl [Ha Hb]
  · isplitl [Ha] <;> iassumption
  isplitl [Hs] <;> iassumption

/-! ## The run -/

/-- What a final memory says of device `c`. -/
def Final (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1)
    ∧ Filled m c (s.mem ((c : Thread nD τ).loc main_v1)))
  ∧ ∀ sm : SemLoc sig, sm.isScoped .tc = false → s.sem ((c.tc : Thread nD τ), sm) = 0

theorem read_one (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  have h := pointsTo_read_all (Ix := ℕ) (Name := ℕ) (U := UU) (Lvl := ℕ) (Finset.univ : Finset Unit) (fun _ => ℓ) (fun _ => f) s' fullShare
  rw [show (Finset.univ : Finset Unit) = {()} from rfl, bigSep_singleton] at h
  exact h.trans (BI.sep_mono_l (fun _ hp => hp () (Finset.mem_singleton_self _)))

theorem final_read (c : Dev nD) (s' : Phys nD τ sig (Elt F)) :
    iprop(AtEnd m c ∗ SI s') ⊢ |={Set.univ}=> (iprop(⌜Final m c s'.mem⌝ ∗ SI s') : sProp 𝕄) := by
  unfold AtEnd
  iintro ⟨⟨⟨Hx, Hr, ⟨%f, %hf, Ho⟩⟩, Hu⟩, HSI⟩
  ihave H := (read_one _ _ s') $$ [Hx HSI]
  · isplitl [Hx] <;> iassumption
  icases H with ⟨%hx, HSI⟩
  ihave H := (read_one _ _ s') $$ [Hr HSI]
  · isplitl [Hr] <;> iassumption
  icases H with ⟨%hr, HSI⟩
  ihave H := (read_one _ _ s') $$ [Ho HSI]
  · isplitl [Ho] <;> iassumption
  icases H with ⟨%ho, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨⟨hx, hr, ho ▸ hf⟩, hs⟩
  iexact HSI

/-- From any memory with its counters at zero, on sixteen devices: every weakly fair execution ends, every device's
    arguments are unchanged, its result holds the computed chunks, and every counter is zero again. -/
theorem run_main : θ_run defs (onTc (τ := τ) (main (F := F))) ⟨m, fun _ => 0, ρ⟩ (fun r =>
    (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ Filled m c (r.2.mem ((c.tc : Thread nD τ).loc main_v1)))
    ∧ r.2.sem = fun _ => 0) :=
  Pipeline.θ_run_region_owing_glob_pf (fun p => (cfgs p).toPCfg) (fun p => (cfgs p).toPCfg_adm) (dats m) (0 : ℕ) cellOf_inj (0 : Fin 1)
    winFacts0.to₀ ownSemFacts (Pipeline.PreFacts.none _) EP defs₀ 𝒱₀ m ρ main
    (hmain := fun _ => rfl)
    (hbody := body_obligation m) (hne := fun w => by fin_cases w; exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_other) (hwaits := waits m)
    (G := G m) (G' := G' m) (u₀ := u₀)
    (hu₀ := by
      unfold u₀
      iintro Hu
      ihave H := (ownU_three _ _) $$ Hu
      icases H with ⟨HP, HX⟩
      imod (fund_ring m) $$ HX with HG
      imodintro
      isplitl [HP] <;> iassumption)
    (hglob := glob m)
    (hA := fun _ _ => rfl) (hpf := fun _ k => k.elim0)
    (X := fun c => iprop(Recs m ∗ Held m c)) (Y := AtEnd m) (Z := fun _ => iprop(emp))
    (hX := start_intro m ρ) (hin := phi0_intro m) (hout := phi1_exit m)
    (QY := Final m)
    (hY := fun c s' => by
      iintro ⟨Hu, -, HSI⟩
      iapply (final_read m c s')
      isplitl [Hu] <;> iassumption)
    (hQ := fun _ h hs => ⟨fun c => ⟨⟨(h c).2.2.1.1, (h c).2.2.1.2.1, ((h c).1 0).trans (((dats m 0 c).arrAt_in 0 rfl _).trans rfl)⟩, (h c).2.2.1.2.2⟩,
      sem_eq_zero hs fun c => (h c).2.2.2⟩)

end Cert.KernelIdeal.Tab

end
-- ==== Proof.KI.Value.lean ====
/- What the kernel computes, read on extended reals: each chunk of the result at an element, the partial sums
   that travel along a line of four devices, and the reference's term; the two agree at every element. -/
module

public import proofs.«01_k».proof.Proof.KI.Ends
public import proofs.«01_k».proof.Proof.Gen.ReferenceIdeal.Run
public import Idealize.ShloMosaic.Lib.Pointwise
public import Idealize.ShloMosaic.PureOps.Ideal.Laws

@[expose] public section

set_option maxRecDepth 20000

noncomputable section

namespace Cert.KernelIdeal.Tab

open Cert.KernelIdeal Cert.KernelIdeal.Gen Cert.Proof.Kit
open Idealize.ShloMosaic Idealize.ShloMosaic.TcCoe

/-! ## The operations at an element -/

/-- A slot's payload at an element. -/
theorem stepv_apply (b : BitVec 1) (x y : Vec Ideal S256x2048 .f32) (j : S256x2048.Idx) :
    stepv b x y j = x j + Scalar.select b (y j) (0 : EReal) := by
  unfold stepv k0_pay2
  pointwise

/-- The sum that a chunk of the result normalizes. -/
def sumv (b b' : BitVec 1) (x r y y' : Vec Ideal S256x2048 .f32) (j : S256x2048.Idx) : EReal :=
  x j + r j + Scalar.select b (y j) (0 : EReal) + Scalar.select b' (y' j) (0 : EReal)

theorem pay4_eq (b b' : BitVec 1) (x r y y' : Vec Ideal S256x2048 .f32) :
    k0_pay4 b b' (shapeCast S1x256x2048 x shapeCasts_S256x2048_S1x256x2048) (shapeCast S1x256x2048 r shapeCasts_S256x2048_S1x256x2048)
        (shapeCast S1x256x2048 y shapeCasts_S256x2048_S1x256x2048) (shapeCast S1x256x2048 y' shapeCasts_S256x2048_S1x256x2048) = sumv b b' x r y y' := by
  funext j
  unfold k0_pay4 sumv
  pointwise

/-- One element of a row `Y` over the root of the row's mean square (and a little), scaled by `g`. -/
def normed (Y : Fin 2048 → EReal) (g : EReal) (l : Fin 2048) : EReal :=
  Ideal.div (Y l) (Ideal.sqrt (Ideal.div (∑ x, Y x * Y x) (Ideal.ofBits FTy.f32 0x45000000#32) + Ideal.ofBits FTy.f32 0x358637BD#32)) * g

/-- A chunk of the result at an element. -/
theorem outv_apply (b b' : BitVec 1) (x r y y' : Vec Ideal S256x2048 .f32) (g : Vec Ideal S2048 .f32) (i : Fin 256) (l : Fin 2048) :
    outv b b' x r y y' g (ix2 i l) = normed (fun l => sumv b b' x r y y' (ix2 i l)) (g (ix1 l)) l := by
  unfold outv k0_pay1 k0_pay5
  rw [pay4_eq]
  unfold normed
  pointwise

/-! ## The reference at an element -/

section Reference

open Cert.ReferenceIdeal Cert.ReferenceIdeal.Gen

/-- The reference's sum over the four terms, and the residual. -/
theorem refsum_apply (X : FVec Ideal Cert.ReferenceIdeal.S4x8192x2048 .f32) (r : FVec Ideal Cert.ReferenceIdeal.S8192x2048 .f32)
    (i : Fin 8192) (l : Fin 2048) :
    addf (Host.reduceAdd X (constant S_ .f32 0x00000000#32) reducesTo_S4x8192x2048_S8192x2048_d0 h_S_) r (ix2 i l)
      = ∑ a, X (ix3 a i l) + r (ix2 i l) := by
  pointwise

/-- The reference's normalization, of any array. -/
abbrev refout (Y : FVec Ideal Cert.ReferenceIdeal.S8192x2048 .f32) (g : FVec Ideal Cert.ReferenceIdeal.S2048 .f32) :
    FVec Ideal Cert.ReferenceIdeal.S8192x2048 .f32 :=
  mulf (Host.divf Y (broadcastInDim Cert.ReferenceIdeal.S8192x2048 ![0, 1] bcast_S8192x1_S8192x2048_0_1
      (Host.sqrt (addf (Host.divf (broadcastInDim S8192x1 ![0] bcast_S8192_S8192x1_0
          (Host.reduceAdd (mulf Y Y) (constant S_ .f32 0x00000000#32) reducesTo_S8192x2048_S8192_d1 h_S_))
        (broadcastInDim S8192x1 ![] bcast_S_S8192x1 (constant S_ .f32 0x45000000#32)))
        (broadcastInDim S8192x1 ![] bcast_S_S8192x1 (constant S_ .f32 0x358637BD#32))))))
    (broadcastInDim Cert.ReferenceIdeal.S8192x2048 ![0, 1] bcast_S1x2048_S8192x2048_0_1
      (broadcastInDim Cert.ReferenceIdeal.S1x2048 ![1] bcast_S2048_S1x2048_1 g))

theorem refout_apply (Y : FVec Ideal Cert.ReferenceIdeal.S8192x2048 .f32) (g : FVec Ideal Cert.ReferenceIdeal.S2048 .f32)
    (i : Fin 8192) (l : Fin 2048) : refout Y g (ix2 i l) = normed (fun l => Y (ix2 i l)) (g (ix1 l)) l := by
  unfold normed
  pointwise

end Reference

/-! ## The arrays' chunks -/

variable (m : (ℓ : Loc nD τ sig) → Buf (Elt Ideal) ℓ)

/-- Row `i` of chunk `k`. -/
def row (k : ℕ) (i : Fin 256) : Fin 8192 := ⟨256 * (k % 32) + i.val, by have := i.isLt; have := Nat.mod_lt k (show 0 < 32 by decide); omega⟩

theorem emb_rows (k : ℕ) (i : Fin 256) (l : Fin 2048) :
    (Rect.unit (s := S8192x2048) ![256 * (k % 32), 0] S256x2048.size (inbR k)).emb (ix2 i l) = ix2 (row k i) l := by
  funext a
  apply Fin.ext
  fin_cases a
  · show 256 * (k % 32) + 1 * i.val = 256 * (k % 32) + i.val; omega
  · show 0 + 1 * l.val = l.val; omega

theorem emb_term (k : ℕ) (i : Fin 256) (l : Fin 2048) :
    (Rect.unit (s := S1x8192x2048) ![0, 256 * (k % 32), 0] S1x256x2048.size (inbX k)).emb (ix3 0 i l) = ix3 0 (row k i) l := by
  funext a
  apply Fin.ext
  fin_cases a
  · rfl
  · show 256 * (k % 32) + 1 * i.val = 256 * (k % 32) + i.val; omega
  · show 0 + 1 * l.val = l.val; omega

theorem rV_apply (c : Dev nD) (k : ℕ) (i : Fin 256) (l : Fin 2048) :
    rV m c k (ix2 i l) = m ((c : Thread nD τ).loc main_arg1) (ix2 (row k i) l) :=
  congrArg (m ((c : Thread nD τ).loc main_arg1)) (emb_rows k i l)

theorem xV_apply (c : Dev nD) (k : ℕ) (i : Fin 256) (l : Fin 2048) :
    xV m c k (ix2 i l) = m ((c : Thread nD τ).loc main_arg0) (ix3 0 (row k i) l) := by
  have h : ∀ w : S1x256x2048.Idx → EReal, shapeCast S256x2048 w shapeCasts_S1x256x2048_S256x2048 (ix2 i l) = w (ix3 0 i l) := by
    intro w; pointwise
  exact (h (fun y => m ((c : Thread nD τ).loc main_arg0) ((Rect.unit (s := S1x8192x2048) ![0, 256 * (k % 32), 0] S1x256x2048.size (inbX k)).emb y))).trans
    (congrArg (m ((c : Thread nD τ).loc main_arg0)) (emb_term k i l))

theorem gV_apply (c : Dev nD) (l : Fin 2048) : gV m c (ix1 l) = m ((c : Thread nD τ).loc main_arg2) (ix1 l) := by
  refine congrArg (m ((c : Thread nD τ).loc main_arg2)) (funext fun a => Fin.ext ?_)
  fin_cases a
  show 0 * 2048 + 1 * l.val = l.val
  omega

/-- The contents of a result are told by its chunks. -/
theorem filled_apply (c : Dev nD) (f : Buf (Elt Ideal) ((c : Thread nD τ).loc main_v1)) (hf : Filled m c f) (k : ℕ) (hk : k < 32) (i : Fin 256) (l : Fin 2048) :
    f (ix2 (row k i) l) = res m c k (ix2 i l) :=
  (congrArg f (emb_rows k i l)).symm.trans (congrFun (hf k hk) (ix2 i l))

/-! ## The sums along a line of four devices -/

/-- The sum that travels upwards, at position `z`, of `n + 1` terms. -/
def upS (t : ℕ → EReal) : ℕ → ℕ → EReal
  | 0, z => t z + 0
  | n + 1, z => t z + upS t n (z - 1)

/-- The sum that travels downwards, at position `z`, of `n + 1` terms. -/
def dnS (t : ℕ → EReal) : ℕ → ℕ → EReal
  | 0, z => t z + 0
  | n + 1, z => t z + dnS t n (z + 1)

theorem zz_up : ∀ c : Dev nD, 0 < zz c → zz (nb true c) = zz c - 1 := by decide +kernel
theorem zz_dn : ∀ c : Dev nD, zz c < 3 → zz (nb false c) = zz c + 1 := by decide +kernel

variable (X : FVec Ideal Cert.ReferenceIdeal.S4x8192x2048 .f32)

/-- Term `z` at a row and a column of the whole sum. -/
def term (i : Fin 8192) (l : Fin 2048) (z : ℕ) : EReal := X (ix3 ⟨z % 4, Nat.mod_lt _ (by decide)⟩ i l)

variable (hX : ∀ (c : Dev nD) (i : Fin 8192) (l : Fin 2048), m ((c : Thread nD τ).loc main_arg0) (ix3 0 i l) = term X i l (zz c))

include hX

theorem xV_term (c : Dev nD) (k : ℕ) (i : Fin 256) (l : Fin 2048) : xV m c k (ix2 i l) = term X (row k i) l (zz c) :=
  (xV_apply m c k i l).trans (hX c _ l)

theorem accN_up (k : ℕ) (i : Fin 256) (l : Fin 2048) : ∀ (n : ℕ) (c : Dev nD), n ≤ zz c →
    accN m false n c k (ix2 i l) = upS (term X (row k i) l) n (zz c)
  | 0, c, _ => by
    show stepv 0#1 (xV m c k) (xV m c k) (ix2 i l) = _
    rw [stepv_apply, xV_term m X hX]; rfl
  | n + 1, c, h => by
    show stepv 1#1 (xV m c k) (accN m false n (nb true c) k) (ix2 i l) = _
    have hz := zz_up c (by omega)
    rw [stepv_apply, xV_term m X hX, accN_up k i l n (nb true c) (by omega), hz]; rfl

theorem accN_dn (k : ℕ) (i : Fin 256) (l : Fin 2048) : ∀ (n : ℕ) (c : Dev nD), n + zz c ≤ 3 →
    accN m true n c k (ix2 i l) = dnS (term X (row k i) l) n (zz c)
  | 0, c, _ => by
    show stepv 0#1 (xV m c k) (xV m c k) (ix2 i l) = _
    rw [stepv_apply, xV_term m X hX]; rfl
  | n + 1, c, h => by
    show stepv 1#1 (xV m c k) (accN m true n (nb false c) k) (ix2 i l) = _
    have hz := zz_dn c (by omega)
    rw [stepv_apply, xV_term m X hX, accN_dn k i l n (nb false c) (by omega), hz]; rfl

/-- What comes from below, or zero on the first device of a line. -/
theorem from_below (c : Dev nD) (k : ℕ) (i : Fin 256) (l : Fin 2048) :
    Scalar.select (bit false c) (arr m false c k (ix2 i l)) (0 : EReal)
      = if 0 < zz c then upS (term X (row k i) l) (zz c - 1) (zz c - 1) else 0 := by
  by_cases h : 0 < zz c
  · have hb : bit false c = 1#1 := if_pos h
    have hz := zz_up c h
    have hr : rk false (nb true c) = zz c - 1 := hz
    rw [if_pos h, hb]
    show accN m false (rk false (nb true c)) (nb true c) k (ix2 i l) = _
    rw [hr, accN_up m X hX k i l _ (nb true c) (by omega), hz]
  · have hb : bit false c = 0#1 := if_neg h
    rw [if_neg h, hb]; rfl

/-- What comes from above, or zero on the last device of a line. -/
theorem from_above (c : Dev nD) (k : ℕ) (i : Fin 256) (l : Fin 2048) :
    Scalar.select (bit true c) (arr m true c k (ix2 i l)) (0 : EReal)
      = if zz c < 3 then dnS (term X (row k i) l) (2 - zz c) (zz c + 1) else 0 := by
  by_cases h : zz c < 3
  · have hb : bit true c = 1#1 := if_pos (show 0 < 3 - zz c by omega)
    have hz := zz_dn c h
    have hr : rk true (nb false c) = 2 - zz c := by show 3 - zz (nb false c) = _; omega
    rw [if_pos h, hb]
    show accN m true (rk true (nb false c)) (nb false c) k (ix2 i l) = _
    rw [hr, accN_dn m X hX k i l _ (nb false c) (by omega), hz]
  · have hb : bit true c = 0#1 := if_neg (show ¬ 0 < 3 - zz c by omega)
    rw [if_neg h, hb]; rfl

omit hX in
/-- Own term, residual, the terms below and the terms above: the four terms and the residual. -/
theorem line_sum (t : ℕ → EReal) (r : EReal) (z : ℕ) (hz : z < 4) :
    t z + r + (if 0 < z then upS t (z - 1) (z - 1) else 0) + (if z < 3 then dnS t (2 - z) (z + 1) else 0)
      = t 0 + t 1 + t 2 + t 3 + r := by
  obtain rfl | rfl | rfl | rfl : z = 0 ∨ z = 1 ∨ z = 2 ∨ z = 3 := by omega
  all_goals simp only [upS, dnS, Nat.lt_irrefl, if_true, if_false, add_zero, Nat.reduceSub, Nat.reduceAdd, Nat.reduceLT, zero_add]
  all_goals ac_rfl

variable (R : FVec Ideal Cert.ReferenceIdeal.S8192x2048 .f32)
  (hR : ∀ c : Dev nD, m ((c : Thread nD τ).loc main_arg1) = R)

/-- The reference's sum of the four terms and the residual. -/
abbrev refsum : FVec Ideal Cert.ReferenceIdeal.S8192x2048 .f32 :=
  addf (Host.reduceAdd X (constant Cert.ReferenceIdeal.S_ .f32 0x00000000#32)
    Cert.ReferenceIdeal.Gen.reducesTo_S4x8192x2048_S8192x2048_d0 Cert.ReferenceIdeal.Gen.h_S_) R

include hR in
theorem sum_eq (c : Dev nD) (k : ℕ) (i : Fin 256) (l : Fin 2048) :
    sumv (bit false c) (bit true c) (xV m c k) (rV m c k) (arr m false c k) (arr m true c k) (ix2 i l)
      = refsum X R (ix2 (row k i) l) := by
  unfold sumv
  rw [from_below m X hX, from_above m X hX, xV_term m X hX, rV_apply, hR c]
  refine Eq.trans ?_ (refsum_apply X R (row k i) l).symm
  rw [Fin.sum_univ_four]
  exact line_sum (term X (row k i) l) _ (zz c) (Nat.mod_lt _ (by decide))

variable (G : FVec Ideal Cert.ReferenceIdeal.S2048 .f32)
  (hG : ∀ c : Dev nD, m ((c : Thread nD τ).loc main_arg2) = G)

include hR hG in
/-- Every chunk of the result is the reference's rows. -/
theorem res_apply (c : Dev nD) (k : ℕ) (i : Fin 256) (l : Fin 2048) :
    res m c k (ix2 i l) = refout (refsum X R) G (ix2 (row k i) l) := by
  rw [refout_apply]
  unfold res
  rw [outv_apply, gV_apply, hG c]
  congr 1
  funext l'
  exact sum_eq m X hX R hR c k i l'

include hR hG in
/-- A result whose chunks are all there is the reference's array. -/
theorem result_eq (c : Dev nD) (f : Buf (Elt Ideal) ((c : Thread nD τ).loc main_v1)) (hf : Filled m c f) :
    f = refout (refsum X R) G := by
  have key : ∀ (i : Fin 8192) (l : Fin 2048), f (ix2 i l) = refout (refsum X R) G (ix2 i l) := by
    intro i l
    have h := i.isLt
    have hi : i = row (i.val / 256) ⟨i.val % 256, Nat.mod_lt _ (by decide)⟩ :=
      Fin.ext (show i.val = 256 * (i.val / 256 % 32) + i.val % 256 by omega)
    have e := (filled_apply m c f hf (i.val / 256) (by omega) ⟨i.val % 256, Nat.mod_lt _ (by decide)⟩ l).trans
      (res_apply m X hX R hR G hG c _ _ l)
    rw [← hi] at e
    exact e
  funext j
  have hj : j = (ix2 (j 0) (j 1) : S8192x2048.Idx) := by
    funext a
    fin_cases a <;> rfl
  exact (congrArg f hj).trans ((key (j 0) (j 1)).trans (congrArg (refout (refsum X R) G) hj).symm)

end Cert.KernelIdeal.Tab

end
-- ==== Proof.lean ====
/- The claim: each program's frame, the idealization, and the value of the kernel against the reference. -/
module

public import proofs.«01_k».proof.Defs
public import proofs.«01_k».proof.Proof.Gen.ReferenceIdeal.Run
public import proofs.«01_k».proof.Proof.K.Launch
public import proofs.«01_k».proof.Proof.KI.Launch
public import proofs.«01_k».proof.Proof.KI.Value
public import Idealize.ShloMosaic.Lib.Layout
public import Idealize.ShloMosaic.Lib.Quiescent

@[expose] public section

set_option maxRecDepth 20000

noncomputable section

namespace Cert.Proof

open Idealize.ShloMosaic Idealize.SL.Sem

/-- The kernel runs to its end, leaves its arguments, and leaves every counter at zero. -/
theorem frame_kernel : Cert.quiescent_Kernel (hKernel := Cert.Kernel.Gen.facts) := fun m g _ =>
  (θ_run _ _ _).mono (fun _ h => ⟨fun c => (h.1 c).1, h.2⟩) (Cert.Kernel.Tab.run_main m g)

/-- So does its idealization. -/
theorem frame_kernelIdeal : Cert.quiescent_KernelIdeal (hKernelIdeal := Cert.KernelIdeal.Gen.facts) := fun m g _ =>
  (θ_run _ _ _).mono (fun _ h => ⟨fun c => (h.1 c).1, h.2⟩) (Cert.KernelIdeal.Tab.run_main m g)

/-- So does the reference, which names no semaphore. -/
theorem frame_referenceIdeal : Cert.quiescent_ReferenceIdeal (hReferenceIdeal := Cert.ReferenceIdeal.Gen.facts) := fun m g _ =>
  (θ_run _ _ _).mono (fun _ h => ⟨fun c => (h c).2, sem_eq_zero_of_no_sems rfl _⟩) (Cert.ReferenceIdeal.Value.run m g)

/-- A device's term of the sum is the block that its place on the line names. -/
theorem term_eq (c : Dev Cert.KernelIdeal.nD) (X : (⟨3, ![4, 8192, 2048]⟩ : Shape).Idx → EReal) (i : Fin 8192) (l : Fin 2048) :
    (Layout.blockN ⟨3, ![1, 8192, 2048]⟩ ⟨3, ![4, 8192, 2048]⟩ (Layout.meshBlock [2, 2, 4] ![[2], [], []] c) X) (ix3 0 i l)
      = Cert.KernelIdeal.Tab.term X i l (Cert.KernelIdeal.Tab.zz c) := by
  have hz : ∀ c : Dev Cert.KernelIdeal.nD, Layout.meshLin [2, 2, 4] c.val [2] = c.val % 4 % 4 := by decide +kernel
  refine congrArg X (funext fun a => Fin.ext ?_)
  fin_cases a
  · show Layout.meshLin [2, 2, 4] c.val [2] * 1 + 0 = c.val % 4 % 4
    rw [hz c]; omega
  · show 0 * 8192 + i.val = i.val; omega
  · show 0 * 2048 + l.val = l.val; omega

/-- On extended reals, every device's result is the reference's. -/
theorem value : Cert.algebraic_KernelIdeal_ReferenceIdeal (hKernelIdeal := Cert.KernelIdeal.Gen.facts)
    (hReferenceIdeal := Cert.ReferenceIdeal.Gen.facts) := by
  intro m g m' g' _ hm
  refine ⟨_, (θ_run _ _ _).mono (fun r h c => ⟨?_, (h.1 c).1⟩) (Cert.KernelIdeal.Tab.run_main m g),
    (θ_run _ _ _).mono (fun r h => h 0) (Cert.ReferenceIdeal.Value.run m' g')⟩
  exact Cert.KernelIdeal.Tab.result_eq m _ (fun c i l => (congrFun (hm c).1 (ix3 0 i l)).trans (term_eq c _ i l))
    _ (fun c => (hm c).2.1) _ (fun c => (hm c).2.2) c _ (h.1 c).2

theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
